-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_MIn (m : (ℓ : Loc Cert.MIn.nD Cert.MIn.τ Cert.MIn.sig) → Buf (Elt Bits) ℓ) : Prop :=
  True

def Pre_MInIdeal (m : (ℓ : Loc Cert.MInIdeal.nD Cert.MInIdeal.τ Cert.MInIdeal.sig) → Buf (Elt Ideal) ℓ) : Prop :=
  True

def Pre_ReferenceMInIdeal (m : (ℓ : Loc Cert.ReferenceMInIdeal.nD Cert.ReferenceMInIdeal.τ Cert.ReferenceMInIdeal.sig) → Buf (Elt Ideal) ℓ) : Prop :=
  True

def Pre_HIn (m : (ℓ : Loc Cert.HIn.nD Cert.HIn.τ Cert.HIn.sig) → Buf (Elt Bits) ℓ) : Prop :=
  True

def Pre_HInIdeal (m : (ℓ : Loc Cert.HInIdeal.nD Cert.HInIdeal.τ Cert.HInIdeal.sig) → Buf (Elt Ideal) ℓ) : Prop :=
  True

def Pre_ReferenceHInIdeal (m : (ℓ : Loc Cert.ReferenceHInIdeal.nD Cert.ReferenceHInIdeal.τ Cert.ReferenceHInIdeal.sig) → Buf (Elt Ideal) ℓ) : Prop :=
  True

def Pre_MOut (m : (ℓ : Loc Cert.MOut.nD Cert.MOut.τ Cert.MOut.sig) → Buf (Elt Bits) ℓ) : Prop :=
  True

def Pre_MOutIdeal (m : (ℓ : Loc Cert.MOutIdeal.nD Cert.MOutIdeal.τ Cert.MOutIdeal.sig) → Buf (Elt Ideal) ℓ) : Prop :=
  True

def Pre_ReferenceMOutIdeal (m : (ℓ : Loc Cert.ReferenceMOutIdeal.nD Cert.ReferenceMOutIdeal.τ Cert.ReferenceMOutIdeal.sig) → Buf (Elt Ideal) ℓ) : Prop :=
  True

def Pre_HOut (m : (ℓ : Loc Cert.HOut.nD Cert.HOut.τ Cert.HOut.sig) → Buf (Elt Bits) ℓ) : Prop :=
  True

def Pre_HOutIdeal (m : (ℓ : Loc Cert.HOutIdeal.nD Cert.HOutIdeal.τ Cert.HOutIdeal.sig) → Buf (Elt Ideal) ℓ) : Prop :=
  True

def Pre_ReferenceHOutIdeal (m : (ℓ : Loc Cert.ReferenceHOutIdeal.nD Cert.ReferenceHOutIdeal.τ Cert.ReferenceHOutIdeal.sig) → Buf (Elt Ideal) ℓ) : Prop :=
  True

def Pre_MInCol (m : (ℓ : Loc Cert.MInCol.nD Cert.MInCol.τ Cert.MInCol.sig) → Buf (Elt Bits) ℓ) : Prop :=
  True

def Pre_MInColIdeal (m : (ℓ : Loc Cert.MInColIdeal.nD Cert.MInColIdeal.τ Cert.MInColIdeal.sig) → Buf (Elt Ideal) ℓ) : Prop :=
  True

def Pre_ReferenceMInColIdeal (m : (ℓ : Loc Cert.ReferenceMInColIdeal.nD Cert.ReferenceMInColIdeal.τ Cert.ReferenceMInColIdeal.sig) → Buf (Elt Ideal) ℓ) : Prop :=
  True

def Pre_HInCol (m : (ℓ : Loc Cert.HInCol.nD Cert.HInCol.τ Cert.HInCol.sig) → Buf (Elt Bits) ℓ) : Prop :=
  True

def Pre_HInColIdeal (m : (ℓ : Loc Cert.HInColIdeal.nD Cert.HInColIdeal.τ Cert.HInColIdeal.sig) → Buf (Elt Ideal) ℓ) : Prop :=
  True

def Pre_ReferenceHInColIdeal (m : (ℓ : Loc Cert.ReferenceHInColIdeal.nD Cert.ReferenceHInColIdeal.τ Cert.ReferenceHInColIdeal.sig) → Buf (Elt Ideal) ℓ) : Prop :=
  True

def Pre_MOutCol (m : (ℓ : Loc Cert.MOutCol.nD Cert.MOutCol.τ Cert.MOutCol.sig) → Buf (Elt Bits) ℓ) : Prop :=
  True

def Pre_MOutColIdeal (m : (ℓ : Loc Cert.MOutColIdeal.nD Cert.MOutColIdeal.τ Cert.MOutColIdeal.sig) → Buf (Elt Ideal) ℓ) : Prop :=
  True

def Pre_ReferenceMOutColIdeal (m : (ℓ : Loc Cert.ReferenceMOutColIdeal.nD Cert.ReferenceMOutColIdeal.τ Cert.ReferenceMOutColIdeal.sig) → Buf (Elt Ideal) ℓ) : Prop :=
  True

def Pre_HOutCol (m : (ℓ : Loc Cert.HOutCol.nD Cert.HOutCol.τ Cert.HOutCol.sig) → Buf (Elt Bits) ℓ) : Prop :=
  True

def Pre_HOutColIdeal (m : (ℓ : Loc Cert.HOutColIdeal.nD Cert.HOutColIdeal.τ Cert.HOutColIdeal.sig) → Buf (Elt Ideal) ℓ) : Prop :=
  True

def Pre_ReferenceHOutColIdeal (m : (ℓ : Loc Cert.ReferenceHOutColIdeal.nD Cert.ReferenceHOutColIdeal.τ Cert.ReferenceHOutColIdeal.sig) → Buf (Elt Ideal) ℓ) : Prop :=
  True

def Pre_MPre (m : (ℓ : Loc Cert.MPre.nD Cert.MPre.τ Cert.MPre.sig) → Buf (Elt Bits) ℓ) : Prop :=
  True

def Pre_MPreIdeal (m : (ℓ : Loc Cert.MPreIdeal.nD Cert.MPreIdeal.τ Cert.MPreIdeal.sig) → Buf (Elt Ideal) ℓ) : Prop :=
  True

def Pre_ReferenceMPreIdeal (m : (ℓ : Loc Cert.ReferenceMPreIdeal.nD Cert.ReferenceMPreIdeal.τ Cert.ReferenceMPreIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_MIn [hMIn : Cert.MIn.Facts] : Prop :=
  ∀ (m : (ℓ : Loc Cert.MIn.nD Cert.MIn.τ Cert.MIn.sig) → Buf (Elt Bits) ℓ) (g : Dev Cert.MIn.nD → PrngReg), Pre_MIn m →
    θ_run (Cert.MIn.defs (F := Bits)) (onTc (τ := Cert.MIn.τ) (Cert.MIn.main (F := Bits))) ⟨m, fun _ => 0, g⟩ (fun r => (∀ c : Dev Cert.MIn.nD,
      r.2.mem ((c.tc : Thread Cert.MIn.nD Cert.MIn.τ).loc Cert.MIn.main_arg0) = m ((c.tc : Thread Cert.MIn.nD Cert.MIn.τ).loc Cert.MIn.main_arg0)
      ∧ r.2.mem ((c.tc : Thread Cert.MIn.nD Cert.MIn.τ).loc Cert.MIn.main_arg1) = m ((c.tc : Thread Cert.MIn.nD Cert.MIn.τ).loc Cert.MIn.main_arg1)
      ∧ r.2.mem ((c.tc : Thread Cert.MIn.nD Cert.MIn.τ).loc Cert.MIn.main_arg2) = m ((c.tc : Thread Cert.MIn.nD Cert.MIn.τ).loc Cert.MIn.main_arg2)
      ∧ r.2.mem ((c.tc : Thread Cert.MIn.nD Cert.MIn.τ).loc Cert.MIn.main_arg3) = m ((c.tc : Thread Cert.MIn.nD Cert.MIn.τ).loc Cert.MIn.main_arg3))
      ∧ r.2.sem = fun _ => 0)

def quiescent_MInIdeal [hMInIdeal : Cert.MInIdeal.Facts] : Prop :=
  ∀ (m : (ℓ : Loc Cert.MInIdeal.nD Cert.MInIdeal.τ Cert.MInIdeal.sig) → Buf (Elt Ideal) ℓ) (g : Dev Cert.MInIdeal.nD → PrngReg), Pre_MInIdeal m →
    θ_run (Cert.MInIdeal.defs (F := Ideal)) (onTc (τ := Cert.MInIdeal.τ) (Cert.MInIdeal.main (F := Ideal))) ⟨m, fun _ => 0, g⟩ (fun r => (∀ c : Dev Cert.MInIdeal.nD,
      r.2.mem ((c.tc : Thread Cert.MInIdeal.nD Cert.MInIdeal.τ).loc Cert.MInIdeal.main_arg0) = m ((c.tc : Thread Cert.MInIdeal.nD Cert.MInIdeal.τ).loc Cert.MInIdeal.main_arg0)
      ∧ r.2.mem ((c.tc : Thread Cert.MInIdeal.nD Cert.MInIdeal.τ).loc Cert.MInIdeal.main_arg1) = m ((c.tc : Thread Cert.MInIdeal.nD Cert.MInIdeal.τ).loc Cert.MInIdeal.main_arg1)
      ∧ r.2.mem ((c.tc : Thread Cert.MInIdeal.nD Cert.MInIdeal.τ).loc Cert.MInIdeal.main_arg2) = m ((c.tc : Thread Cert.MInIdeal.nD Cert.MInIdeal.τ).loc Cert.MInIdeal.main_arg2)
      ∧ r.2.mem ((c.tc : Thread Cert.MInIdeal.nD Cert.MInIdeal.τ).loc Cert.MInIdeal.main_arg3) = m ((c.tc : Thread Cert.MInIdeal.nD Cert.MInIdeal.τ).loc Cert.MInIdeal.main_arg3))
      ∧ r.2.sem = fun _ => 0)

def quiescent_ReferenceMInIdeal [hReferenceMInIdeal : Cert.ReferenceMInIdeal.Facts] : Prop :=
  ∀ (m : (ℓ : Loc Cert.ReferenceMInIdeal.nD Cert.ReferenceMInIdeal.τ Cert.ReferenceMInIdeal.sig) → Buf (Elt Ideal) ℓ) (g : Dev Cert.ReferenceMInIdeal.nD → PrngReg), Pre_ReferenceMInIdeal m →
    θ_run (Cert.ReferenceMInIdeal.defs (F := Ideal)) (onTc (τ := Cert.ReferenceMInIdeal.τ) (Cert.ReferenceMInIdeal.main (F := Ideal))) ⟨m, fun _ => 0, g⟩ (fun r => (∀ c : Dev Cert.ReferenceMInIdeal.nD,
      r.2.mem ((c.tc : Thread Cert.ReferenceMInIdeal.nD Cert.ReferenceMInIdeal.τ).loc Cert.ReferenceMInIdeal.main_arg0) = m ((c.tc : Thread Cert.ReferenceMInIdeal.nD Cert.ReferenceMInIdeal.τ).loc Cert.ReferenceMInIdeal.main_arg0)
      ∧ r.2.mem ((c.tc : Thread Cert.ReferenceMInIdeal.nD Cert.ReferenceMInIdeal.τ).loc Cert.ReferenceMInIdeal.main_arg1) = m ((c.tc : Thread Cert.ReferenceMInIdeal.nD Cert.ReferenceMInIdeal.τ).loc Cert.ReferenceMInIdeal.main_arg1)
      ∧ r.2.mem ((c.tc : Thread Cert.ReferenceMInIdeal.nD Cert.ReferenceMInIdeal.τ).loc Cert.ReferenceMInIdeal.main_arg2) = m ((c.tc : Thread Cert.ReferenceMInIdeal.nD Cert.ReferenceMInIdeal.τ).loc Cert.ReferenceMInIdeal.main_arg2)
      ∧ r.2.mem ((c.tc : Thread Cert.ReferenceMInIdeal.nD Cert.ReferenceMInIdeal.τ).loc Cert.ReferenceMInIdeal.main_arg3) = m ((c.tc : Thread Cert.ReferenceMInIdeal.nD Cert.ReferenceMInIdeal.τ).loc Cert.ReferenceMInIdeal.main_arg3))
      ∧ r.2.sem = fun _ => 0)

def quiescent_HIn [hHIn : Cert.HIn.Facts] : Prop :=
  ∀ (m : (ℓ : Loc Cert.HIn.nD Cert.HIn.τ Cert.HIn.sig) → Buf (Elt Bits) ℓ) (g : Dev Cert.HIn.nD → PrngReg), Pre_HIn m →
    θ_run (Cert.HIn.defs (F := Bits)) (onTc (τ := Cert.HIn.τ) (Cert.HIn.main (F := Bits))) ⟨m, fun _ => 0, g⟩ (fun r => (∀ c : Dev Cert.HIn.nD,
      r.2.mem ((c.tc : Thread Cert.HIn.nD Cert.HIn.τ).loc Cert.HIn.main_arg0) = m ((c.tc : Thread Cert.HIn.nD Cert.HIn.τ).loc Cert.HIn.main_arg0)
      ∧ r.2.mem ((c.tc : Thread Cert.HIn.nD Cert.HIn.τ).loc Cert.HIn.main_arg1) = m ((c.tc : Thread Cert.HIn.nD Cert.HIn.τ).loc Cert.HIn.main_arg1)
      ∧ r.2.mem ((c.tc : Thread Cert.HIn.nD Cert.HIn.τ).loc Cert.HIn.main_arg2) = m ((c.tc : Thread Cert.HIn.nD Cert.HIn.τ).loc Cert.HIn.main_arg2)
      ∧ r.2.mem ((c.tc : Thread Cert.HIn.nD Cert.HIn.τ).loc Cert.HIn.main_arg3) = m ((c.tc : Thread Cert.HIn.nD Cert.HIn.τ).loc Cert.HIn.main_arg3)
      ∧ r.2.mem ((c.tc : Thread Cert.HIn.nD Cert.HIn.τ).loc Cert.HIn.main_arg4) = m ((c.tc : Thread Cert.HIn.nD Cert.HIn.τ).loc Cert.HIn.main_arg4))
      ∧ r.2.sem = fun _ => 0)

def quiescent_HInIdeal [hHInIdeal : Cert.HInIdeal.Facts] : Prop :=
  ∀ (m : (ℓ : Loc Cert.HInIdeal.nD Cert.HInIdeal.τ Cert.HInIdeal.sig) → Buf (Elt Ideal) ℓ) (g : Dev Cert.HInIdeal.nD → PrngReg), Pre_HInIdeal m →
    θ_run (Cert.HInIdeal.defs (F := Ideal)) (onTc (τ := Cert.HInIdeal.τ) (Cert.HInIdeal.main (F := Ideal))) ⟨m, fun _ => 0, g⟩ (fun r => (∀ c : Dev Cert.HInIdeal.nD,
      r.2.mem ((c.tc : Thread Cert.HInIdeal.nD Cert.HInIdeal.τ).loc Cert.HInIdeal.main_arg0) = m ((c.tc : Thread Cert.HInIdeal.nD Cert.HInIdeal.τ).loc Cert.HInIdeal.main_arg0)
      ∧ r.2.mem ((c.tc : Thread Cert.HInIdeal.nD Cert.HInIdeal.τ).loc Cert.HInIdeal.main_arg1) = m ((c.tc : Thread Cert.HInIdeal.nD Cert.HInIdeal.τ).loc Cert.HInIdeal.main_arg1)
      ∧ r.2.mem ((c.tc : Thread Cert.HInIdeal.nD Cert.HInIdeal.τ).loc Cert.HInIdeal.main_arg2) = m ((c.tc : Thread Cert.HInIdeal.nD Cert.HInIdeal.τ).loc Cert.HInIdeal.main_arg2)
      ∧ r.2.mem ((c.tc : Thread Cert.HInIdeal.nD Cert.HInIdeal.τ).loc Cert.HInIdeal.main_arg3) = m ((c.tc : Thread Cert.HInIdeal.nD Cert.HInIdeal.τ).loc Cert.HInIdeal.main_arg3)
      ∧ r.2.mem ((c.tc : Thread Cert.HInIdeal.nD Cert.HInIdeal.τ).loc Cert.HInIdeal.main_arg4) = m ((c.tc : Thread Cert.HInIdeal.nD Cert.HInIdeal.τ).loc Cert.HInIdeal.main_arg4))
      ∧ r.2.sem = fun _ => 0)

def quiescent_ReferenceHInIdeal [hReferenceHInIdeal : Cert.ReferenceHInIdeal.Facts] : Prop :=
  ∀ (m : (ℓ : Loc Cert.ReferenceHInIdeal.nD Cert.ReferenceHInIdeal.τ Cert.ReferenceHInIdeal.sig) → Buf (Elt Ideal) ℓ) (g : Dev Cert.ReferenceHInIdeal.nD → PrngReg), Pre_ReferenceHInIdeal m →
    θ_run (Cert.ReferenceHInIdeal.defs (F := Ideal)) (onTc (τ := Cert.ReferenceHInIdeal.τ) (Cert.ReferenceHInIdeal.main (F := Ideal))) ⟨m, fun _ => 0, g⟩ (fun r => (∀ c : Dev Cert.ReferenceHInIdeal.nD,
      r.2.mem ((c.tc : Thread Cert.ReferenceHInIdeal.nD Cert.ReferenceHInIdeal.τ).loc Cert.ReferenceHInIdeal.main_arg0) = m ((c.tc : Thread Cert.ReferenceHInIdeal.nD Cert.ReferenceHInIdeal.τ).loc Cert.ReferenceHInIdeal.main_arg0)
      ∧ r.2.mem ((c.tc : Thread Cert.ReferenceHInIdeal.nD Cert.ReferenceHInIdeal.τ).loc Cert.ReferenceHInIdeal.main_arg1) = m ((c.tc : Thread Cert.ReferenceHInIdeal.nD Cert.ReferenceHInIdeal.τ).loc Cert.ReferenceHInIdeal.main_arg1)
      ∧ r.2.mem ((c.tc : Thread Cert.ReferenceHInIdeal.nD Cert.ReferenceHInIdeal.τ).loc Cert.ReferenceHInIdeal.main_arg2) = m ((c.tc : Thread Cert.ReferenceHInIdeal.nD Cert.ReferenceHInIdeal.τ).loc Cert.ReferenceHInIdeal.main_arg2)
      ∧ r.2.mem ((c.tc : Thread Cert.ReferenceHInIdeal.nD Cert.ReferenceHInIdeal.τ).loc Cert.ReferenceHInIdeal.main_arg3) = m ((c.tc : Thread Cert.ReferenceHInIdeal.nD Cert.ReferenceHInIdeal.τ).loc Cert.ReferenceHInIdeal.main_arg3)
      ∧ r.2.mem ((c.tc : Thread Cert.ReferenceHInIdeal.nD Cert.ReferenceHInIdeal.τ).loc Cert.ReferenceHInIdeal.main_arg4) = m ((c.tc : Thread Cert.ReferenceHInIdeal.nD Cert.ReferenceHInIdeal.τ).loc Cert.ReferenceHInIdeal.main_arg4))
      ∧ r.2.sem = fun _ => 0)

def quiescent_MOut [hMOut : Cert.MOut.Facts] : Prop :=
  ∀ (m : (ℓ : Loc Cert.MOut.nD Cert.MOut.τ Cert.MOut.sig) → Buf (Elt Bits) ℓ) (g : Dev Cert.MOut.nD → PrngReg), Pre_MOut m →
    θ_run (Cert.MOut.defs (F := Bits)) (onTc (τ := Cert.MOut.τ) (Cert.MOut.main (F := Bits))) ⟨m, fun _ => 0, g⟩ (fun r => (∀ c : Dev Cert.MOut.nD,
      r.2.mem ((c.tc : Thread Cert.MOut.nD Cert.MOut.τ).loc Cert.MOut.main_arg0) = m ((c.tc : Thread Cert.MOut.nD Cert.MOut.τ).loc Cert.MOut.main_arg0)
      ∧ r.2.mem ((c.tc : Thread Cert.MOut.nD Cert.MOut.τ).loc Cert.MOut.main_arg1) = m ((c.tc : Thread Cert.MOut.nD Cert.MOut.τ).loc Cert.MOut.main_arg1)
      ∧ r.2.mem ((c.tc : Thread Cert.MOut.nD Cert.MOut.τ).loc Cert.MOut.main_arg2) = m ((c.tc : Thread Cert.MOut.nD Cert.MOut.τ).loc Cert.MOut.main_arg2)
      ∧ r.2.mem ((c.tc : Thread Cert.MOut.nD Cert.MOut.τ).loc Cert.MOut.main_arg3) = m ((c.tc : Thread Cert.MOut.nD Cert.MOut.τ).loc Cert.MOut.main_arg3))
      ∧ r.2.sem = fun _ => 0)

def quiescent_MOutIdeal [hMOutIdeal : Cert.MOutIdeal.Facts] : Prop :=
  ∀ (m : (ℓ : Loc Cert.MOutIdeal.nD Cert.MOutIdeal.τ Cert.MOutIdeal.sig) → Buf (Elt Ideal) ℓ) (g : Dev Cert.MOutIdeal.nD → PrngReg), Pre_MOutIdeal m →
    θ_run (Cert.MOutIdeal.defs (F := Ideal)) (onTc (τ := Cert.MOutIdeal.τ) (Cert.MOutIdeal.main (F := Ideal))) ⟨m, fun _ => 0, g⟩ (fun r => (∀ c : Dev Cert.MOutIdeal.nD,
      r.2.mem ((c.tc : Thread Cert.MOutIdeal.nD Cert.MOutIdeal.τ).loc Cert.MOutIdeal.main_arg0) = m ((c.tc : Thread Cert.MOutIdeal.nD Cert.MOutIdeal.τ).loc Cert.MOutIdeal.main_arg0)
      ∧ r.2.mem ((c.tc : Thread Cert.MOutIdeal.nD Cert.MOutIdeal.τ).loc Cert.MOutIdeal.main_arg1) = m ((c.tc : Thread Cert.MOutIdeal.nD Cert.MOutIdeal.τ).loc Cert.MOutIdeal.main_arg1)
      ∧ r.2.mem ((c.tc : Thread Cert.MOutIdeal.nD Cert.MOutIdeal.τ).loc Cert.MOutIdeal.main_arg2) = m ((c.tc : Thread Cert.MOutIdeal.nD Cert.MOutIdeal.τ).loc Cert.MOutIdeal.main_arg2)
      ∧ r.2.mem ((c.tc : Thread Cert.MOutIdeal.nD Cert.MOutIdeal.τ).loc Cert.MOutIdeal.main_arg3) = m ((c.tc : Thread Cert.MOutIdeal.nD Cert.MOutIdeal.τ).loc Cert.MOutIdeal.main_arg3))
      ∧ r.2.sem = fun _ => 0)

def quiescent_ReferenceMOutIdeal [hReferenceMOutIdeal : Cert.ReferenceMOutIdeal.Facts] : Prop :=
  ∀ (m : (ℓ : Loc Cert.ReferenceMOutIdeal.nD Cert.ReferenceMOutIdeal.τ Cert.ReferenceMOutIdeal.sig) → Buf (Elt Ideal) ℓ) (g : Dev Cert.ReferenceMOutIdeal.nD → PrngReg), Pre_ReferenceMOutIdeal m →
    θ_run (Cert.ReferenceMOutIdeal.defs (F := Ideal)) (onTc (τ := Cert.ReferenceMOutIdeal.τ) (Cert.ReferenceMOutIdeal.main (F := Ideal))) ⟨m, fun _ => 0, g⟩ (fun r => (∀ c : Dev Cert.ReferenceMOutIdeal.nD,
      r.2.mem ((c.tc : Thread Cert.ReferenceMOutIdeal.nD Cert.ReferenceMOutIdeal.τ).loc Cert.ReferenceMOutIdeal.main_arg0) = m ((c.tc : Thread Cert.ReferenceMOutIdeal.nD Cert.ReferenceMOutIdeal.τ).loc Cert.ReferenceMOutIdeal.main_arg0)
      ∧ r.2.mem ((c.tc : Thread Cert.ReferenceMOutIdeal.nD Cert.ReferenceMOutIdeal.τ).loc Cert.ReferenceMOutIdeal.main_arg1) = m ((c.tc : Thread Cert.ReferenceMOutIdeal.nD Cert.ReferenceMOutIdeal.τ).loc Cert.ReferenceMOutIdeal.main_arg1)
      ∧ r.2.mem ((c.tc : Thread Cert.ReferenceMOutIdeal.nD Cert.ReferenceMOutIdeal.τ).loc Cert.ReferenceMOutIdeal.main_arg2) = m ((c.tc : Thread Cert.ReferenceMOutIdeal.nD Cert.ReferenceMOutIdeal.τ).loc Cert.ReferenceMOutIdeal.main_arg2)
      ∧ r.2.mem ((c.tc : Thread Cert.ReferenceMOutIdeal.nD Cert.ReferenceMOutIdeal.τ).loc Cert.ReferenceMOutIdeal.main_arg3) = m ((c.tc : Thread Cert.ReferenceMOutIdeal.nD Cert.ReferenceMOutIdeal.τ).loc Cert.ReferenceMOutIdeal.main_arg3))
      ∧ r.2.sem = fun _ => 0)

def quiescent_HOut [hHOut : Cert.HOut.Facts] : Prop :=
  ∀ (m : (ℓ : Loc Cert.HOut.nD Cert.HOut.τ Cert.HOut.sig) → Buf (Elt Bits) ℓ) (g : Dev Cert.HOut.nD → PrngReg), Pre_HOut m →
    θ_run (Cert.HOut.defs (F := Bits)) (onTc (τ := Cert.HOut.τ) (Cert.HOut.main (F := Bits))) ⟨m, fun _ => 0, g⟩ (fun r => (∀ c : Dev Cert.HOut.nD,
      r.2.mem ((c.tc : Thread Cert.HOut.nD Cert.HOut.τ).loc Cert.HOut.main_arg0) = m ((c.tc : Thread Cert.HOut.nD Cert.HOut.τ).loc Cert.HOut.main_arg0)
      ∧ r.2.mem ((c.tc : Thread Cert.HOut.nD Cert.HOut.τ).loc Cert.HOut.main_arg1) = m ((c.tc : Thread Cert.HOut.nD Cert.HOut.τ).loc Cert.HOut.main_arg1)
      ∧ r.2.mem ((c.tc : Thread Cert.HOut.nD Cert.HOut.τ).loc Cert.HOut.main_arg2) = m ((c.tc : Thread Cert.HOut.nD Cert.HOut.τ).loc Cert.HOut.main_arg2)
      ∧ r.2.mem ((c.tc : Thread Cert.HOut.nD Cert.HOut.τ).loc Cert.HOut.main_arg3) = m ((c.tc : Thread Cert.HOut.nD Cert.HOut.τ).loc Cert.HOut.main_arg3)
      ∧ r.2.mem ((c.tc : Thread Cert.HOut.nD Cert.HOut.τ).loc Cert.HOut.main_arg4) = m ((c.tc : Thread Cert.HOut.nD Cert.HOut.τ).loc Cert.HOut.main_arg4))
      ∧ r.2.sem = fun _ => 0)

def quiescent_HOutIdeal [hHOutIdeal : Cert.HOutIdeal.Facts] : Prop :=
  ∀ (m : (ℓ : Loc Cert.HOutIdeal.nD Cert.HOutIdeal.τ Cert.HOutIdeal.sig) → Buf (Elt Ideal) ℓ) (g : Dev Cert.HOutIdeal.nD → PrngReg), Pre_HOutIdeal m →
    θ_run (Cert.HOutIdeal.defs (F := Ideal)) (onTc (τ := Cert.HOutIdeal.τ) (Cert.HOutIdeal.main (F := Ideal))) ⟨m, fun _ => 0, g⟩ (fun r => (∀ c : Dev Cert.HOutIdeal.nD,
      r.2.mem ((c.tc : Thread Cert.HOutIdeal.nD Cert.HOutIdeal.τ).loc Cert.HOutIdeal.main_arg0) = m ((c.tc : Thread Cert.HOutIdeal.nD Cert.HOutIdeal.τ).loc Cert.HOutIdeal.main_arg0)
      ∧ r.2.mem ((c.tc : Thread Cert.HOutIdeal.nD Cert.HOutIdeal.τ).loc Cert.HOutIdeal.main_arg1) = m ((c.tc : Thread Cert.HOutIdeal.nD Cert.HOutIdeal.τ).loc Cert.HOutIdeal.main_arg1)
      ∧ r.2.mem ((c.tc : Thread Cert.HOutIdeal.nD Cert.HOutIdeal.τ).loc Cert.HOutIdeal.main_arg2) = m ((c.tc : Thread Cert.HOutIdeal.nD Cert.HOutIdeal.τ).loc Cert.HOutIdeal.main_arg2)
      ∧ r.2.mem ((c.tc : Thread Cert.HOutIdeal.nD Cert.HOutIdeal.τ).loc Cert.HOutIdeal.main_arg3) = m ((c.tc : Thread Cert.HOutIdeal.nD Cert.HOutIdeal.τ).loc Cert.HOutIdeal.main_arg3)
      ∧ r.2.mem ((c.tc : Thread Cert.HOutIdeal.nD Cert.HOutIdeal.τ).loc Cert.HOutIdeal.main_arg4) = m ((c.tc : Thread Cert.HOutIdeal.nD Cert.HOutIdeal.τ).loc Cert.HOutIdeal.main_arg4))
      ∧ r.2.sem = fun _ => 0)

def quiescent_ReferenceHOutIdeal [hReferenceHOutIdeal : Cert.ReferenceHOutIdeal.Facts] : Prop :=
  ∀ (m : (ℓ : Loc Cert.ReferenceHOutIdeal.nD Cert.ReferenceHOutIdeal.τ Cert.ReferenceHOutIdeal.sig) → Buf (Elt Ideal) ℓ) (g : Dev Cert.ReferenceHOutIdeal.nD → PrngReg), Pre_ReferenceHOutIdeal m →
    θ_run (Cert.ReferenceHOutIdeal.defs (F := Ideal)) (onTc (τ := Cert.ReferenceHOutIdeal.τ) (Cert.ReferenceHOutIdeal.main (F := Ideal))) ⟨m, fun _ => 0, g⟩ (fun r => (∀ c : Dev Cert.ReferenceHOutIdeal.nD,
      r.2.mem ((c.tc : Thread Cert.ReferenceHOutIdeal.nD Cert.ReferenceHOutIdeal.τ).loc Cert.ReferenceHOutIdeal.main_arg0) = m ((c.tc : Thread Cert.ReferenceHOutIdeal.nD Cert.ReferenceHOutIdeal.τ).loc Cert.ReferenceHOutIdeal.main_arg0)
      ∧ r.2.mem ((c.tc : Thread Cert.ReferenceHOutIdeal.nD Cert.ReferenceHOutIdeal.τ).loc Cert.ReferenceHOutIdeal.main_arg1) = m ((c.tc : Thread Cert.ReferenceHOutIdeal.nD Cert.ReferenceHOutIdeal.τ).loc Cert.ReferenceHOutIdeal.main_arg1)
      ∧ r.2.mem ((c.tc : Thread Cert.ReferenceHOutIdeal.nD Cert.ReferenceHOutIdeal.τ).loc Cert.ReferenceHOutIdeal.main_arg2) = m ((c.tc : Thread Cert.ReferenceHOutIdeal.nD Cert.ReferenceHOutIdeal.τ).loc Cert.ReferenceHOutIdeal.main_arg2)
      ∧ r.2.mem ((c.tc : Thread Cert.ReferenceHOutIdeal.nD Cert.ReferenceHOutIdeal.τ).loc Cert.ReferenceHOutIdeal.main_arg3) = m ((c.tc : Thread Cert.ReferenceHOutIdeal.nD Cert.ReferenceHOutIdeal.τ).loc Cert.ReferenceHOutIdeal.main_arg3)
      ∧ r.2.mem ((c.tc : Thread Cert.ReferenceHOutIdeal.nD Cert.ReferenceHOutIdeal.τ).loc Cert.ReferenceHOutIdeal.main_arg4) = m ((c.tc : Thread Cert.ReferenceHOutIdeal.nD Cert.ReferenceHOutIdeal.τ).loc Cert.ReferenceHOutIdeal.main_arg4))
      ∧ r.2.sem = fun _ => 0)

def quiescent_MInCol [hMInCol : Cert.MInCol.Facts] : Prop :=
  ∀ (m : (ℓ : Loc Cert.MInCol.nD Cert.MInCol.τ Cert.MInCol.sig) → Buf (Elt Bits) ℓ) (g : Dev Cert.MInCol.nD → PrngReg), Pre_MInCol m →
    θ_run (Cert.MInCol.defs (F := Bits)) (onTc (τ := Cert.MInCol.τ) (Cert.MInCol.main (F := Bits))) ⟨m, fun _ => 0, g⟩ (fun r => (∀ c : Dev Cert.MInCol.nD,
      r.2.mem ((c.tc : Thread Cert.MInCol.nD Cert.MInCol.τ).loc Cert.MInCol.main_arg0) = m ((c.tc : Thread Cert.MInCol.nD Cert.MInCol.τ).loc Cert.MInCol.main_arg0)
      ∧ r.2.mem ((c.tc : Thread Cert.MInCol.nD Cert.MInCol.τ).loc Cert.MInCol.main_arg1) = m ((c.tc : Thread Cert.MInCol.nD Cert.MInCol.τ).loc Cert.MInCol.main_arg1)
      ∧ r.2.mem ((c.tc : Thread Cert.MInCol.nD Cert.MInCol.τ).loc Cert.MInCol.main_arg2) = m ((c.tc : Thread Cert.MInCol.nD Cert.MInCol.τ).loc Cert.MInCol.main_arg2)
      ∧ r.2.mem ((c.tc : Thread Cert.MInCol.nD Cert.MInCol.τ).loc Cert.MInCol.main_arg3) = m ((c.tc : Thread Cert.MInCol.nD Cert.MInCol.τ).loc Cert.MInCol.main_arg3))
      ∧ r.2.sem = fun _ => 0)

def quiescent_MInColIdeal [hMInColIdeal : Cert.MInColIdeal.Facts] : Prop :=
  ∀ (m : (ℓ : Loc Cert.MInColIdeal.nD Cert.MInColIdeal.τ Cert.MInColIdeal.sig) → Buf (Elt Ideal) ℓ) (g : Dev Cert.MInColIdeal.nD → PrngReg), Pre_MInColIdeal m →
    θ_run (Cert.MInColIdeal.defs (F := Ideal)) (onTc (τ := Cert.MInColIdeal.τ) (Cert.MInColIdeal.main (F := Ideal))) ⟨m, fun _ => 0, g⟩ (fun r => (∀ c : Dev Cert.MInColIdeal.nD,
      r.2.mem ((c.tc : Thread Cert.MInColIdeal.nD Cert.MInColIdeal.τ).loc Cert.MInColIdeal.main_arg0) = m ((c.tc : Thread Cert.MInColIdeal.nD Cert.MInColIdeal.τ).loc Cert.MInColIdeal.main_arg0)
      ∧ r.2.mem ((c.tc : Thread Cert.MInColIdeal.nD Cert.MInColIdeal.τ).loc Cert.MInColIdeal.main_arg1) = m ((c.tc : Thread Cert.MInColIdeal.nD Cert.MInColIdeal.τ).loc Cert.MInColIdeal.main_arg1)
      ∧ r.2.mem ((c.tc : Thread Cert.MInColIdeal.nD Cert.MInColIdeal.τ).loc Cert.MInColIdeal.main_arg2) = m ((c.tc : Thread Cert.MInColIdeal.nD Cert.MInColIdeal.τ).loc Cert.MInColIdeal.main_arg2)
      ∧ r.2.mem ((c.tc : Thread Cert.MInColIdeal.nD Cert.MInColIdeal.τ).loc Cert.MInColIdeal.main_arg3) = m ((c.tc : Thread Cert.MInColIdeal.nD Cert.MInColIdeal.τ).loc Cert.MInColIdeal.main_arg3))
      ∧ r.2.sem = fun _ => 0)

def quiescent_ReferenceMInColIdeal [hReferenceMInColIdeal : Cert.ReferenceMInColIdeal.Facts] : Prop :=
  ∀ (m : (ℓ : Loc Cert.ReferenceMInColIdeal.nD Cert.ReferenceMInColIdeal.τ Cert.ReferenceMInColIdeal.sig) → Buf (Elt Ideal) ℓ) (g : Dev Cert.ReferenceMInColIdeal.nD → PrngReg), Pre_ReferenceMInColIdeal m →
    θ_run (Cert.ReferenceMInColIdeal.defs (F := Ideal)) (onTc (τ := Cert.ReferenceMInColIdeal.τ) (Cert.ReferenceMInColIdeal.main (F := Ideal))) ⟨m, fun _ => 0, g⟩ (fun r => (∀ c : Dev Cert.ReferenceMInColIdeal.nD,
      r.2.mem ((c.tc : Thread Cert.ReferenceMInColIdeal.nD Cert.ReferenceMInColIdeal.τ).loc Cert.ReferenceMInColIdeal.main_arg0) = m ((c.tc : Thread Cert.ReferenceMInColIdeal.nD Cert.ReferenceMInColIdeal.τ).loc Cert.ReferenceMInColIdeal.main_arg0)
      ∧ r.2.mem ((c.tc : Thread Cert.ReferenceMInColIdeal.nD Cert.ReferenceMInColIdeal.τ).loc Cert.ReferenceMInColIdeal.main_arg1) = m ((c.tc : Thread Cert.ReferenceMInColIdeal.nD Cert.ReferenceMInColIdeal.τ).loc Cert.ReferenceMInColIdeal.main_arg1)
      ∧ r.2.mem ((c.tc : Thread Cert.ReferenceMInColIdeal.nD Cert.ReferenceMInColIdeal.τ).loc Cert.ReferenceMInColIdeal.main_arg2) = m ((c.tc : Thread Cert.ReferenceMInColIdeal.nD Cert.ReferenceMInColIdeal.τ).loc Cert.ReferenceMInColIdeal.main_arg2)
      ∧ r.2.mem ((c.tc : Thread Cert.ReferenceMInColIdeal.nD Cert.ReferenceMInColIdeal.τ).loc Cert.ReferenceMInColIdeal.main_arg3) = m ((c.tc : Thread Cert.ReferenceMInColIdeal.nD Cert.ReferenceMInColIdeal.τ).loc Cert.ReferenceMInColIdeal.main_arg3))
      ∧ r.2.sem = fun _ => 0)

def quiescent_HInCol [hHInCol : Cert.HInCol.Facts] : Prop :=
  ∀ (m : (ℓ : Loc Cert.HInCol.nD Cert.HInCol.τ Cert.HInCol.sig) → Buf (Elt Bits) ℓ) (g : Dev Cert.HInCol.nD → PrngReg), Pre_HInCol m →
    θ_run (Cert.HInCol.defs (F := Bits)) (onTc (τ := Cert.HInCol.τ) (Cert.HInCol.main (F := Bits))) ⟨m, fun _ => 0, g⟩ (fun r => (∀ c : Dev Cert.HInCol.nD,
      r.2.mem ((c.tc : Thread Cert.HInCol.nD Cert.HInCol.τ).loc Cert.HInCol.main_arg0) = m ((c.tc : Thread Cert.HInCol.nD Cert.HInCol.τ).loc Cert.HInCol.main_arg0)
      ∧ r.2.mem ((c.tc : Thread Cert.HInCol.nD Cert.HInCol.τ).loc Cert.HInCol.main_arg1) = m ((c.tc : Thread Cert.HInCol.nD Cert.HInCol.τ).loc Cert.HInCol.main_arg1)
      ∧ r.2.mem ((c.tc : Thread Cert.HInCol.nD Cert.HInCol.τ).loc Cert.HInCol.main_arg2) = m ((c.tc : Thread Cert.HInCol.nD Cert.HInCol.τ).loc Cert.HInCol.main_arg2)
      ∧ r.2.mem ((c.tc : Thread Cert.HInCol.nD Cert.HInCol.τ).loc Cert.HInCol.main_arg3) = m ((c.tc : Thread Cert.HInCol.nD Cert.HInCol.τ).loc Cert.HInCol.main_arg3)
      ∧ r.2.mem ((c.tc : Thread Cert.HInCol.nD Cert.HInCol.τ).loc Cert.HInCol.main_arg4) = m ((c.tc : Thread Cert.HInCol.nD Cert.HInCol.τ).loc Cert.HInCol.main_arg4))
      ∧ r.2.sem = fun _ => 0)

def quiescent_HInColIdeal [hHInColIdeal : Cert.HInColIdeal.Facts] : Prop :=
  ∀ (m : (ℓ : Loc Cert.HInColIdeal.nD Cert.HInColIdeal.τ Cert.HInColIdeal.sig) → Buf (Elt Ideal) ℓ) (g : Dev Cert.HInColIdeal.nD → PrngReg), Pre_HInColIdeal m →
    θ_run (Cert.HInColIdeal.defs (F := Ideal)) (onTc (τ := Cert.HInColIdeal.τ) (Cert.HInColIdeal.main (F := Ideal))) ⟨m, fun _ => 0, g⟩ (fun r => (∀ c : Dev Cert.HInColIdeal.nD,
      r.2.mem ((c.tc : Thread Cert.HInColIdeal.nD Cert.HInColIdeal.τ).loc Cert.HInColIdeal.main_arg0) = m ((c.tc : Thread Cert.HInColIdeal.nD Cert.HInColIdeal.τ).loc Cert.HInColIdeal.main_arg0)
      ∧ r.2.mem ((c.tc : Thread Cert.HInColIdeal.nD Cert.HInColIdeal.τ).loc Cert.HInColIdeal.main_arg1) = m ((c.tc : Thread Cert.HInColIdeal.nD Cert.HInColIdeal.τ).loc Cert.HInColIdeal.main_arg1)
      ∧ r.2.mem ((c.tc : Thread Cert.HInColIdeal.nD Cert.HInColIdeal.τ).loc Cert.HInColIdeal.main_arg2) = m ((c.tc : Thread Cert.HInColIdeal.nD Cert.HInColIdeal.τ).loc Cert.HInColIdeal.main_arg2)
      ∧ r.2.mem ((c.tc : Thread Cert.HInColIdeal.nD Cert.HInColIdeal.τ).loc Cert.HInColIdeal.main_arg3) = m ((c.tc : Thread Cert.HInColIdeal.nD Cert.HInColIdeal.τ).loc Cert.HInColIdeal.main_arg3)
      ∧ r.2.mem ((c.tc : Thread Cert.HInColIdeal.nD Cert.HInColIdeal.τ).loc Cert.HInColIdeal.main_arg4) = m ((c.tc : Thread Cert.HInColIdeal.nD Cert.HInColIdeal.τ).loc Cert.HInColIdeal.main_arg4))
      ∧ r.2.sem = fun _ => 0)

def quiescent_ReferenceHInColIdeal [hReferenceHInColIdeal : Cert.ReferenceHInColIdeal.Facts] : Prop :=
  ∀ (m : (ℓ : Loc Cert.ReferenceHInColIdeal.nD Cert.ReferenceHInColIdeal.τ Cert.ReferenceHInColIdeal.sig) → Buf (Elt Ideal) ℓ) (g : Dev Cert.ReferenceHInColIdeal.nD → PrngReg), Pre_ReferenceHInColIdeal m →
    θ_run (Cert.ReferenceHInColIdeal.defs (F := Ideal)) (onTc (τ := Cert.ReferenceHInColIdeal.τ) (Cert.ReferenceHInColIdeal.main (F := Ideal))) ⟨m, fun _ => 0, g⟩ (fun r => (∀ c : Dev Cert.ReferenceHInColIdeal.nD,
      r.2.mem ((c.tc : Thread Cert.ReferenceHInColIdeal.nD Cert.ReferenceHInColIdeal.τ).loc Cert.ReferenceHInColIdeal.main_arg0) = m ((c.tc : Thread Cert.ReferenceHInColIdeal.nD Cert.ReferenceHInColIdeal.τ).loc Cert.ReferenceHInColIdeal.main_arg0)
      ∧ r.2.mem ((c.tc : Thread Cert.ReferenceHInColIdeal.nD Cert.ReferenceHInColIdeal.τ).loc Cert.ReferenceHInColIdeal.main_arg1) = m ((c.tc : Thread Cert.ReferenceHInColIdeal.nD Cert.ReferenceHInColIdeal.τ).loc Cert.ReferenceHInColIdeal.main_arg1)
      ∧ r.2.mem ((c.tc : Thread Cert.ReferenceHInColIdeal.nD Cert.ReferenceHInColIdeal.τ).loc Cert.ReferenceHInColIdeal.main_arg2) = m ((c.tc : Thread Cert.ReferenceHInColIdeal.nD Cert.ReferenceHInColIdeal.τ).loc Cert.ReferenceHInColIdeal.main_arg2)
      ∧ r.2.mem ((c.tc : Thread Cert.ReferenceHInColIdeal.nD Cert.ReferenceHInColIdeal.τ).loc Cert.ReferenceHInColIdeal.main_arg3) = m ((c.tc : Thread Cert.ReferenceHInColIdeal.nD Cert.ReferenceHInColIdeal.τ).loc Cert.ReferenceHInColIdeal.main_arg3)
      ∧ r.2.mem ((c.tc : Thread Cert.ReferenceHInColIdeal.nD Cert.ReferenceHInColIdeal.τ).loc Cert.ReferenceHInColIdeal.main_arg4) = m ((c.tc : Thread Cert.ReferenceHInColIdeal.nD Cert.ReferenceHInColIdeal.τ).loc Cert.ReferenceHInColIdeal.main_arg4))
      ∧ r.2.sem = fun _ => 0)

def quiescent_MOutCol [hMOutCol : Cert.MOutCol.Facts] : Prop :=
  ∀ (m : (ℓ : Loc Cert.MOutCol.nD Cert.MOutCol.τ Cert.MOutCol.sig) → Buf (Elt Bits) ℓ) (g : Dev Cert.MOutCol.nD → PrngReg), Pre_MOutCol m →
    θ_run (Cert.MOutCol.defs (F := Bits)) (onTc (τ := Cert.MOutCol.τ) (Cert.MOutCol.main (F := Bits))) ⟨m, fun _ => 0, g⟩ (fun r => (∀ c : Dev Cert.MOutCol.nD,
      r.2.mem ((c.tc : Thread Cert.MOutCol.nD Cert.MOutCol.τ).loc Cert.MOutCol.main_arg0) = m ((c.tc : Thread Cert.MOutCol.nD Cert.MOutCol.τ).loc Cert.MOutCol.main_arg0)
      ∧ r.2.mem ((c.tc : Thread Cert.MOutCol.nD Cert.MOutCol.τ).loc Cert.MOutCol.main_arg1) = m ((c.tc : Thread Cert.MOutCol.nD Cert.MOutCol.τ).loc Cert.MOutCol.main_arg1)
      ∧ r.2.mem ((c.tc : Thread Cert.MOutCol.nD Cert.MOutCol.τ).loc Cert.MOutCol.main_arg2) = m ((c.tc : Thread Cert.MOutCol.nD Cert.MOutCol.τ).loc Cert.MOutCol.main_arg2)
      ∧ r.2.mem ((c.tc : Thread Cert.MOutCol.nD Cert.MOutCol.τ).loc Cert.MOutCol.main_arg3) = m ((c.tc : Thread Cert.MOutCol.nD Cert.MOutCol.τ).loc Cert.MOutCol.main_arg3))
      ∧ r.2.sem = fun _ => 0)

def quiescent_MOutColIdeal [hMOutColIdeal : Cert.MOutColIdeal.Facts] : Prop :=
  ∀ (m : (ℓ : Loc Cert.MOutColIdeal.nD Cert.MOutColIdeal.τ Cert.MOutColIdeal.sig) → Buf (Elt Ideal) ℓ) (g : Dev Cert.MOutColIdeal.nD → PrngReg), Pre_MOutColIdeal m →
    θ_run (Cert.MOutColIdeal.defs (F := Ideal)) (onTc (τ := Cert.MOutColIdeal.τ) (Cert.MOutColIdeal.main (F := Ideal))) ⟨m, fun _ => 0, g⟩ (fun r => (∀ c : Dev Cert.MOutColIdeal.nD,
      r.2.mem ((c.tc : Thread Cert.MOutColIdeal.nD Cert.MOutColIdeal.τ).loc Cert.MOutColIdeal.main_arg0) = m ((c.tc : Thread Cert.MOutColIdeal.nD Cert.MOutColIdeal.τ).loc Cert.MOutColIdeal.main_arg0)
      ∧ r.2.mem ((c.tc : Thread Cert.MOutColIdeal.nD Cert.MOutColIdeal.τ).loc Cert.MOutColIdeal.main_arg1) = m ((c.tc : Thread Cert.MOutColIdeal.nD Cert.MOutColIdeal.τ).loc Cert.MOutColIdeal.main_arg1)
      ∧ r.2.mem ((c.tc : Thread Cert.MOutColIdeal.nD Cert.MOutColIdeal.τ).loc Cert.MOutColIdeal.main_arg2) = m ((c.tc : Thread Cert.MOutColIdeal.nD Cert.MOutColIdeal.τ).loc Cert.MOutColIdeal.main_arg2)
      ∧ r.2.mem ((c.tc : Thread Cert.MOutColIdeal.nD Cert.MOutColIdeal.τ).loc Cert.MOutColIdeal.main_arg3) = m ((c.tc : Thread Cert.MOutColIdeal.nD Cert.MOutColIdeal.τ).loc Cert.MOutColIdeal.main_arg3))
      ∧ r.2.sem = fun _ => 0)

def quiescent_ReferenceMOutColIdeal [hReferenceMOutColIdeal : Cert.ReferenceMOutColIdeal.Facts] : Prop :=
  ∀ (m : (ℓ : Loc Cert.ReferenceMOutColIdeal.nD Cert.ReferenceMOutColIdeal.τ Cert.ReferenceMOutColIdeal.sig) → Buf (Elt Ideal) ℓ) (g : Dev Cert.ReferenceMOutColIdeal.nD → PrngReg), Pre_ReferenceMOutColIdeal m →
    θ_run (Cert.ReferenceMOutColIdeal.defs (F := Ideal)) (onTc (τ := Cert.ReferenceMOutColIdeal.τ) (Cert.ReferenceMOutColIdeal.main (F := Ideal))) ⟨m, fun _ => 0, g⟩ (fun r => (∀ c : Dev Cert.ReferenceMOutColIdeal.nD,
      r.2.mem ((c.tc : Thread Cert.ReferenceMOutColIdeal.nD Cert.ReferenceMOutColIdeal.τ).loc Cert.ReferenceMOutColIdeal.main_arg0) = m ((c.tc : Thread Cert.ReferenceMOutColIdeal.nD Cert.ReferenceMOutColIdeal.τ).loc Cert.ReferenceMOutColIdeal.main_arg0)
      ∧ r.2.mem ((c.tc : Thread Cert.ReferenceMOutColIdeal.nD Cert.ReferenceMOutColIdeal.τ).loc Cert.ReferenceMOutColIdeal.main_arg1) = m ((c.tc : Thread Cert.ReferenceMOutColIdeal.nD Cert.ReferenceMOutColIdeal.τ).loc Cert.ReferenceMOutColIdeal.main_arg1)
      ∧ r.2.mem ((c.tc : Thread Cert.ReferenceMOutColIdeal.nD Cert.ReferenceMOutColIdeal.τ).loc Cert.ReferenceMOutColIdeal.main_arg2) = m ((c.tc : Thread Cert.ReferenceMOutColIdeal.nD Cert.ReferenceMOutColIdeal.τ).loc Cert.ReferenceMOutColIdeal.main_arg2)
      ∧ r.2.mem ((c.tc : Thread Cert.ReferenceMOutColIdeal.nD Cert.ReferenceMOutColIdeal.τ).loc Cert.ReferenceMOutColIdeal.main_arg3) = m ((c.tc : Thread Cert.ReferenceMOutColIdeal.nD Cert.ReferenceMOutColIdeal.τ).loc Cert.ReferenceMOutColIdeal.main_arg3))
      ∧ r.2.sem = fun _ => 0)

def quiescent_HOutCol [hHOutCol : Cert.HOutCol.Facts] : Prop :=
  ∀ (m : (ℓ : Loc Cert.HOutCol.nD Cert.HOutCol.τ Cert.HOutCol.sig) → Buf (Elt Bits) ℓ) (g : Dev Cert.HOutCol.nD → PrngReg), Pre_HOutCol m →
    θ_run (Cert.HOutCol.defs (F := Bits)) (onTc (τ := Cert.HOutCol.τ) (Cert.HOutCol.main (F := Bits))) ⟨m, fun _ => 0, g⟩ (fun r => (∀ c : Dev Cert.HOutCol.nD,
      r.2.mem ((c.tc : Thread Cert.HOutCol.nD Cert.HOutCol.τ).loc Cert.HOutCol.main_arg0) = m ((c.tc : Thread Cert.HOutCol.nD Cert.HOutCol.τ).loc Cert.HOutCol.main_arg0)
      ∧ r.2.mem ((c.tc : Thread Cert.HOutCol.nD Cert.HOutCol.τ).loc Cert.HOutCol.main_arg1) = m ((c.tc : Thread Cert.HOutCol.nD Cert.HOutCol.τ).loc Cert.HOutCol.main_arg1)
      ∧ r.2.mem ((c.tc : Thread Cert.HOutCol.nD Cert.HOutCol.τ).loc Cert.HOutCol.main_arg2) = m ((c.tc : Thread Cert.HOutCol.nD Cert.HOutCol.τ).loc Cert.HOutCol.main_arg2)
      ∧ r.2.mem ((c.tc : Thread Cert.HOutCol.nD Cert.HOutCol.τ).loc Cert.HOutCol.main_arg3) = m ((c.tc : Thread Cert.HOutCol.nD Cert.HOutCol.τ).loc Cert.HOutCol.main_arg3)
      ∧ r.2.mem ((c.tc : Thread Cert.HOutCol.nD Cert.HOutCol.τ).loc Cert.HOutCol.main_arg4) = m ((c.tc : Thread Cert.HOutCol.nD Cert.HOutCol.τ).loc Cert.HOutCol.main_arg4))
      ∧ r.2.sem = fun _ => 0)

def quiescent_HOutColIdeal [hHOutColIdeal : Cert.HOutColIdeal.Facts] : Prop :=
  ∀ (m : (ℓ : Loc Cert.HOutColIdeal.nD Cert.HOutColIdeal.τ Cert.HOutColIdeal.sig) → Buf (Elt Ideal) ℓ) (g : Dev Cert.HOutColIdeal.nD → PrngReg), Pre_HOutColIdeal m →
    θ_run (Cert.HOutColIdeal.defs (F := Ideal)) (onTc (τ := Cert.HOutColIdeal.τ) (Cert.HOutColIdeal.main (F := Ideal))) ⟨m, fun _ => 0, g⟩ (fun r => (∀ c : Dev Cert.HOutColIdeal.nD,
      r.2.mem ((c.tc : Thread Cert.HOutColIdeal.nD Cert.HOutColIdeal.τ).loc Cert.HOutColIdeal.main_arg0) = m ((c.tc : Thread Cert.HOutColIdeal.nD Cert.HOutColIdeal.τ).loc Cert.HOutColIdeal.main_arg0)
      ∧ r.2.mem ((c.tc : Thread Cert.HOutColIdeal.nD Cert.HOutColIdeal.τ).loc Cert.HOutColIdeal.main_arg1) = m ((c.tc : Thread Cert.HOutColIdeal.nD Cert.HOutColIdeal.τ).loc Cert.HOutColIdeal.main_arg1)
      ∧ r.2.mem ((c.tc : Thread Cert.HOutColIdeal.nD Cert.HOutColIdeal.τ).loc Cert.HOutColIdeal.main_arg2) = m ((c.tc : Thread Cert.HOutColIdeal.nD Cert.HOutColIdeal.τ).loc Cert.HOutColIdeal.main_arg2)
      ∧ r.2.mem ((c.tc : Thread Cert.HOutColIdeal.nD Cert.HOutColIdeal.τ).loc Cert.HOutColIdeal.main_arg3) = m ((c.tc : Thread Cert.HOutColIdeal.nD Cert.HOutColIdeal.τ).loc Cert.HOutColIdeal.main_arg3)
      ∧ r.2.mem ((c.tc : Thread Cert.HOutColIdeal.nD Cert.HOutColIdeal.τ).loc Cert.HOutColIdeal.main_arg4) = m ((c.tc : Thread Cert.HOutColIdeal.nD Cert.HOutColIdeal.τ).loc Cert.HOutColIdeal.main_arg4))
      ∧ r.2.sem = fun _ => 0)

def quiescent_ReferenceHOutColIdeal [hReferenceHOutColIdeal : Cert.ReferenceHOutColIdeal.Facts] : Prop :=
  ∀ (m : (ℓ : Loc Cert.ReferenceHOutColIdeal.nD Cert.ReferenceHOutColIdeal.τ Cert.ReferenceHOutColIdeal.sig) → Buf (Elt Ideal) ℓ) (g : Dev Cert.ReferenceHOutColIdeal.nD → PrngReg), Pre_ReferenceHOutColIdeal m →
    θ_run (Cert.ReferenceHOutColIdeal.defs (F := Ideal)) (onTc (τ := Cert.ReferenceHOutColIdeal.τ) (Cert.ReferenceHOutColIdeal.main (F := Ideal))) ⟨m, fun _ => 0, g⟩ (fun r => (∀ c : Dev Cert.ReferenceHOutColIdeal.nD,
      r.2.mem ((c.tc : Thread Cert.ReferenceHOutColIdeal.nD Cert.ReferenceHOutColIdeal.τ).loc Cert.ReferenceHOutColIdeal.main_arg0) = m ((c.tc : Thread Cert.ReferenceHOutColIdeal.nD Cert.ReferenceHOutColIdeal.τ).loc Cert.ReferenceHOutColIdeal.main_arg0)
      ∧ r.2.mem ((c.tc : Thread Cert.ReferenceHOutColIdeal.nD Cert.ReferenceHOutColIdeal.τ).loc Cert.ReferenceHOutColIdeal.main_arg1) = m ((c.tc : Thread Cert.ReferenceHOutColIdeal.nD Cert.ReferenceHOutColIdeal.τ).loc Cert.ReferenceHOutColIdeal.main_arg1)
      ∧ r.2.mem ((c.tc : Thread Cert.ReferenceHOutColIdeal.nD Cert.ReferenceHOutColIdeal.τ).loc Cert.ReferenceHOutColIdeal.main_arg2) = m ((c.tc : Thread Cert.ReferenceHOutColIdeal.nD Cert.ReferenceHOutColIdeal.τ).loc Cert.ReferenceHOutColIdeal.main_arg2)
      ∧ r.2.mem ((c.tc : Thread Cert.ReferenceHOutColIdeal.nD Cert.ReferenceHOutColIdeal.τ).loc Cert.ReferenceHOutColIdeal.main_arg3) = m ((c.tc : Thread Cert.ReferenceHOutColIdeal.nD Cert.ReferenceHOutColIdeal.τ).loc Cert.ReferenceHOutColIdeal.main_arg3)
      ∧ r.2.mem ((c.tc : Thread Cert.ReferenceHOutColIdeal.nD Cert.ReferenceHOutColIdeal.τ).loc Cert.ReferenceHOutColIdeal.main_arg4) = m ((c.tc : Thread Cert.ReferenceHOutColIdeal.nD Cert.ReferenceHOutColIdeal.τ).loc Cert.ReferenceHOutColIdeal.main_arg4))
      ∧ r.2.sem = fun _ => 0)

def quiescent_MPre [hMPre : Cert.MPre.Facts] : Prop :=
  ∀ (m : (ℓ : Loc Cert.MPre.nD Cert.MPre.τ Cert.MPre.sig) → Buf (Elt Bits) ℓ) (g : Dev Cert.MPre.nD → PrngReg), Pre_MPre m →
    θ_run (Cert.MPre.defs (F := Bits)) (onTc (τ := Cert.MPre.τ) (Cert.MPre.main (F := Bits))) ⟨m, fun _ => 0, g⟩ (fun r => (∀ c : Dev Cert.MPre.nD,
      r.2.mem ((c.tc : Thread Cert.MPre.nD Cert.MPre.τ).loc Cert.MPre.main_arg0) = m ((c.tc : Thread Cert.MPre.nD Cert.MPre.τ).loc Cert.MPre.main_arg0)
      ∧ r.2.mem ((c.tc : Thread Cert.MPre.nD Cert.MPre.τ).loc Cert.MPre.main_arg1) = m ((c.tc : Thread Cert.MPre.nD Cert.MPre.τ).loc Cert.MPre.main_arg1)
      ∧ r.2.mem ((c.tc : Thread Cert.MPre.nD Cert.MPre.τ).loc Cert.MPre.main_arg2) = m ((c.tc : Thread Cert.MPre.nD Cert.MPre.τ).loc Cert.MPre.main_arg2)
      ∧ r.2.mem ((c.tc : Thread Cert.MPre.nD Cert.MPre.τ).loc Cert.MPre.main_arg3) = m ((c.tc : Thread Cert.MPre.nD Cert.MPre.τ).loc Cert.MPre.main_arg3)
      ∧ r.2.mem ((c.tc : Thread Cert.MPre.nD Cert.MPre.τ).loc Cert.MPre.main_arg4) = m ((c.tc : Thread Cert.MPre.nD Cert.MPre.τ).loc Cert.MPre.main_arg4)
      ∧ r.2.mem ((c.tc : Thread Cert.MPre.nD Cert.MPre.τ).loc Cert.MPre.main_arg5) = m ((c.tc : Thread Cert.MPre.nD Cert.MPre.τ).loc Cert.MPre.main_arg5)
      ∧ r.2.mem ((c.tc : Thread Cert.MPre.nD Cert.MPre.τ).loc Cert.MPre.main_arg6) = m ((c.tc : Thread Cert.MPre.nD Cert.MPre.τ).loc Cert.MPre.main_arg6)
      ∧ r.2.mem ((c.tc : Thread Cert.MPre.nD Cert.MPre.τ).loc Cert.MPre.main_arg7) = m ((c.tc : Thread Cert.MPre.nD Cert.MPre.τ).loc Cert.MPre.main_arg7))
      ∧ r.2.sem = fun _ => 0)

def quiescent_MPreIdeal [hMPreIdeal : Cert.MPreIdeal.Facts] : Prop :=
  ∀ (m : (ℓ : Loc Cert.MPreIdeal.nD Cert.MPreIdeal.τ Cert.MPreIdeal.sig) → Buf (Elt Ideal) ℓ) (g : Dev Cert.MPreIdeal.nD → PrngReg), Pre_MPreIdeal m →
    θ_run (Cert.MPreIdeal.defs (F := Ideal)) (onTc (τ := Cert.MPreIdeal.τ) (Cert.MPreIdeal.main (F := Ideal))) ⟨m, fun _ => 0, g⟩ (fun r => (∀ c : Dev Cert.MPreIdeal.nD,
      r.2.mem ((c.tc : Thread Cert.MPreIdeal.nD Cert.MPreIdeal.τ).loc Cert.MPreIdeal.main_arg0) = m ((c.tc : Thread Cert.MPreIdeal.nD Cert.MPreIdeal.τ).loc Cert.MPreIdeal.main_arg0)
      ∧ r.2.mem ((c.tc : Thread Cert.MPreIdeal.nD Cert.MPreIdeal.τ).loc Cert.MPreIdeal.main_arg1) = m ((c.tc : Thread Cert.MPreIdeal.nD Cert.MPreIdeal.τ).loc Cert.MPreIdeal.main_arg1)
      ∧ r.2.mem ((c.tc : Thread Cert.MPreIdeal.nD Cert.MPreIdeal.τ).loc Cert.MPreIdeal.main_arg2) = m ((c.tc : Thread Cert.MPreIdeal.nD Cert.MPreIdeal.τ).loc Cert.MPreIdeal.main_arg2)
      ∧ r.2.mem ((c.tc : Thread Cert.MPreIdeal.nD Cert.MPreIdeal.τ).loc Cert.MPreIdeal.main_arg3) = m ((c.tc : Thread Cert.MPreIdeal.nD Cert.MPreIdeal.τ).loc Cert.MPreIdeal.main_arg3)
      ∧ r.2.mem ((c.tc : Thread Cert.MPreIdeal.nD Cert.MPreIdeal.τ).loc Cert.MPreIdeal.main_arg4) = m ((c.tc : Thread Cert.MPreIdeal.nD Cert.MPreIdeal.τ).loc Cert.MPreIdeal.main_arg4)
      ∧ r.2.mem ((c.tc : Thread Cert.MPreIdeal.nD Cert.MPreIdeal.τ).loc Cert.MPreIdeal.main_arg5) = m ((c.tc : Thread Cert.MPreIdeal.nD Cert.MPreIdeal.τ).loc Cert.MPreIdeal.main_arg5)
      ∧ r.2.mem ((c.tc : Thread Cert.MPreIdeal.nD Cert.MPreIdeal.τ).loc Cert.MPreIdeal.main_arg6) = m ((c.tc : Thread Cert.MPreIdeal.nD Cert.MPreIdeal.τ).loc Cert.MPreIdeal.main_arg6)
      ∧ r.2.mem ((c.tc : Thread Cert.MPreIdeal.nD Cert.MPreIdeal.τ).loc Cert.MPreIdeal.main_arg7) = m ((c.tc : Thread Cert.MPreIdeal.nD Cert.MPreIdeal.τ).loc Cert.MPreIdeal.main_arg7))
      ∧ r.2.sem = fun _ => 0)

def quiescent_ReferenceMPreIdeal [hReferenceMPreIdeal : Cert.ReferenceMPreIdeal.Facts] : Prop :=
  ∀ (m : (ℓ : Loc Cert.ReferenceMPreIdeal.nD Cert.ReferenceMPreIdeal.τ Cert.ReferenceMPreIdeal.sig) → Buf (Elt Ideal) ℓ) (g : Dev Cert.ReferenceMPreIdeal.nD → PrngReg), Pre_ReferenceMPreIdeal m →
    θ_run (Cert.ReferenceMPreIdeal.defs (F := Ideal)) (onTc (τ := Cert.ReferenceMPreIdeal.τ) (Cert.ReferenceMPreIdeal.main (F := Ideal))) ⟨m, fun _ => 0, g⟩ (fun r => (∀ c : Dev Cert.ReferenceMPreIdeal.nD,
      r.2.mem ((c.tc : Thread Cert.ReferenceMPreIdeal.nD Cert.ReferenceMPreIdeal.τ).loc Cert.ReferenceMPreIdeal.main_arg0) = m ((c.tc : Thread Cert.ReferenceMPreIdeal.nD Cert.ReferenceMPreIdeal.τ).loc Cert.ReferenceMPreIdeal.main_arg0)
      ∧ r.2.mem ((c.tc : Thread Cert.ReferenceMPreIdeal.nD Cert.ReferenceMPreIdeal.τ).loc Cert.ReferenceMPreIdeal.main_arg1) = m ((c.tc : Thread Cert.ReferenceMPreIdeal.nD Cert.ReferenceMPreIdeal.τ).loc Cert.ReferenceMPreIdeal.main_arg1)
      ∧ r.2.mem ((c.tc : Thread Cert.ReferenceMPreIdeal.nD Cert.ReferenceMPreIdeal.τ).loc Cert.ReferenceMPreIdeal.main_arg2) = m ((c.tc : Thread Cert.ReferenceMPreIdeal.nD Cert.ReferenceMPreIdeal.τ).loc Cert.ReferenceMPreIdeal.main_arg2)
      ∧ r.2.mem ((c.tc : Thread Cert.ReferenceMPreIdeal.nD Cert.ReferenceMPreIdeal.τ).loc Cert.ReferenceMPreIdeal.main_arg3) = m ((c.tc : Thread Cert.ReferenceMPreIdeal.nD Cert.ReferenceMPreIdeal.τ).loc Cert.ReferenceMPreIdeal.main_arg3)
      ∧ r.2.mem ((c.tc : Thread Cert.ReferenceMPreIdeal.nD Cert.ReferenceMPreIdeal.τ).loc Cert.ReferenceMPreIdeal.main_arg4) = m ((c.tc : Thread Cert.ReferenceMPreIdeal.nD Cert.ReferenceMPreIdeal.τ).loc Cert.ReferenceMPreIdeal.main_arg4)
      ∧ r.2.mem ((c.tc : Thread Cert.ReferenceMPreIdeal.nD Cert.ReferenceMPreIdeal.τ).loc Cert.ReferenceMPreIdeal.main_arg5) = m ((c.tc : Thread Cert.ReferenceMPreIdeal.nD Cert.ReferenceMPreIdeal.τ).loc Cert.ReferenceMPreIdeal.main_arg5)
      ∧ r.2.mem ((c.tc : Thread Cert.ReferenceMPreIdeal.nD Cert.ReferenceMPreIdeal.τ).loc Cert.ReferenceMPreIdeal.main_arg6) = m ((c.tc : Thread Cert.ReferenceMPreIdeal.nD Cert.ReferenceMPreIdeal.τ).loc Cert.ReferenceMPreIdeal.main_arg6)
      ∧ r.2.mem ((c.tc : Thread Cert.ReferenceMPreIdeal.nD Cert.ReferenceMPreIdeal.τ).loc Cert.ReferenceMPreIdeal.main_arg7) = m ((c.tc : Thread Cert.ReferenceMPreIdeal.nD Cert.ReferenceMPreIdeal.τ).loc Cert.ReferenceMPreIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_v36) = v2 c
          ∧ r.2.mem ((c.tc : Thread Cert.ReferenceIdeal.nD Cert.ReferenceIdeal.τ).loc Cert.ReferenceIdeal.main_v38) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_MIn_MInIdeal : Prop :=
  True

def algebraic_MInIdeal_ReferenceMInIdeal [hMInIdeal : Cert.MInIdeal.Facts] [hReferenceMInIdeal : Cert.ReferenceMInIdeal.Facts] : Prop :=
  ∀ (m : (ℓ : Loc Cert.MInIdeal.nD Cert.MInIdeal.τ Cert.MInIdeal.sig) → Buf (Elt Ideal) ℓ) (g : Dev Cert.MInIdeal.nD → PrngReg)
    (m' : (ℓ : Loc Cert.ReferenceMInIdeal.nD Cert.ReferenceMInIdeal.τ Cert.ReferenceMInIdeal.sig) → Buf (Elt Ideal) ℓ) (g' : Dev Cert.ReferenceMInIdeal.nD → PrngReg), Pre_MInIdeal m →
    (∀ c : Dev Cert.MInIdeal.nD,
      m' ((c.tc : Thread Cert.ReferenceMInIdeal.nD Cert.ReferenceMInIdeal.τ).loc Cert.ReferenceMInIdeal.main_arg0) = m ((c.tc : Thread Cert.MInIdeal.nD Cert.MInIdeal.τ).loc Cert.MInIdeal.main_arg0)
      ∧ m' ((c.tc : Thread Cert.ReferenceMInIdeal.nD Cert.ReferenceMInIdeal.τ).loc Cert.ReferenceMInIdeal.main_arg1) = m ((c.tc : Thread Cert.MInIdeal.nD Cert.MInIdeal.τ).loc Cert.MInIdeal.main_arg1)
      ∧ m' ((c.tc : Thread Cert.ReferenceMInIdeal.nD Cert.ReferenceMInIdeal.τ).loc Cert.ReferenceMInIdeal.main_arg2) = m ((c.tc : Thread Cert.MInIdeal.nD Cert.MInIdeal.τ).loc Cert.MInIdeal.main_arg2)
      ∧ m' ((c.tc : Thread Cert.ReferenceMInIdeal.nD Cert.ReferenceMInIdeal.τ).loc Cert.ReferenceMInIdeal.main_arg3) = m ((c.tc : Thread Cert.MInIdeal.nD Cert.MInIdeal.τ).loc Cert.MInIdeal.main_arg3)) →
    ∃ (v0 : (c : Dev Cert.MInIdeal.nD) → Buf (Elt Ideal) ((c.tc : Thread Cert.MInIdeal.nD Cert.MInIdeal.τ).loc Cert.MInIdeal.main_v4)),
      θ_run (Cert.MInIdeal.defs (F := Ideal)) (onTc (τ := Cert.MInIdeal.τ) (Cert.MInIdeal.main (F := Ideal))) ⟨m, fun _ => 0, g⟩ (fun r => ∀ c : Dev Cert.MInIdeal.nD,
          r.2.mem ((c.tc : Thread Cert.MInIdeal.nD Cert.MInIdeal.τ).loc Cert.MInIdeal.main_v4) = v0 c
          ∧ r.2.mem ((c.tc : Thread Cert.MInIdeal.nD Cert.MInIdeal.τ).loc Cert.MInIdeal.main_arg0) = m ((c.tc : Thread Cert.MInIdeal.nD Cert.MInIdeal.τ).loc Cert.MInIdeal.main_arg0)
          ∧ r.2.mem ((c.tc : Thread Cert.MInIdeal.nD Cert.MInIdeal.τ).loc Cert.MInIdeal.main_arg1) = m ((c.tc : Thread Cert.MInIdeal.nD Cert.MInIdeal.τ).loc Cert.MInIdeal.main_arg1)
          ∧ r.2.mem ((c.tc : Thread Cert.MInIdeal.nD Cert.MInIdeal.τ).loc Cert.MInIdeal.main_arg2) = m ((c.tc : Thread Cert.MInIdeal.nD Cert.MInIdeal.τ).loc Cert.MInIdeal.main_arg2)
          ∧ r.2.mem ((c.tc : Thread Cert.MInIdeal.nD Cert.MInIdeal.τ).loc Cert.MInIdeal.main_arg3) = m ((c.tc : Thread Cert.MInIdeal.nD Cert.MInIdeal.τ).loc Cert.MInIdeal.main_arg3))
      ∧ θ_run (Cert.ReferenceMInIdeal.defs (F := Ideal)) (onTc (τ := Cert.ReferenceMInIdeal.τ) (Cert.ReferenceMInIdeal.main (F := Ideal))) ⟨m', fun _ => 0, g'⟩ (fun r => ∀ c : Dev Cert.ReferenceMInIdeal.nD,
          r.2.mem ((c.tc : Thread Cert.ReferenceMInIdeal.nD Cert.ReferenceMInIdeal.τ).loc Cert.ReferenceMInIdeal.main_v26) = v0 c
          ∧ r.2.mem ((c.tc : Thread Cert.ReferenceMInIdeal.nD Cert.ReferenceMInIdeal.τ).loc Cert.ReferenceMInIdeal.main_arg0) = m' ((c.tc : Thread Cert.ReferenceMInIdeal.nD Cert.ReferenceMInIdeal.τ).loc Cert.ReferenceMInIdeal.main_arg0)
          ∧ r.2.mem ((c.tc : Thread Cert.ReferenceMInIdeal.nD Cert.ReferenceMInIdeal.τ).loc Cert.ReferenceMInIdeal.main_arg1) = m' ((c.tc : Thread Cert.ReferenceMInIdeal.nD Cert.ReferenceMInIdeal.τ).loc Cert.ReferenceMInIdeal.main_arg1)
          ∧ r.2.mem ((c.tc : Thread Cert.ReferenceMInIdeal.nD Cert.ReferenceMInIdeal.τ).loc Cert.ReferenceMInIdeal.main_arg2) = m' ((c.tc : Thread Cert.ReferenceMInIdeal.nD Cert.ReferenceMInIdeal.τ).loc Cert.ReferenceMInIdeal.main_arg2)
          ∧ r.2.mem ((c.tc : Thread Cert.ReferenceMInIdeal.nD Cert.ReferenceMInIdeal.τ).loc Cert.ReferenceMInIdeal.main_arg3) = m' ((c.tc : Thread Cert.ReferenceMInIdeal.nD Cert.ReferenceMInIdeal.τ).loc Cert.ReferenceMInIdeal.main_arg3))

def preserves_HIn_HInIdeal : Prop :=
  True

def algebraic_HInIdeal_ReferenceHInIdeal [hHInIdeal : Cert.HInIdeal.Facts] [hReferenceHInIdeal : Cert.ReferenceHInIdeal.Facts] : Prop :=
  ∀ (m : (ℓ : Loc Cert.HInIdeal.nD Cert.HInIdeal.τ Cert.HInIdeal.sig) → Buf (Elt Ideal) ℓ) (g : Dev Cert.HInIdeal.nD → PrngReg)
    (m' : (ℓ : Loc Cert.ReferenceHInIdeal.nD Cert.ReferenceHInIdeal.τ Cert.ReferenceHInIdeal.sig) → Buf (Elt Ideal) ℓ) (g' : Dev Cert.ReferenceHInIdeal.nD → PrngReg), Pre_HInIdeal m →
    (∀ c : Dev Cert.HInIdeal.nD,
      m' ((c.tc : Thread Cert.ReferenceHInIdeal.nD Cert.ReferenceHInIdeal.τ).loc Cert.ReferenceHInIdeal.main_arg0) = m ((c.tc : Thread Cert.HInIdeal.nD Cert.HInIdeal.τ).loc Cert.HInIdeal.main_arg0)
      ∧ m' ((c.tc : Thread Cert.ReferenceHInIdeal.nD Cert.ReferenceHInIdeal.τ).loc Cert.ReferenceHInIdeal.main_arg1) = m ((c.tc : Thread Cert.HInIdeal.nD Cert.HInIdeal.τ).loc Cert.HInIdeal.main_arg1)
      ∧ m' ((c.tc : Thread Cert.ReferenceHInIdeal.nD Cert.ReferenceHInIdeal.τ).loc Cert.ReferenceHInIdeal.main_arg2) = m ((c.tc : Thread Cert.HInIdeal.nD Cert.HInIdeal.τ).loc Cert.HInIdeal.main_arg2)
      ∧ m' ((c.tc : Thread Cert.ReferenceHInIdeal.nD Cert.ReferenceHInIdeal.τ).loc Cert.ReferenceHInIdeal.main_arg3) = m ((c.tc : Thread Cert.HInIdeal.nD Cert.HInIdeal.τ).loc Cert.HInIdeal.main_arg3)
      ∧ m' ((c.tc : Thread Cert.ReferenceHInIdeal.nD Cert.ReferenceHInIdeal.τ).loc Cert.ReferenceHInIdeal.main_arg4) = m ((c.tc : Thread Cert.HInIdeal.nD Cert.HInIdeal.τ).loc Cert.HInIdeal.main_arg4)) →
    ∃ (v0 : (c : Dev Cert.HInIdeal.nD) → Buf (Elt Ideal) ((c.tc : Thread Cert.HInIdeal.nD Cert.HInIdeal.τ).loc Cert.HInIdeal.main_v3)),
      θ_run (Cert.HInIdeal.defs (F := Ideal)) (onTc (τ := Cert.HInIdeal.τ) (Cert.HInIdeal.main (F := Ideal))) ⟨m, fun _ => 0, g⟩ (fun r => ∀ c : Dev Cert.HInIdeal.nD,
          r.2.mem ((c.tc : Thread Cert.HInIdeal.nD Cert.HInIdeal.τ).loc Cert.HInIdeal.main_v3) = v0 c
          ∧ r.2.mem ((c.tc : Thread Cert.HInIdeal.nD Cert.HInIdeal.τ).loc Cert.HInIdeal.main_arg0) = m ((c.tc : Thread Cert.HInIdeal.nD Cert.HInIdeal.τ).loc Cert.HInIdeal.main_arg0)
          ∧ r.2.mem ((c.tc : Thread Cert.HInIdeal.nD Cert.HInIdeal.τ).loc Cert.HInIdeal.main_arg1) = m ((c.tc : Thread Cert.HInIdeal.nD Cert.HInIdeal.τ).loc Cert.HInIdeal.main_arg1)
          ∧ r.2.mem ((c.tc : Thread Cert.HInIdeal.nD Cert.HInIdeal.τ).loc Cert.HInIdeal.main_arg2) = m ((c.tc : Thread Cert.HInIdeal.nD Cert.HInIdeal.τ).loc Cert.HInIdeal.main_arg2)
          ∧ r.2.mem ((c.tc : Thread Cert.HInIdeal.nD Cert.HInIdeal.τ).loc Cert.HInIdeal.main_arg3) = m ((c.tc : Thread Cert.HInIdeal.nD Cert.HInIdeal.τ).loc Cert.HInIdeal.main_arg3)
          ∧ r.2.mem ((c.tc : Thread Cert.HInIdeal.nD Cert.HInIdeal.τ).loc Cert.HInIdeal.main_arg4) = m ((c.tc : Thread Cert.HInIdeal.nD Cert.HInIdeal.τ).loc Cert.HInIdeal.main_arg4))
      ∧ θ_run (Cert.ReferenceHInIdeal.defs (F := Ideal)) (onTc (τ := Cert.ReferenceHInIdeal.τ) (Cert.ReferenceHInIdeal.main (F := Ideal))) ⟨m', fun _ => 0, g'⟩ (fun r => ∀ c : Dev Cert.ReferenceHInIdeal.nD,
          r.2.mem ((c.tc : Thread Cert.ReferenceHInIdeal.nD Cert.ReferenceHInIdeal.τ).loc Cert.ReferenceHInIdeal.main_v29) = v0 c
          ∧ r.2.mem ((c.tc : Thread Cert.ReferenceHInIdeal.nD Cert.ReferenceHInIdeal.τ).loc Cert.ReferenceHInIdeal.main_arg0) = m' ((c.tc : Thread Cert.ReferenceHInIdeal.nD Cert.ReferenceHInIdeal.τ).loc Cert.ReferenceHInIdeal.main_arg0)
          ∧ r.2.mem ((c.tc : Thread Cert.ReferenceHInIdeal.nD Cert.ReferenceHInIdeal.τ).loc Cert.ReferenceHInIdeal.main_arg1) = m' ((c.tc : Thread Cert.ReferenceHInIdeal.nD Cert.ReferenceHInIdeal.τ).loc Cert.ReferenceHInIdeal.main_arg1)
          ∧ r.2.mem ((c.tc : Thread Cert.ReferenceHInIdeal.nD Cert.ReferenceHInIdeal.τ).loc Cert.ReferenceHInIdeal.main_arg2) = m' ((c.tc : Thread Cert.ReferenceHInIdeal.nD Cert.ReferenceHInIdeal.τ).loc Cert.ReferenceHInIdeal.main_arg2)
          ∧ r.2.mem ((c.tc : Thread Cert.ReferenceHInIdeal.nD Cert.ReferenceHInIdeal.τ).loc Cert.ReferenceHInIdeal.main_arg3) = m' ((c.tc : Thread Cert.ReferenceHInIdeal.nD Cert.ReferenceHInIdeal.τ).loc Cert.ReferenceHInIdeal.main_arg3)
          ∧ r.2.mem ((c.tc : Thread Cert.ReferenceHInIdeal.nD Cert.ReferenceHInIdeal.τ).loc Cert.ReferenceHInIdeal.main_arg4) = m' ((c.tc : Thread Cert.ReferenceHInIdeal.nD Cert.ReferenceHInIdeal.τ).loc Cert.ReferenceHInIdeal.main_arg4))

def preserves_MOut_MOutIdeal : Prop :=
  True

def algebraic_MOutIdeal_ReferenceMOutIdeal [hMOutIdeal : Cert.MOutIdeal.Facts] [hReferenceMOutIdeal : Cert.ReferenceMOutIdeal.Facts] : Prop :=
  ∀ (m : (ℓ : Loc Cert.MOutIdeal.nD Cert.MOutIdeal.τ Cert.MOutIdeal.sig) → Buf (Elt Ideal) ℓ) (g : Dev Cert.MOutIdeal.nD → PrngReg)
    (m' : (ℓ : Loc Cert.ReferenceMOutIdeal.nD Cert.ReferenceMOutIdeal.τ Cert.ReferenceMOutIdeal.sig) → Buf (Elt Ideal) ℓ) (g' : Dev Cert.ReferenceMOutIdeal.nD → PrngReg), Pre_MOutIdeal m →
    (∀ c : Dev Cert.MOutIdeal.nD,
      m' ((c.tc : Thread Cert.ReferenceMOutIdeal.nD Cert.ReferenceMOutIdeal.τ).loc Cert.ReferenceMOutIdeal.main_arg0) = m ((c.tc : Thread Cert.MOutIdeal.nD Cert.MOutIdeal.τ).loc Cert.MOutIdeal.main_arg0)
      ∧ m' ((c.tc : Thread Cert.ReferenceMOutIdeal.nD Cert.ReferenceMOutIdeal.τ).loc Cert.ReferenceMOutIdeal.main_arg1) = m ((c.tc : Thread Cert.MOutIdeal.nD Cert.MOutIdeal.τ).loc Cert.MOutIdeal.main_arg1)
      ∧ m' ((c.tc : Thread Cert.ReferenceMOutIdeal.nD Cert.ReferenceMOutIdeal.τ).loc Cert.ReferenceMOutIdeal.main_arg2) = m ((c.tc : Thread Cert.MOutIdeal.nD Cert.MOutIdeal.τ).loc Cert.MOutIdeal.main_arg2)
      ∧ m' ((c.tc : Thread Cert.ReferenceMOutIdeal.nD Cert.ReferenceMOutIdeal.τ).loc Cert.ReferenceMOutIdeal.main_arg3) = m ((c.tc : Thread Cert.MOutIdeal.nD Cert.MOutIdeal.τ).loc Cert.MOutIdeal.main_arg3)) →
    ∃ (v0 : (c : Dev Cert.MOutIdeal.nD) → Buf (Elt Ideal) ((c.tc : Thread Cert.MOutIdeal.nD Cert.MOutIdeal.τ).loc Cert.MOutIdeal.main_v3)),
      θ_run (Cert.MOutIdeal.defs (F := Ideal)) (onTc (τ := Cert.MOutIdeal.τ) (Cert.MOutIdeal.main (F := Ideal))) ⟨m, fun _ => 0, g⟩ (fun r => ∀ c : Dev Cert.MOutIdeal.nD,
          r.2.mem ((c.tc : Thread Cert.MOutIdeal.nD Cert.MOutIdeal.τ).loc Cert.MOutIdeal.main_v3) = v0 c
          ∧ r.2.mem ((c.tc : Thread Cert.MOutIdeal.nD Cert.MOutIdeal.τ).loc Cert.MOutIdeal.main_arg0) = m ((c.tc : Thread Cert.MOutIdeal.nD Cert.MOutIdeal.τ).loc Cert.MOutIdeal.main_arg0)
          ∧ r.2.mem ((c.tc : Thread Cert.MOutIdeal.nD Cert.MOutIdeal.τ).loc Cert.MOutIdeal.main_arg1) = m ((c.tc : Thread Cert.MOutIdeal.nD Cert.MOutIdeal.τ).loc Cert.MOutIdeal.main_arg1)
          ∧ r.2.mem ((c.tc : Thread Cert.MOutIdeal.nD Cert.MOutIdeal.τ).loc Cert.MOutIdeal.main_arg2) = m ((c.tc : Thread Cert.MOutIdeal.nD Cert.MOutIdeal.τ).loc Cert.MOutIdeal.main_arg2)
          ∧ r.2.mem ((c.tc : Thread Cert.MOutIdeal.nD Cert.MOutIdeal.τ).loc Cert.MOutIdeal.main_arg3) = m ((c.tc : Thread Cert.MOutIdeal.nD Cert.MOutIdeal.τ).loc Cert.MOutIdeal.main_arg3))
      ∧ θ_run (Cert.ReferenceMOutIdeal.defs (F := Ideal)) (onTc (τ := Cert.ReferenceMOutIdeal.τ) (Cert.ReferenceMOutIdeal.main (F := Ideal))) ⟨m', fun _ => 0, g'⟩ (fun r => ∀ c : Dev Cert.ReferenceMOutIdeal.nD,
          r.2.mem ((c.tc : Thread Cert.ReferenceMOutIdeal.nD Cert.ReferenceMOutIdeal.τ).loc Cert.ReferenceMOutIdeal.main_v7) = v0 c
          ∧ r.2.mem ((c.tc : Thread Cert.ReferenceMOutIdeal.nD Cert.ReferenceMOutIdeal.τ).loc Cert.ReferenceMOutIdeal.main_arg0) = m' ((c.tc : Thread Cert.ReferenceMOutIdeal.nD Cert.ReferenceMOutIdeal.τ).loc Cert.ReferenceMOutIdeal.main_arg0)
          ∧ r.2.mem ((c.tc : Thread Cert.ReferenceMOutIdeal.nD Cert.ReferenceMOutIdeal.τ).loc Cert.ReferenceMOutIdeal.main_arg1) = m' ((c.tc : Thread Cert.ReferenceMOutIdeal.nD Cert.ReferenceMOutIdeal.τ).loc Cert.ReferenceMOutIdeal.main_arg1)
          ∧ r.2.mem ((c.tc : Thread Cert.ReferenceMOutIdeal.nD Cert.ReferenceMOutIdeal.τ).loc Cert.ReferenceMOutIdeal.main_arg2) = m' ((c.tc : Thread Cert.ReferenceMOutIdeal.nD Cert.ReferenceMOutIdeal.τ).loc Cert.ReferenceMOutIdeal.main_arg2)
          ∧ r.2.mem ((c.tc : Thread Cert.ReferenceMOutIdeal.nD Cert.ReferenceMOutIdeal.τ).loc Cert.ReferenceMOutIdeal.main_arg3) = m' ((c.tc : Thread Cert.ReferenceMOutIdeal.nD Cert.ReferenceMOutIdeal.τ).loc Cert.ReferenceMOutIdeal.main_arg3))

def preserves_HOut_HOutIdeal : Prop :=
  True

def algebraic_HOutIdeal_ReferenceHOutIdeal [hHOutIdeal : Cert.HOutIdeal.Facts] [hReferenceHOutIdeal : Cert.ReferenceHOutIdeal.Facts] : Prop :=
  ∀ (m : (ℓ : Loc Cert.HOutIdeal.nD Cert.HOutIdeal.τ Cert.HOutIdeal.sig) → Buf (Elt Ideal) ℓ) (g : Dev Cert.HOutIdeal.nD → PrngReg)
    (m' : (ℓ : Loc Cert.ReferenceHOutIdeal.nD Cert.ReferenceHOutIdeal.τ Cert.ReferenceHOutIdeal.sig) → Buf (Elt Ideal) ℓ) (g' : Dev Cert.ReferenceHOutIdeal.nD → PrngReg), Pre_HOutIdeal m →
    (∀ c : Dev Cert.HOutIdeal.nD,
      m' ((c.tc : Thread Cert.ReferenceHOutIdeal.nD Cert.ReferenceHOutIdeal.τ).loc Cert.ReferenceHOutIdeal.main_arg0) = m ((c.tc : Thread Cert.HOutIdeal.nD Cert.HOutIdeal.τ).loc Cert.HOutIdeal.main_arg0)
      ∧ m' ((c.tc : Thread Cert.ReferenceHOutIdeal.nD Cert.ReferenceHOutIdeal.τ).loc Cert.ReferenceHOutIdeal.main_arg1) = m ((c.tc : Thread Cert.HOutIdeal.nD Cert.HOutIdeal.τ).loc Cert.HOutIdeal.main_arg1)
      ∧ m' ((c.tc : Thread Cert.ReferenceHOutIdeal.nD Cert.ReferenceHOutIdeal.τ).loc Cert.ReferenceHOutIdeal.main_arg2) = m ((c.tc : Thread Cert.HOutIdeal.nD Cert.HOutIdeal.τ).loc Cert.HOutIdeal.main_arg2)
      ∧ m' ((c.tc : Thread Cert.ReferenceHOutIdeal.nD Cert.ReferenceHOutIdeal.τ).loc Cert.ReferenceHOutIdeal.main_arg3) = m ((c.tc : Thread Cert.HOutIdeal.nD Cert.HOutIdeal.τ).loc Cert.HOutIdeal.main_arg3)
      ∧ m' ((c.tc : Thread Cert.ReferenceHOutIdeal.nD Cert.ReferenceHOutIdeal.τ).loc Cert.ReferenceHOutIdeal.main_arg4) = m ((c.tc : Thread Cert.HOutIdeal.nD Cert.HOutIdeal.τ).loc Cert.HOutIdeal.main_arg4)) →
    ∃ (v0 : (c : Dev Cert.HOutIdeal.nD) → Buf (Elt Ideal) ((c.tc : Thread Cert.HOutIdeal.nD Cert.HOutIdeal.τ).loc Cert.HOutIdeal.main_v2)),
      θ_run (Cert.HOutIdeal.defs (F := Ideal)) (onTc (τ := Cert.HOutIdeal.τ) (Cert.HOutIdeal.main (F := Ideal))) ⟨m, fun _ => 0, g⟩ (fun r => ∀ c : Dev Cert.HOutIdeal.nD,
          r.2.mem ((c.tc : Thread Cert.HOutIdeal.nD Cert.HOutIdeal.τ).loc Cert.HOutIdeal.main_v2) = v0 c
          ∧ r.2.mem ((c.tc : Thread Cert.HOutIdeal.nD Cert.HOutIdeal.τ).loc Cert.HOutIdeal.main_arg0) = m ((c.tc : Thread Cert.HOutIdeal.nD Cert.HOutIdeal.τ).loc Cert.HOutIdeal.main_arg0)
          ∧ r.2.mem ((c.tc : Thread Cert.HOutIdeal.nD Cert.HOutIdeal.τ).loc Cert.HOutIdeal.main_arg1) = m ((c.tc : Thread Cert.HOutIdeal.nD Cert.HOutIdeal.τ).loc Cert.HOutIdeal.main_arg1)
          ∧ r.2.mem ((c.tc : Thread Cert.HOutIdeal.nD Cert.HOutIdeal.τ).loc Cert.HOutIdeal.main_arg2) = m ((c.tc : Thread Cert.HOutIdeal.nD Cert.HOutIdeal.τ).loc Cert.HOutIdeal.main_arg2)
          ∧ r.2.mem ((c.tc : Thread Cert.HOutIdeal.nD Cert.HOutIdeal.τ).loc Cert.HOutIdeal.main_arg3) = m ((c.tc : Thread Cert.HOutIdeal.nD Cert.HOutIdeal.τ).loc Cert.HOutIdeal.main_arg3)
          ∧ r.2.mem ((c.tc : Thread Cert.HOutIdeal.nD Cert.HOutIdeal.τ).loc Cert.HOutIdeal.main_arg4) = m ((c.tc : Thread Cert.HOutIdeal.nD Cert.HOutIdeal.τ).loc Cert.HOutIdeal.main_arg4))
      ∧ θ_run (Cert.ReferenceHOutIdeal.defs (F := Ideal)) (onTc (τ := Cert.ReferenceHOutIdeal.τ) (Cert.ReferenceHOutIdeal.main (F := Ideal))) ⟨m', fun _ => 0, g'⟩ (fun r => ∀ c : Dev Cert.ReferenceHOutIdeal.nD,
          r.2.mem ((c.tc : Thread Cert.ReferenceHOutIdeal.nD Cert.ReferenceHOutIdeal.τ).loc Cert.ReferenceHOutIdeal.main_v11) = v0 c
          ∧ r.2.mem ((c.tc : Thread Cert.ReferenceHOutIdeal.nD Cert.ReferenceHOutIdeal.τ).loc Cert.ReferenceHOutIdeal.main_arg0) = m' ((c.tc : Thread Cert.ReferenceHOutIdeal.nD Cert.ReferenceHOutIdeal.τ).loc Cert.ReferenceHOutIdeal.main_arg0)
          ∧ r.2.mem ((c.tc : Thread Cert.ReferenceHOutIdeal.nD Cert.ReferenceHOutIdeal.τ).loc Cert.ReferenceHOutIdeal.main_arg1) = m' ((c.tc : Thread Cert.ReferenceHOutIdeal.nD Cert.ReferenceHOutIdeal.τ).loc Cert.ReferenceHOutIdeal.main_arg1)
          ∧ r.2.mem ((c.tc : Thread Cert.ReferenceHOutIdeal.nD Cert.ReferenceHOutIdeal.τ).loc Cert.ReferenceHOutIdeal.main_arg2) = m' ((c.tc : Thread Cert.ReferenceHOutIdeal.nD Cert.ReferenceHOutIdeal.τ).loc Cert.ReferenceHOutIdeal.main_arg2)
          ∧ r.2.mem ((c.tc : Thread Cert.ReferenceHOutIdeal.nD Cert.ReferenceHOutIdeal.τ).loc Cert.ReferenceHOutIdeal.main_arg3) = m' ((c.tc : Thread Cert.ReferenceHOutIdeal.nD Cert.ReferenceHOutIdeal.τ).loc Cert.ReferenceHOutIdeal.main_arg3)
          ∧ r.2.mem ((c.tc : Thread Cert.ReferenceHOutIdeal.nD Cert.ReferenceHOutIdeal.τ).loc Cert.ReferenceHOutIdeal.main_arg4) = m' ((c.tc : Thread Cert.ReferenceHOutIdeal.nD Cert.ReferenceHOutIdeal.τ).loc Cert.ReferenceHOutIdeal.main_arg4))

def preserves_MInCol_MInColIdeal : Prop :=
  True

def algebraic_MInColIdeal_ReferenceMInColIdeal [hMInColIdeal : Cert.MInColIdeal.Facts] [hReferenceMInColIdeal : Cert.ReferenceMInColIdeal.Facts] : Prop :=
  ∀ (m : (ℓ : Loc Cert.MInColIdeal.nD Cert.MInColIdeal.τ Cert.MInColIdeal.sig) → Buf (Elt Ideal) ℓ) (g : Dev Cert.MInColIdeal.nD → PrngReg)
    (m' : (ℓ : Loc Cert.ReferenceMInColIdeal.nD Cert.ReferenceMInColIdeal.τ Cert.ReferenceMInColIdeal.sig) → Buf (Elt Ideal) ℓ) (g' : Dev Cert.ReferenceMInColIdeal.nD → PrngReg), Pre_MInColIdeal m →
    (∀ c : Dev Cert.MInColIdeal.nD,
      m' ((c.tc : Thread Cert.ReferenceMInColIdeal.nD Cert.ReferenceMInColIdeal.τ).loc Cert.ReferenceMInColIdeal.main_arg0) = m ((c.tc : Thread Cert.MInColIdeal.nD Cert.MInColIdeal.τ).loc Cert.MInColIdeal.main_arg0)
      ∧ m' ((c.tc : Thread Cert.ReferenceMInColIdeal.nD Cert.ReferenceMInColIdeal.τ).loc Cert.ReferenceMInColIdeal.main_arg1) = m ((c.tc : Thread Cert.MInColIdeal.nD Cert.MInColIdeal.τ).loc Cert.MInColIdeal.main_arg1)
      ∧ m' ((c.tc : Thread Cert.ReferenceMInColIdeal.nD Cert.ReferenceMInColIdeal.τ).loc Cert.ReferenceMInColIdeal.main_arg2) = m ((c.tc : Thread Cert.MInColIdeal.nD Cert.MInColIdeal.τ).loc Cert.MInColIdeal.main_arg2)
      ∧ m' ((c.tc : Thread Cert.ReferenceMInColIdeal.nD Cert.ReferenceMInColIdeal.τ).loc Cert.ReferenceMInColIdeal.main_arg3) = m ((c.tc : Thread Cert.MInColIdeal.nD Cert.MInColIdeal.τ).loc Cert.MInColIdeal.main_arg3)) →
    ∃ (v0 : (c : Dev Cert.MInColIdeal.nD) → Buf (Elt Ideal) ((c.tc : Thread Cert.MInColIdeal.nD Cert.MInColIdeal.τ).loc Cert.MInColIdeal.main_v5)),
      θ_run (Cert.MInColIdeal.defs (F := Ideal)) (onTc (τ := Cert.MInColIdeal.τ) (Cert.MInColIdeal.main (F := Ideal))) ⟨m, fun _ => 0, g⟩ (fun r => ∀ c : Dev Cert.MInColIdeal.nD,
          r.2.mem ((c.tc : Thread Cert.MInColIdeal.nD Cert.MInColIdeal.τ).loc Cert.MInColIdeal.main_v5) = v0 c
          ∧ r.2.mem ((c.tc : Thread Cert.MInColIdeal.nD Cert.MInColIdeal.τ).loc Cert.MInColIdeal.main_arg0) = m ((c.tc : Thread Cert.MInColIdeal.nD Cert.MInColIdeal.τ).loc Cert.MInColIdeal.main_arg0)
          ∧ r.2.mem ((c.tc : Thread Cert.MInColIdeal.nD Cert.MInColIdeal.τ).loc Cert.MInColIdeal.main_arg1) = m ((c.tc : Thread Cert.MInColIdeal.nD Cert.MInColIdeal.τ).loc Cert.MInColIdeal.main_arg1)
          ∧ r.2.mem ((c.tc : Thread Cert.MInColIdeal.nD Cert.MInColIdeal.τ).loc Cert.MInColIdeal.main_arg2) = m ((c.tc : Thread Cert.MInColIdeal.nD Cert.MInColIdeal.τ).loc Cert.MInColIdeal.main_arg2)
          ∧ r.2.mem ((c.tc : Thread Cert.MInColIdeal.nD Cert.MInColIdeal.τ).loc Cert.MInColIdeal.main_arg3) = m ((c.tc : Thread Cert.MInColIdeal.nD Cert.MInColIdeal.τ).loc Cert.MInColIdeal.main_arg3))
      ∧ θ_run (Cert.ReferenceMInColIdeal.defs (F := Ideal)) (onTc (τ := Cert.ReferenceMInColIdeal.τ) (Cert.ReferenceMInColIdeal.main (F := Ideal))) ⟨m', fun _ => 0, g'⟩ (fun r => ∀ c : Dev Cert.ReferenceMInColIdeal.nD,
          r.2.mem ((c.tc : Thread Cert.ReferenceMInColIdeal.nD Cert.ReferenceMInColIdeal.τ).loc Cert.ReferenceMInColIdeal.main_v28) = v0 c
          ∧ r.2.mem ((c.tc : Thread Cert.ReferenceMInColIdeal.nD Cert.ReferenceMInColIdeal.τ).loc Cert.ReferenceMInColIdeal.main_arg0) = m' ((c.tc : Thread Cert.ReferenceMInColIdeal.nD Cert.ReferenceMInColIdeal.τ).loc Cert.ReferenceMInColIdeal.main_arg0)
          ∧ r.2.mem ((c.tc : Thread Cert.ReferenceMInColIdeal.nD Cert.ReferenceMInColIdeal.τ).loc Cert.ReferenceMInColIdeal.main_arg1) = m' ((c.tc : Thread Cert.ReferenceMInColIdeal.nD Cert.ReferenceMInColIdeal.τ).loc Cert.ReferenceMInColIdeal.main_arg1)
          ∧ r.2.mem ((c.tc : Thread Cert.ReferenceMInColIdeal.nD Cert.ReferenceMInColIdeal.τ).loc Cert.ReferenceMInColIdeal.main_arg2) = m' ((c.tc : Thread Cert.ReferenceMInColIdeal.nD Cert.ReferenceMInColIdeal.τ).loc Cert.ReferenceMInColIdeal.main_arg2)
          ∧ r.2.mem ((c.tc : Thread Cert.ReferenceMInColIdeal.nD Cert.ReferenceMInColIdeal.τ).loc Cert.ReferenceMInColIdeal.main_arg3) = m' ((c.tc : Thread Cert.ReferenceMInColIdeal.nD Cert.ReferenceMInColIdeal.τ).loc Cert.ReferenceMInColIdeal.main_arg3))

def preserves_HInCol_HInColIdeal : Prop :=
  True

def algebraic_HInColIdeal_ReferenceHInColIdeal [hHInColIdeal : Cert.HInColIdeal.Facts] [hReferenceHInColIdeal : Cert.ReferenceHInColIdeal.Facts] : Prop :=
  ∀ (m : (ℓ : Loc Cert.HInColIdeal.nD Cert.HInColIdeal.τ Cert.HInColIdeal.sig) → Buf (Elt Ideal) ℓ) (g : Dev Cert.HInColIdeal.nD → PrngReg)
    (m' : (ℓ : Loc Cert.ReferenceHInColIdeal.nD Cert.ReferenceHInColIdeal.τ Cert.ReferenceHInColIdeal.sig) → Buf (Elt Ideal) ℓ) (g' : Dev Cert.ReferenceHInColIdeal.nD → PrngReg), Pre_HInColIdeal m →
    (∀ c : Dev Cert.HInColIdeal.nD,
      m' ((c.tc : Thread Cert.ReferenceHInColIdeal.nD Cert.ReferenceHInColIdeal.τ).loc Cert.ReferenceHInColIdeal.main_arg0) = m ((c.tc : Thread Cert.HInColIdeal.nD Cert.HInColIdeal.τ).loc Cert.HInColIdeal.main_arg0)
      ∧ m' ((c.tc : Thread Cert.ReferenceHInColIdeal.nD Cert.ReferenceHInColIdeal.τ).loc Cert.ReferenceHInColIdeal.main_arg1) = m ((c.tc : Thread Cert.HInColIdeal.nD Cert.HInColIdeal.τ).loc Cert.HInColIdeal.main_arg1)
      ∧ m' ((c.tc : Thread Cert.ReferenceHInColIdeal.nD Cert.ReferenceHInColIdeal.τ).loc Cert.ReferenceHInColIdeal.main_arg2) = m ((c.tc : Thread Cert.HInColIdeal.nD Cert.HInColIdeal.τ).loc Cert.HInColIdeal.main_arg2)
      ∧ m' ((c.tc : Thread Cert.ReferenceHInColIdeal.nD Cert.ReferenceHInColIdeal.τ).loc Cert.ReferenceHInColIdeal.main_arg3) = m ((c.tc : Thread Cert.HInColIdeal.nD Cert.HInColIdeal.τ).loc Cert.HInColIdeal.main_arg3)
      ∧ m' ((c.tc : Thread Cert.ReferenceHInColIdeal.nD Cert.ReferenceHInColIdeal.τ).loc Cert.ReferenceHInColIdeal.main_arg4) = m ((c.tc : Thread Cert.HInColIdeal.nD Cert.HInColIdeal.τ).loc Cert.HInColIdeal.main_arg4)) →
    ∃ (v0 : (c : Dev Cert.HInColIdeal.nD) → Buf (Elt Ideal) ((c.tc : Thread Cert.HInColIdeal.nD Cert.HInColIdeal.τ).loc Cert.HInColIdeal.main_v4)),
      θ_run (Cert.HInColIdeal.defs (F := Ideal)) (onTc (τ := Cert.HInColIdeal.τ) (Cert.HInColIdeal.main (F := Ideal))) ⟨m, fun _ => 0, g⟩ (fun r => ∀ c : Dev Cert.HInColIdeal.nD,
          r.2.mem ((c.tc : Thread Cert.HInColIdeal.nD Cert.HInColIdeal.τ).loc Cert.HInColIdeal.main_v4) = v0 c
          ∧ r.2.mem ((c.tc : Thread Cert.HInColIdeal.nD Cert.HInColIdeal.τ).loc Cert.HInColIdeal.main_arg0) = m ((c.tc : Thread Cert.HInColIdeal.nD Cert.HInColIdeal.τ).loc Cert.HInColIdeal.main_arg0)
          ∧ r.2.mem ((c.tc : Thread Cert.HInColIdeal.nD Cert.HInColIdeal.τ).loc Cert.HInColIdeal.main_arg1) = m ((c.tc : Thread Cert.HInColIdeal.nD Cert.HInColIdeal.τ).loc Cert.HInColIdeal.main_arg1)
          ∧ r.2.mem ((c.tc : Thread Cert.HInColIdeal.nD Cert.HInColIdeal.τ).loc Cert.HInColIdeal.main_arg2) = m ((c.tc : Thread Cert.HInColIdeal.nD Cert.HInColIdeal.τ).loc Cert.HInColIdeal.main_arg2)
          ∧ r.2.mem ((c.tc : Thread Cert.HInColIdeal.nD Cert.HInColIdeal.τ).loc Cert.HInColIdeal.main_arg3) = m ((c.tc : Thread Cert.HInColIdeal.nD Cert.HInColIdeal.τ).loc Cert.HInColIdeal.main_arg3)
          ∧ r.2.mem ((c.tc : Thread Cert.HInColIdeal.nD Cert.HInColIdeal.τ).loc Cert.HInColIdeal.main_arg4) = m ((c.tc : Thread Cert.HInColIdeal.nD Cert.HInColIdeal.τ).loc Cert.HInColIdeal.main_arg4))
      ∧ θ_run (Cert.ReferenceHInColIdeal.defs (F := Ideal)) (onTc (τ := Cert.ReferenceHInColIdeal.τ) (Cert.ReferenceHInColIdeal.main (F := Ideal))) ⟨m', fun _ => 0, g'⟩ (fun r => ∀ c : Dev Cert.ReferenceHInColIdeal.nD,
          r.2.mem ((c.tc : Thread Cert.ReferenceHInColIdeal.nD Cert.ReferenceHInColIdeal.τ).loc Cert.ReferenceHInColIdeal.main_v31) = v0 c
          ∧ r.2.mem ((c.tc : Thread Cert.ReferenceHInColIdeal.nD Cert.ReferenceHInColIdeal.τ).loc Cert.ReferenceHInColIdeal.main_arg0) = m' ((c.tc : Thread Cert.ReferenceHInColIdeal.nD Cert.ReferenceHInColIdeal.τ).loc Cert.ReferenceHInColIdeal.main_arg0)
          ∧ r.2.mem ((c.tc : Thread Cert.ReferenceHInColIdeal.nD Cert.ReferenceHInColIdeal.τ).loc Cert.ReferenceHInColIdeal.main_arg1) = m' ((c.tc : Thread Cert.ReferenceHInColIdeal.nD Cert.ReferenceHInColIdeal.τ).loc Cert.ReferenceHInColIdeal.main_arg1)
          ∧ r.2.mem ((c.tc : Thread Cert.ReferenceHInColIdeal.nD Cert.ReferenceHInColIdeal.τ).loc Cert.ReferenceHInColIdeal.main_arg2) = m' ((c.tc : Thread Cert.ReferenceHInColIdeal.nD Cert.ReferenceHInColIdeal.τ).loc Cert.ReferenceHInColIdeal.main_arg2)
          ∧ r.2.mem ((c.tc : Thread Cert.ReferenceHInColIdeal.nD Cert.ReferenceHInColIdeal.τ).loc Cert.ReferenceHInColIdeal.main_arg3) = m' ((c.tc : Thread Cert.ReferenceHInColIdeal.nD Cert.ReferenceHInColIdeal.τ).loc Cert.ReferenceHInColIdeal.main_arg3)
          ∧ r.2.mem ((c.tc : Thread Cert.ReferenceHInColIdeal.nD Cert.ReferenceHInColIdeal.τ).loc Cert.ReferenceHInColIdeal.main_arg4) = m' ((c.tc : Thread Cert.ReferenceHInColIdeal.nD Cert.ReferenceHInColIdeal.τ).loc Cert.ReferenceHInColIdeal.main_arg4))

def preserves_MOutCol_MOutColIdeal : Prop :=
  True

def algebraic_MOutColIdeal_ReferenceMOutColIdeal [hMOutColIdeal : Cert.MOutColIdeal.Facts] [hReferenceMOutColIdeal : Cert.ReferenceMOutColIdeal.Facts] : Prop :=
  ∀ (m : (ℓ : Loc Cert.MOutColIdeal.nD Cert.MOutColIdeal.τ Cert.MOutColIdeal.sig) → Buf (Elt Ideal) ℓ) (g : Dev Cert.MOutColIdeal.nD → PrngReg)
    (m' : (ℓ : Loc Cert.ReferenceMOutColIdeal.nD Cert.ReferenceMOutColIdeal.τ Cert.ReferenceMOutColIdeal.sig) → Buf (Elt Ideal) ℓ) (g' : Dev Cert.ReferenceMOutColIdeal.nD → PrngReg), Pre_MOutColIdeal m →
    (∀ c : Dev Cert.MOutColIdeal.nD,
      m' ((c.tc : Thread Cert.ReferenceMOutColIdeal.nD Cert.ReferenceMOutColIdeal.τ).loc Cert.ReferenceMOutColIdeal.main_arg0) = m ((c.tc : Thread Cert.MOutColIdeal.nD Cert.MOutColIdeal.τ).loc Cert.MOutColIdeal.main_arg0)
      ∧ m' ((c.tc : Thread Cert.ReferenceMOutColIdeal.nD Cert.ReferenceMOutColIdeal.τ).loc Cert.ReferenceMOutColIdeal.main_arg1) = m ((c.tc : Thread Cert.MOutColIdeal.nD Cert.MOutColIdeal.τ).loc Cert.MOutColIdeal.main_arg1)
      ∧ m' ((c.tc : Thread Cert.ReferenceMOutColIdeal.nD Cert.ReferenceMOutColIdeal.τ).loc Cert.ReferenceMOutColIdeal.main_arg2) = m ((c.tc : Thread Cert.MOutColIdeal.nD Cert.MOutColIdeal.τ).loc Cert.MOutColIdeal.main_arg2)
      ∧ m' ((c.tc : Thread Cert.ReferenceMOutColIdeal.nD Cert.ReferenceMOutColIdeal.τ).loc Cert.ReferenceMOutColIdeal.main_arg3) = m ((c.tc : Thread Cert.MOutColIdeal.nD Cert.MOutColIdeal.τ).loc Cert.MOutColIdeal.main_arg3)) →
    ∃ (v0 : (c : Dev Cert.MOutColIdeal.nD) → Buf (Elt Ideal) ((c.tc : Thread Cert.MOutColIdeal.nD Cert.MOutColIdeal.τ).loc Cert.MOutColIdeal.main_v5)),
      θ_run (Cert.MOutColIdeal.defs (F := Ideal)) (onTc (τ := Cert.MOutColIdeal.τ) (Cert.MOutColIdeal.main (F := Ideal))) ⟨m, fun _ => 0, g⟩ (fun r => ∀ c : Dev Cert.MOutColIdeal.nD,
          r.2.mem ((c.tc : Thread Cert.MOutColIdeal.nD Cert.MOutColIdeal.τ).loc Cert.MOutColIdeal.main_v5) = v0 c
          ∧ r.2.mem ((c.tc : Thread Cert.MOutColIdeal.nD Cert.MOutColIdeal.τ).loc Cert.MOutColIdeal.main_arg0) = m ((c.tc : Thread Cert.MOutColIdeal.nD Cert.MOutColIdeal.τ).loc Cert.MOutColIdeal.main_arg0)
          ∧ r.2.mem ((c.tc : Thread Cert.MOutColIdeal.nD Cert.MOutColIdeal.τ).loc Cert.MOutColIdeal.main_arg1) = m ((c.tc : Thread Cert.MOutColIdeal.nD Cert.MOutColIdeal.τ).loc Cert.MOutColIdeal.main_arg1)
          ∧ r.2.mem ((c.tc : Thread Cert.MOutColIdeal.nD Cert.MOutColIdeal.τ).loc Cert.MOutColIdeal.main_arg2) = m ((c.tc : Thread Cert.MOutColIdeal.nD Cert.MOutColIdeal.τ).loc Cert.MOutColIdeal.main_arg2)
          ∧ r.2.mem ((c.tc : Thread Cert.MOutColIdeal.nD Cert.MOutColIdeal.τ).loc Cert.MOutColIdeal.main_arg3) = m ((c.tc : Thread Cert.MOutColIdeal.nD Cert.MOutColIdeal.τ).loc Cert.MOutColIdeal.main_arg3))
      ∧ θ_run (Cert.ReferenceMOutColIdeal.defs (F := Ideal)) (onTc (τ := Cert.ReferenceMOutColIdeal.τ) (Cert.ReferenceMOutColIdeal.main (F := Ideal))) ⟨m', fun _ => 0, g'⟩ (fun r => ∀ c : Dev Cert.ReferenceMOutColIdeal.nD,
          r.2.mem ((c.tc : Thread Cert.ReferenceMOutColIdeal.nD Cert.ReferenceMOutColIdeal.τ).loc Cert.ReferenceMOutColIdeal.main_v10) = v0 c
          ∧ r.2.mem ((c.tc : Thread Cert.ReferenceMOutColIdeal.nD Cert.ReferenceMOutColIdeal.τ).loc Cert.ReferenceMOutColIdeal.main_arg0) = m' ((c.tc : Thread Cert.ReferenceMOutColIdeal.nD Cert.ReferenceMOutColIdeal.τ).loc Cert.ReferenceMOutColIdeal.main_arg0)
          ∧ r.2.mem ((c.tc : Thread Cert.ReferenceMOutColIdeal.nD Cert.ReferenceMOutColIdeal.τ).loc Cert.ReferenceMOutColIdeal.main_arg1) = m' ((c.tc : Thread Cert.ReferenceMOutColIdeal.nD Cert.ReferenceMOutColIdeal.τ).loc Cert.ReferenceMOutColIdeal.main_arg1)
          ∧ r.2.mem ((c.tc : Thread Cert.ReferenceMOutColIdeal.nD Cert.ReferenceMOutColIdeal.τ).loc Cert.ReferenceMOutColIdeal.main_arg2) = m' ((c.tc : Thread Cert.ReferenceMOutColIdeal.nD Cert.ReferenceMOutColIdeal.τ).loc Cert.ReferenceMOutColIdeal.main_arg2)
          ∧ r.2.mem ((c.tc : Thread Cert.ReferenceMOutColIdeal.nD Cert.ReferenceMOutColIdeal.τ).loc Cert.ReferenceMOutColIdeal.main_arg3) = m' ((c.tc : Thread Cert.ReferenceMOutColIdeal.nD Cert.ReferenceMOutColIdeal.τ).loc Cert.ReferenceMOutColIdeal.main_arg3))

def preserves_HOutCol_HOutColIdeal : Prop :=
  True

def algebraic_HOutColIdeal_ReferenceHOutColIdeal [hHOutColIdeal : Cert.HOutColIdeal.Facts] [hReferenceHOutColIdeal : Cert.ReferenceHOutColIdeal.Facts] : Prop :=
  ∀ (m : (ℓ : Loc Cert.HOutColIdeal.nD Cert.HOutColIdeal.τ Cert.HOutColIdeal.sig) → Buf (Elt Ideal) ℓ) (g : Dev Cert.HOutColIdeal.nD → PrngReg)
    (m' : (ℓ : Loc Cert.ReferenceHOutColIdeal.nD Cert.ReferenceHOutColIdeal.τ Cert.ReferenceHOutColIdeal.sig) → Buf (Elt Ideal) ℓ) (g' : Dev Cert.ReferenceHOutColIdeal.nD → PrngReg), Pre_HOutColIdeal m →
    (∀ c : Dev Cert.HOutColIdeal.nD,
      m' ((c.tc : Thread Cert.ReferenceHOutColIdeal.nD Cert.ReferenceHOutColIdeal.τ).loc Cert.ReferenceHOutColIdeal.main_arg0) = m ((c.tc : Thread Cert.HOutColIdeal.nD Cert.HOutColIdeal.τ).loc Cert.HOutColIdeal.main_arg0)
      ∧ m' ((c.tc : Thread Cert.ReferenceHOutColIdeal.nD Cert.ReferenceHOutColIdeal.τ).loc Cert.ReferenceHOutColIdeal.main_arg1) = m ((c.tc : Thread Cert.HOutColIdeal.nD Cert.HOutColIdeal.τ).loc Cert.HOutColIdeal.main_arg1)
      ∧ m' ((c.tc : Thread Cert.ReferenceHOutColIdeal.nD Cert.ReferenceHOutColIdeal.τ).loc Cert.ReferenceHOutColIdeal.main_arg2) = m ((c.tc : Thread Cert.HOutColIdeal.nD Cert.HOutColIdeal.τ).loc Cert.HOutColIdeal.main_arg2)
      ∧ m' ((c.tc : Thread Cert.ReferenceHOutColIdeal.nD Cert.ReferenceHOutColIdeal.τ).loc Cert.ReferenceHOutColIdeal.main_arg3) = m ((c.tc : Thread Cert.HOutColIdeal.nD Cert.HOutColIdeal.τ).loc Cert.HOutColIdeal.main_arg3)
      ∧ m' ((c.tc : Thread Cert.ReferenceHOutColIdeal.nD Cert.ReferenceHOutColIdeal.τ).loc Cert.ReferenceHOutColIdeal.main_arg4) = m ((c.tc : Thread Cert.HOutColIdeal.nD Cert.HOutColIdeal.τ).loc Cert.HOutColIdeal.main_arg4)) →
    ∃ (v0 : (c : Dev Cert.HOutColIdeal.nD) → Buf (Elt Ideal) ((c.tc : Thread Cert.HOutColIdeal.nD Cert.HOutColIdeal.τ).loc Cert.HOutColIdeal.main_v4)),
      θ_run (Cert.HOutColIdeal.defs (F := Ideal)) (onTc (τ := Cert.HOutColIdeal.τ) (Cert.HOutColIdeal.main (F := Ideal))) ⟨m, fun _ => 0, g⟩ (fun r => ∀ c : Dev Cert.HOutColIdeal.nD,
          r.2.mem ((c.tc : Thread Cert.HOutColIdeal.nD Cert.HOutColIdeal.τ).loc Cert.HOutColIdeal.main_v4) = v0 c
          ∧ r.2.mem ((c.tc : Thread Cert.HOutColIdeal.nD Cert.HOutColIdeal.τ).loc Cert.HOutColIdeal.main_arg0) = m ((c.tc : Thread Cert.HOutColIdeal.nD Cert.HOutColIdeal.τ).loc Cert.HOutColIdeal.main_arg0)
          ∧ r.2.mem ((c.tc : Thread Cert.HOutColIdeal.nD Cert.HOutColIdeal.τ).loc Cert.HOutColIdeal.main_arg1) = m ((c.tc : Thread Cert.HOutColIdeal.nD Cert.HOutColIdeal.τ).loc Cert.HOutColIdeal.main_arg1)
          ∧ r.2.mem ((c.tc : Thread Cert.HOutColIdeal.nD Cert.HOutColIdeal.τ).loc Cert.HOutColIdeal.main_arg2) = m ((c.tc : Thread Cert.HOutColIdeal.nD Cert.HOutColIdeal.τ).loc Cert.HOutColIdeal.main_arg2)
          ∧ r.2.mem ((c.tc : Thread Cert.HOutColIdeal.nD Cert.HOutColIdeal.τ).loc Cert.HOutColIdeal.main_arg3) = m ((c.tc : Thread Cert.HOutColIdeal.nD Cert.HOutColIdeal.τ).loc Cert.HOutColIdeal.main_arg3)
          ∧ r.2.mem ((c.tc : Thread Cert.HOutColIdeal.nD Cert.HOutColIdeal.τ).loc Cert.HOutColIdeal.main_arg4) = m ((c.tc : Thread Cert.HOutColIdeal.nD Cert.HOutColIdeal.τ).loc Cert.HOutColIdeal.main_arg4))
      ∧ θ_run (Cert.ReferenceHOutColIdeal.defs (F := Ideal)) (onTc (τ := Cert.ReferenceHOutColIdeal.τ) (Cert.ReferenceHOutColIdeal.main (F := Ideal))) ⟨m', fun _ => 0, g'⟩ (fun r => ∀ c : Dev Cert.ReferenceHOutColIdeal.nD,
          r.2.mem ((c.tc : Thread Cert.ReferenceHOutColIdeal.nD Cert.ReferenceHOutColIdeal.τ).loc Cert.ReferenceHOutColIdeal.main_v14) = v0 c
          ∧ r.2.mem ((c.tc : Thread Cert.ReferenceHOutColIdeal.nD Cert.ReferenceHOutColIdeal.τ).loc Cert.ReferenceHOutColIdeal.main_arg0) = m' ((c.tc : Thread Cert.ReferenceHOutColIdeal.nD Cert.ReferenceHOutColIdeal.τ).loc Cert.ReferenceHOutColIdeal.main_arg0)
          ∧ r.2.mem ((c.tc : Thread Cert.ReferenceHOutColIdeal.nD Cert.ReferenceHOutColIdeal.τ).loc Cert.ReferenceHOutColIdeal.main_arg1) = m' ((c.tc : Thread Cert.ReferenceHOutColIdeal.nD Cert.ReferenceHOutColIdeal.τ).loc Cert.ReferenceHOutColIdeal.main_arg1)
          ∧ r.2.mem ((c.tc : Thread Cert.ReferenceHOutColIdeal.nD Cert.ReferenceHOutColIdeal.τ).loc Cert.ReferenceHOutColIdeal.main_arg2) = m' ((c.tc : Thread Cert.ReferenceHOutColIdeal.nD Cert.ReferenceHOutColIdeal.τ).loc Cert.ReferenceHOutColIdeal.main_arg2)
          ∧ r.2.mem ((c.tc : Thread Cert.ReferenceHOutColIdeal.nD Cert.ReferenceHOutColIdeal.τ).loc Cert.ReferenceHOutColIdeal.main_arg3) = m' ((c.tc : Thread Cert.ReferenceHOutColIdeal.nD Cert.ReferenceHOutColIdeal.τ).loc Cert.ReferenceHOutColIdeal.main_arg3)
          ∧ r.2.mem ((c.tc : Thread Cert.ReferenceHOutColIdeal.nD Cert.ReferenceHOutColIdeal.τ).loc Cert.ReferenceHOutColIdeal.main_arg4) = m' ((c.tc : Thread Cert.ReferenceHOutColIdeal.nD Cert.ReferenceHOutColIdeal.τ).loc Cert.ReferenceHOutColIdeal.main_arg4))

def preserves_MPre_MPreIdeal : Prop :=
  True

def algebraic_MPreIdeal_ReferenceMPreIdeal [hMPreIdeal : Cert.MPreIdeal.Facts] [hReferenceMPreIdeal : Cert.ReferenceMPreIdeal.Facts] : Prop :=
  ∀ (m : (ℓ : Loc Cert.MPreIdeal.nD Cert.MPreIdeal.τ Cert.MPreIdeal.sig) → Buf (Elt Ideal) ℓ) (g : Dev Cert.MPreIdeal.nD → PrngReg)
    (m' : (ℓ : Loc Cert.ReferenceMPreIdeal.nD Cert.ReferenceMPreIdeal.τ Cert.ReferenceMPreIdeal.sig) → Buf (Elt Ideal) ℓ) (g' : Dev Cert.ReferenceMPreIdeal.nD → PrngReg), Pre_MPreIdeal m →
    (∀ c : Dev Cert.MPreIdeal.nD,
      m' ((c.tc : Thread Cert.ReferenceMPreIdeal.nD Cert.ReferenceMPreIdeal.τ).loc Cert.ReferenceMPreIdeal.main_arg0) = m ((c.tc : Thread Cert.MPreIdeal.nD Cert.MPreIdeal.τ).loc Cert.MPreIdeal.main_arg0)
      ∧ m' ((c.tc : Thread Cert.ReferenceMPreIdeal.nD Cert.ReferenceMPreIdeal.τ).loc Cert.ReferenceMPreIdeal.main_arg1) = m ((c.tc : Thread Cert.MPreIdeal.nD Cert.MPreIdeal.τ).loc Cert.MPreIdeal.main_arg1)
      ∧ m' ((c.tc : Thread Cert.ReferenceMPreIdeal.nD Cert.ReferenceMPreIdeal.τ).loc Cert.ReferenceMPreIdeal.main_arg2) = m ((c.tc : Thread Cert.MPreIdeal.nD Cert.MPreIdeal.τ).loc Cert.MPreIdeal.main_arg2)
      ∧ m' ((c.tc : Thread Cert.ReferenceMPreIdeal.nD Cert.ReferenceMPreIdeal.τ).loc Cert.ReferenceMPreIdeal.main_arg3) = m ((c.tc : Thread Cert.MPreIdeal.nD Cert.MPreIdeal.τ).loc Cert.MPreIdeal.main_arg3)
      ∧ m' ((c.tc : Thread Cert.ReferenceMPreIdeal.nD Cert.ReferenceMPreIdeal.τ).loc Cert.ReferenceMPreIdeal.main_arg4) = m ((c.tc : Thread Cert.MPreIdeal.nD Cert.MPreIdeal.τ).loc Cert.MPreIdeal.main_arg4)
      ∧ m' ((c.tc : Thread Cert.ReferenceMPreIdeal.nD Cert.ReferenceMPreIdeal.τ).loc Cert.ReferenceMPreIdeal.main_arg5) = m ((c.tc : Thread Cert.MPreIdeal.nD Cert.MPreIdeal.τ).loc Cert.MPreIdeal.main_arg5)
      ∧ m' ((c.tc : Thread Cert.ReferenceMPreIdeal.nD Cert.ReferenceMPreIdeal.τ).loc Cert.ReferenceMPreIdeal.main_arg6) = m ((c.tc : Thread Cert.MPreIdeal.nD Cert.MPreIdeal.τ).loc Cert.MPreIdeal.main_arg6)
      ∧ m' ((c.tc : Thread Cert.ReferenceMPreIdeal.nD Cert.ReferenceMPreIdeal.τ).loc Cert.ReferenceMPreIdeal.main_arg7) = m ((c.tc : Thread Cert.MPreIdeal.nD Cert.MPreIdeal.τ).loc Cert.MPreIdeal.main_arg7)) →
    ∃ (v0 : (c : Dev Cert.MPreIdeal.nD) → Buf (Elt Ideal) ((c.tc : Thread Cert.MPreIdeal.nD Cert.MPreIdeal.τ).loc Cert.MPreIdeal.main_v13_0)) (v1 : (c : Dev Cert.MPreIdeal.nD) → Buf (Elt Ideal) ((c.tc : Thread Cert.MPreIdeal.nD Cert.MPreIdeal.τ).loc Cert.MPreIdeal.main_v13_1)) (v2 : (c : Dev Cert.MPreIdeal.nD) → Buf (Elt Ideal) ((c.tc : Thread Cert.MPreIdeal.nD Cert.MPreIdeal.τ).loc Cert.MPreIdeal.main_v13_2)) (v3 : (c : Dev Cert.MPreIdeal.nD) → Buf (Elt Ideal) ((c.tc : Thread Cert.MPreIdeal.nD Cert.MPreIdeal.τ).loc Cert.MPreIdeal.main_v13_3)) (v4 : (c : Dev Cert.MPreIdeal.nD) → Buf (Elt Ideal) ((c.tc : Thread Cert.MPreIdeal.nD Cert.MPreIdeal.τ).loc Cert.MPreIdeal.main_v13_4)) (v5 : (c : Dev Cert.MPreIdeal.nD) → Buf (Elt Ideal) ((c.tc : Thread Cert.MPreIdeal.nD Cert.MPreIdeal.τ).loc Cert.MPreIdeal.main_v13_5)),
      θ_run (Cert.MPreIdeal.defs (F := Ideal)) (onTc (τ := Cert.MPreIdeal.τ) (Cert.MPreIdeal.main (F := Ideal))) ⟨m, fun _ => 0, g⟩ (fun r => ∀ c : Dev Cert.MPreIdeal.nD,
          r.2.mem ((c.tc : Thread Cert.MPreIdeal.nD Cert.MPreIdeal.τ).loc Cert.MPreIdeal.main_v13_0) = v0 c
          ∧ r.2.mem ((c.tc : Thread Cert.MPreIdeal.nD Cert.MPreIdeal.τ).loc Cert.MPreIdeal.main_v13_1) = v1 c
          ∧ r.2.mem ((c.tc : Thread Cert.MPreIdeal.nD Cert.MPreIdeal.τ).loc Cert.MPreIdeal.main_v13_2) = v2 c
          ∧ r.2.mem ((c.tc : Thread Cert.MPreIdeal.nD Cert.MPreIdeal.τ).loc Cert.MPreIdeal.main_v13_3) = v3 c
          ∧ r.2.mem ((c.tc : Thread Cert.MPreIdeal.nD Cert.MPreIdeal.τ).loc Cert.MPreIdeal.main_v13_4) = v4 c
          ∧ r.2.mem ((c.tc : Thread Cert.MPreIdeal.nD Cert.MPreIdeal.τ).loc Cert.MPreIdeal.main_v13_5) = v5 c
          ∧ r.2.mem ((c.tc : Thread Cert.MPreIdeal.nD Cert.MPreIdeal.τ).loc Cert.MPreIdeal.main_arg0) = m ((c.tc : Thread Cert.MPreIdeal.nD Cert.MPreIdeal.τ).loc Cert.MPreIdeal.main_arg0)
          ∧ r.2.mem ((c.tc : Thread Cert.MPreIdeal.nD Cert.MPreIdeal.τ).loc Cert.MPreIdeal.main_arg1) = m ((c.tc : Thread Cert.MPreIdeal.nD Cert.MPreIdeal.τ).loc Cert.MPreIdeal.main_arg1)
          ∧ r.2.mem ((c.tc : Thread Cert.MPreIdeal.nD Cert.MPreIdeal.τ).loc Cert.MPreIdeal.main_arg2) = m ((c.tc : Thread Cert.MPreIdeal.nD Cert.MPreIdeal.τ).loc Cert.MPreIdeal.main_arg2)
          ∧ r.2.mem ((c.tc : Thread Cert.MPreIdeal.nD Cert.MPreIdeal.τ).loc Cert.MPreIdeal.main_arg3) = m ((c.tc : Thread Cert.MPreIdeal.nD Cert.MPreIdeal.τ).loc Cert.MPreIdeal.main_arg3)
          ∧ r.2.mem ((c.tc : Thread Cert.MPreIdeal.nD Cert.MPreIdeal.τ).loc Cert.MPreIdeal.main_arg4) = m ((c.tc : Thread Cert.MPreIdeal.nD Cert.MPreIdeal.τ).loc Cert.MPreIdeal.main_arg4)
          ∧ r.2.mem ((c.tc : Thread Cert.MPreIdeal.nD Cert.MPreIdeal.τ).loc Cert.MPreIdeal.main_arg5) = m ((c.tc : Thread Cert.MPreIdeal.nD Cert.MPreIdeal.τ).loc Cert.MPreIdeal.main_arg5)
          ∧ r.2.mem ((c.tc : Thread Cert.MPreIdeal.nD Cert.MPreIdeal.τ).loc Cert.MPreIdeal.main_arg6) = m ((c.tc : Thread Cert.MPreIdeal.nD Cert.MPreIdeal.τ).loc Cert.MPreIdeal.main_arg6)
          ∧ r.2.mem ((c.tc : Thread Cert.MPreIdeal.nD Cert.MPreIdeal.τ).loc Cert.MPreIdeal.main_arg7) = m ((c.tc : Thread Cert.MPreIdeal.nD Cert.MPreIdeal.τ).loc Cert.MPreIdeal.main_arg7))
      ∧ θ_run (Cert.ReferenceMPreIdeal.defs (F := Ideal)) (onTc (τ := Cert.ReferenceMPreIdeal.τ) (Cert.ReferenceMPreIdeal.main (F := Ideal))) ⟨m', fun _ => 0, g'⟩ (fun r => ∀ c : Dev Cert.ReferenceMPreIdeal.nD,
          r.2.mem ((c.tc : Thread Cert.ReferenceMPreIdeal.nD Cert.ReferenceMPreIdeal.τ).loc Cert.ReferenceMPreIdeal.main_v52) = v0 c
          ∧ r.2.mem ((c.tc : Thread Cert.ReferenceMPreIdeal.nD Cert.ReferenceMPreIdeal.τ).loc Cert.ReferenceMPreIdeal.main_v53) = v1 c
          ∧ r.2.mem ((c.tc : Thread Cert.ReferenceMPreIdeal.nD Cert.ReferenceMPreIdeal.τ).loc Cert.ReferenceMPreIdeal.main_v54) = v2 c
          ∧ r.2.mem ((c.tc : Thread Cert.ReferenceMPreIdeal.nD Cert.ReferenceMPreIdeal.τ).loc Cert.ReferenceMPreIdeal.main_v55) = v3 c
          ∧ r.2.mem ((c.tc : Thread Cert.ReferenceMPreIdeal.nD Cert.ReferenceMPreIdeal.τ).loc Cert.ReferenceMPreIdeal.main_v56) = v4 c
          ∧ r.2.mem ((c.tc : Thread Cert.ReferenceMPreIdeal.nD Cert.ReferenceMPreIdeal.τ).loc Cert.ReferenceMPreIdeal.main_v57) = v5 c
          ∧ r.2.mem ((c.tc : Thread Cert.ReferenceMPreIdeal.nD Cert.ReferenceMPreIdeal.τ).loc Cert.ReferenceMPreIdeal.main_arg0) = m' ((c.tc : Thread Cert.ReferenceMPreIdeal.nD Cert.ReferenceMPreIdeal.τ).loc Cert.ReferenceMPreIdeal.main_arg0)
          ∧ r.2.mem ((c.tc : Thread Cert.ReferenceMPreIdeal.nD Cert.ReferenceMPreIdeal.τ).loc Cert.ReferenceMPreIdeal.main_arg1) = m' ((c.tc : Thread Cert.ReferenceMPreIdeal.nD Cert.ReferenceMPreIdeal.τ).loc Cert.ReferenceMPreIdeal.main_arg1)
          ∧ r.2.mem ((c.tc : Thread Cert.ReferenceMPreIdeal.nD Cert.ReferenceMPreIdeal.τ).loc Cert.ReferenceMPreIdeal.main_arg2) = m' ((c.tc : Thread Cert.ReferenceMPreIdeal.nD Cert.ReferenceMPreIdeal.τ).loc Cert.ReferenceMPreIdeal.main_arg2)
          ∧ r.2.mem ((c.tc : Thread Cert.ReferenceMPreIdeal.nD Cert.ReferenceMPreIdeal.τ).loc Cert.ReferenceMPreIdeal.main_arg3) = m' ((c.tc : Thread Cert.ReferenceMPreIdeal.nD Cert.ReferenceMPreIdeal.τ).loc Cert.ReferenceMPreIdeal.main_arg3)
          ∧ r.2.mem ((c.tc : Thread Cert.ReferenceMPreIdeal.nD Cert.ReferenceMPreIdeal.τ).loc Cert.ReferenceMPreIdeal.main_arg4) = m' ((c.tc : Thread Cert.ReferenceMPreIdeal.nD Cert.ReferenceMPreIdeal.τ).loc Cert.ReferenceMPreIdeal.main_arg4)
          ∧ r.2.mem ((c.tc : Thread Cert.ReferenceMPreIdeal.nD Cert.ReferenceMPreIdeal.τ).loc Cert.ReferenceMPreIdeal.main_arg5) = m' ((c.tc : Thread Cert.ReferenceMPreIdeal.nD Cert.ReferenceMPreIdeal.τ).loc Cert.ReferenceMPreIdeal.main_arg5)
          ∧ r.2.mem ((c.tc : Thread Cert.ReferenceMPreIdeal.nD Cert.ReferenceMPreIdeal.τ).loc Cert.ReferenceMPreIdeal.main_arg6) = m' ((c.tc : Thread Cert.ReferenceMPreIdeal.nD Cert.ReferenceMPreIdeal.τ).loc Cert.ReferenceMPreIdeal.main_arg6)
          ∧ r.2.mem ((c.tc : Thread Cert.ReferenceMPreIdeal.nD Cert.ReferenceMPreIdeal.τ).loc Cert.ReferenceMPreIdeal.main_arg7) = m' ((c.tc : Thread Cert.ReferenceMPreIdeal.nD Cert.ReferenceMPreIdeal.τ).loc Cert.ReferenceMPreIdeal.main_arg7))

def Claim : Prop :=
  ∃ (hKernel : Cert.Kernel.Facts) (hKernelIdeal : Cert.KernelIdeal.Facts) (hReferenceIdeal : Cert.ReferenceIdeal.Facts) (hMIn : Cert.MIn.Facts) (hMInIdeal : Cert.MInIdeal.Facts) (hReferenceMInIdeal : Cert.ReferenceMInIdeal.Facts) (hHIn : Cert.HIn.Facts) (hHInIdeal : Cert.HInIdeal.Facts) (hReferenceHInIdeal : Cert.ReferenceHInIdeal.Facts) (hMOut : Cert.MOut.Facts) (hMOutIdeal : Cert.MOutIdeal.Facts) (hReferenceMOutIdeal : Cert.ReferenceMOutIdeal.Facts) (hHOut : Cert.HOut.Facts) (hHOutIdeal : Cert.HOutIdeal.Facts) (hReferenceHOutIdeal : Cert.ReferenceHOutIdeal.Facts) (hMInCol : Cert.MInCol.Facts) (hMInColIdeal : Cert.MInColIdeal.Facts) (hReferenceMInColIdeal : Cert.ReferenceMInColIdeal.Facts) (hHInCol : Cert.HInCol.Facts) (hHInColIdeal : Cert.HInColIdeal.Facts) (hReferenceHInColIdeal : Cert.ReferenceHInColIdeal.Facts) (hMOutCol : Cert.MOutCol.Facts) (hMOutColIdeal : Cert.MOutColIdeal.Facts) (hReferenceMOutColIdeal : Cert.ReferenceMOutColIdeal.Facts) (hHOutCol : Cert.HOutCol.Facts) (hHOutColIdeal : Cert.HOutColIdeal.Facts) (hReferenceHOutColIdeal : Cert.ReferenceHOutColIdeal.Facts) (hMPre : Cert.MPre.Facts) (hMPreIdeal : Cert.MPreIdeal.Facts) (hReferenceMPreIdeal : Cert.ReferenceMPreIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_MIn (hMIn := hMIn)
    ∧ quiescent_MInIdeal (hMInIdeal := hMInIdeal)
    ∧ quiescent_ReferenceMInIdeal (hReferenceMInIdeal := hReferenceMInIdeal)
    ∧ quiescent_HIn (hHIn := hHIn)
    ∧ quiescent_HInIdeal (hHInIdeal := hHInIdeal)
    ∧ quiescent_ReferenceHInIdeal (hReferenceHInIdeal := hReferenceHInIdeal)
    ∧ quiescent_MOut (hMOut := hMOut)
    ∧ quiescent_MOutIdeal (hMOutIdeal := hMOutIdeal)
    ∧ quiescent_ReferenceMOutIdeal (hReferenceMOutIdeal := hReferenceMOutIdeal)
    ∧ quiescent_HOut (hHOut := hHOut)
    ∧ quiescent_HOutIdeal (hHOutIdeal := hHOutIdeal)
    ∧ quiescent_ReferenceHOutIdeal (hReferenceHOutIdeal := hReferenceHOutIdeal)
    ∧ quiescent_MInCol (hMInCol := hMInCol)
    ∧ quiescent_MInColIdeal (hMInColIdeal := hMInColIdeal)
    ∧ quiescent_ReferenceMInColIdeal (hReferenceMInColIdeal := hReferenceMInColIdeal)
    ∧ quiescent_HInCol (hHInCol := hHInCol)
    ∧ quiescent_HInColIdeal (hHInColIdeal := hHInColIdeal)
    ∧ quiescent_ReferenceHInColIdeal (hReferenceHInColIdeal := hReferenceHInColIdeal)
    ∧ quiescent_MOutCol (hMOutCol := hMOutCol)
    ∧ quiescent_MOutColIdeal (hMOutColIdeal := hMOutColIdeal)
    ∧ quiescent_ReferenceMOutColIdeal (hReferenceMOutColIdeal := hReferenceMOutColIdeal)
    ∧ quiescent_HOutCol (hHOutCol := hHOutCol)
    ∧ quiescent_HOutColIdeal (hHOutColIdeal := hHOutColIdeal)
    ∧ quiescent_ReferenceHOutColIdeal (hReferenceHOutColIdeal := hReferenceHOutColIdeal)
    ∧ quiescent_MPre (hMPre := hMPre)
    ∧ quiescent_MPreIdeal (hMPreIdeal := hMPreIdeal)
    ∧ quiescent_ReferenceMPreIdeal (hReferenceMPreIdeal := hReferenceMPreIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_MIn_MInIdeal
    ∧ algebraic_MInIdeal_ReferenceMInIdeal (hMInIdeal := hMInIdeal) (hReferenceMInIdeal := hReferenceMInIdeal)
    ∧ preserves_HIn_HInIdeal
    ∧ algebraic_HInIdeal_ReferenceHInIdeal (hHInIdeal := hHInIdeal) (hReferenceHInIdeal := hReferenceHInIdeal)
    ∧ preserves_MOut_MOutIdeal
    ∧ algebraic_MOutIdeal_ReferenceMOutIdeal (hMOutIdeal := hMOutIdeal) (hReferenceMOutIdeal := hReferenceMOutIdeal)
    ∧ preserves_HOut_HOutIdeal
    ∧ algebraic_HOutIdeal_ReferenceHOutIdeal (hHOutIdeal := hHOutIdeal) (hReferenceHOutIdeal := hReferenceHOutIdeal)
    ∧ preserves_MInCol_MInColIdeal
    ∧ algebraic_MInColIdeal_ReferenceMInColIdeal (hMInColIdeal := hMInColIdeal) (hReferenceMInColIdeal := hReferenceMInColIdeal)
    ∧ preserves_HInCol_HInColIdeal
    ∧ algebraic_HInColIdeal_ReferenceHInColIdeal (hHInColIdeal := hHInColIdeal) (hReferenceHInColIdeal := hReferenceHInColIdeal)
    ∧ preserves_MOutCol_MOutColIdeal
    ∧ algebraic_MOutColIdeal_ReferenceMOutColIdeal (hMOutColIdeal := hMOutColIdeal) (hReferenceMOutColIdeal := hReferenceMOutColIdeal)
    ∧ preserves_HOutCol_HOutColIdeal
    ∧ algebraic_HOutColIdeal_ReferenceHOutColIdeal (hHOutColIdeal := hHOutColIdeal) (hReferenceHOutColIdeal := hReferenceHOutColIdeal)
    ∧ preserves_MPre_MPreIdeal
    ∧ algebraic_MPreIdeal_ReferenceMPreIdeal (hMPreIdeal := hMPreIdeal) (hReferenceMPreIdeal := hReferenceMPreIdeal)
-- ==== Pre_finite.lean ====
abbrev S16384x1024 : Shape := ⟨2, ![16384, 1024]⟩
abbrev S16384x2048 : Shape := ⟨2, ![16384, 2048]⟩
abbrev S16384x128 : Shape := ⟨2, ![16384, 128]⟩
abbrev S4x256x512 : Shape := ⟨3, ![4, 256, 512]⟩
abbrev S4x1x256 : Shape := ⟨3, ![4, 1, 256]⟩
abbrev S4x1x128 : Shape := ⟨3, ![4, 1, 128]⟩
abbrev S_ : Shape := ⟨0, ![]⟩
abbrev S16384x8 : Shape := ⟨2, ![16384, 8]⟩
abbrev S4x1x1 : Shape := ⟨3, ![4, 1, 1]⟩
abbrev S4 : Shape := ⟨1, ![4]⟩

class Facts : Prop where
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S16384x2048 : S_.BroadcastsInDim S16384x2048 (![] : Fin 0 → Fin S16384x2048.rank)
  reducesTo_S16384x2048_S_d0_1 : S16384x2048.ReducesTo [0, 1] S_
  slices_S16384x128_S16384x8_0_0 : S16384x128.Slices ![0, 0] S16384x8
  bcast_S_S16384x8 : S_.BroadcastsInDim S16384x8 (![] : Fin 0 → Fin S16384x8.rank)
  reducesTo_S16384x8_S_d0_1 : S16384x8.ReducesTo [0, 1] S_
  bcast_S_S4x256x512 : S_.BroadcastsInDim S4x256x512 (![] : Fin 0 → Fin S4x256x512.rank)
  reducesTo_S4x256x512_S_d0_1_2 : S4x256x512.ReducesTo [0, 1, 2] S_
  bcast_S_S4x1x256 : S_.BroadcastsInDim S4x1x256 (![] : Fin 0 → Fin S4x1x256.rank)
  reducesTo_S4x1x256_S_d0_1_2 : S4x1x256.ReducesTo [0, 1, 2] S_
  slices_S4x1x128_S4x1x1_0_0_0 : S4x1x128.Slices ![0, 0, 0] S4x1x1
  shapeCasts_S4x1x1_S4 : S4x1x1.ShapeCasts S4
  bcast_S_S4 : S_.BroadcastsInDim S4 (![] : Fin 0 → Fin S4.rank)
  reducesTo_S4_S_d0 : S4.ReducesTo [0] S_

variable [Facts]

def fn_part2 {F : FTy → Type} [FloatOps F] (main_v32 : IVec S_ 1) (main_v35 : FVec F S4 .f32) : IVec S_ 1 :=
  let main_cst_10 : FVec F S_ .f32 := constant S_ .f32 0x7F800000#32
  let main_v36 : FVec F S4 .f32 := broadcastInDim S4 ![] bcast_S_S4 main_cst_10
  let main_v37 : IVec S4 1 := cmpf .olt main_v35 main_v36
  let main_c_11 : IVec S_ 1 := constantI S_ 1 1#1
  let main_v38 : IVec S_ 1 := (fun x v => Host.reduce IntOp.andi x v reducesTo_S4_S_d0 h_S_) main_v37 main_c_11
  let main_v39 : IVec S_ 1 := andi main_v32 main_v38
  main_v39

def fn_part1 {F : FTy → Type} [FloatOps F] (main_arg4 : FVec F S4x256x512 .f32) (main_arg5 : FVec F S4x1x256 .f32) (main_arg6 : FVec F S4x1x128 .f32) (main_v16 : IVec S_ 1) (main_v17 : FVec F S16384x8 .f32) : IVec S_ 1 :=
  let main_v18 : FVec F S16384x8 .f32 := Host.absf main_v17
  let main_cst_4 : FVec F S_ .f32 := constant S_ .f32 0x7F800000#32
  let main_v19 : FVec F S16384x8 .f32 := broadcastInDim S16384x8 ![] bcast_S_S16384x8 main_cst_4
  let main_v20 : IVec S16384x8 1 := cmpf .olt main_v18 main_v19
  let main_c_5 : IVec S_ 1 := constantI S_ 1 1#1
  let main_v21 : IVec S_ 1 := (fun x v => Host.reduce IntOp.andi x v reducesTo_S16384x8_S_d0_1 h_S_) main_v20 main_c_5
  let main_v22 : IVec S_ 1 := andi main_v16 main_v21
  let main_v23 : FVec F S4x256x512 .f32 := Host.absf main_arg4
  let main_cst_6 : FVec F S_ .f32 := constant S_ .f32 0x7F800000#32
  let main_v24 : FVec F S4x256x512 .f32 := broadcastInDim S4x256x512 ![] bcast_S_S4x256x512 main_cst_6
  let main_v25 : IVec S4x256x512 1 := cmpf .olt main_v23 main_v24
  let main_c_7 : IVec S_ 1 := constantI S_ 1 1#1
  let main_v26 : IVec S_ 1 := (fun x v => Host.reduce IntOp.andi x v reducesTo_S4x256x512_S_d0_1_2 h_S_) main_v25 main_c_7
  let main_v27 : IVec S_ 1 := andi main_v22 main_v26
  let main_v28 : FVec F S4x1x256 .f32 := Host.absf main_arg5
  let main_cst_8 : FVec F S_ .f32 := constant S_ .f32 0x7F800000#32
  let main_v29 : FVec F S4x1x256 .f32 := broadcastInDim S4x1x256 ![] bcast_S_S4x1x256 main_cst_8
  let main_v30 : IVec S4x1x256 1 := cmpf .olt main_v28 main_v29
  let main_c_9 : IVec S_ 1 := constantI S_ 1 1#1
  let main_v31 : IVec S_ 1 := (fun x v => Host.reduce IntOp.andi x v reducesTo_S4x1x256_S_d0_1_2 h_S_) main_v30 main_c_9
  let main_v32 : IVec S_ 1 := andi main_v27 main_v31
  let main_v33 : FVec F S4x1x1 .f32 := (extractStridedSlice S4x1x1 ![0, 0, 0] · slices_S4x1x128_S4x1x1_0_0_0) main_arg6
  let main_v34 : FVec F S4 .f32 := shapeCast S4 main_v33 shapeCasts_S4x1x1_S4
  let main_v35 : FVec F S4 .f32 := Host.absf main_v34
  fn_part2 (F := F) main_v32 main_v35

def fn {F : FTy → Type} [FloatOps F] (main_arg0 : FVec F S16384x1024 .bf16) (main_arg1 : FVec F S16384x1024 .bf16) (main_arg2 : FVec F S16384x2048 .bf16) (main_arg3 : FVec F S16384x128 .f32) (main_arg4 : FVec F S4x256x512 .f32) (main_arg5 : FVec F S4x1x256 .f32) (main_arg6 : FVec F S4x1x128 .f32) : IVec S_ 1 :=
  let main_v0 : FVec F S16384x1024 .f32 := (extf .f32 · bitsLt_bf16_f32) main_arg0
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_c : IVec S_ 1 := constantI S_ 1 1#1
  let main_v4 : IVec S_ 1 := (fun x v => Host.reduce IntOp.andi x v reducesTo_S16384x1024_S_d0_1 h_S_) main_v3 main_c
  let main_v5 : FVec F S16384x1024 .f32 := (extf .f32 · bitsLt_bf16_f32) main_arg1
  let main_v6 : FVec F S16384x1024 .f32 := Host.absf main_v5
  let main_cst_0 : FVec F S_ .f32 := constant S_ .f32 0x7F800000#32
  let main_v7 : FVec F S16384x1024 .f32 := broadcastInDim S16384x1024 ![] bcast_S_S16384x1024 main_cst_0
  let main_v8 : IVec S16384x1024 1 := cmpf .olt main_v6 main_v7
  let main_c_1 : IVec S_ 1 := constantI S_ 1 1#1
  let main_v9 : IVec S_ 1 := (fun x v => Host.reduce IntOp.andi x v reducesTo_S16384x1024_S_d0_1 h_S_) main_v8 main_c_1
  let main_v10 : IVec S_ 1 := andi main_v4 main_v9
  let main_v11 : FVec F S16384x2048 .f32 := (extf .f32 · bitsLt_bf16_f32) main_arg2
  let main_v12 : FVec F S16384x2048 .f32 := Host.absf main_v11
  let main_cst_2 : FVec F S_ .f32 := constant S_ .f32 0x7F800000#32
  let main_v13 : FVec F S16384x2048 .f32 := broadcastInDim S16384x2048 ![] bcast_S_S16384x2048 main_cst_2
  let main_v14 : IVec S16384x2048 1 := cmpf .olt main_v12 main_v13
  let main_c_3 : IVec S_ 1 := constantI S_ 1 1#1
  let main_v15 : IVec S_ 1 := (fun x v => Host.reduce IntOp.andi x v reducesTo_S16384x2048_S_d0_1 h_S_) main_v14 main_c_3
  let main_v16 : IVec S_ 1 := andi main_v10 main_v15
  let main_v17 : FVec F S16384x8 .f32 := (extractStridedSlice S16384x8 ![0, 0] · slices_S16384x128_S16384x8_0_0) main_arg3
  fn_part1 (F := F) main_arg4 main_arg5 main_arg6 main_v16 main_v17
-- ==== Kernel.lean ====
abbrev S16384x1024 : Shape := ⟨2, ![16384, 1024]⟩
abbrev S16384x2048 : Shape := ⟨2, ![16384, 2048]⟩
abbrev S16384x128 : Shape := ⟨2, ![16384, 128]⟩
abbrev S4x256x512 : Shape := ⟨3, ![4, 256, 512]⟩
abbrev S4x1x256 : Shape := ⟨3, ![4, 1, 256]⟩
abbrev S4x1x128 : Shape := ⟨3, ![4, 1, 128]⟩
abbrev S128x16384 : Shape := ⟨2, ![128, 16384]⟩
abbrev S16x16384 : Shape := ⟨2, ![16, 16384]⟩
abbrev S256x1024 : Shape := ⟨2, ![256, 1024]⟩
abbrev S256x2048 : Shape := ⟨2, ![256, 2048]⟩
abbrev S256x128 : Shape := ⟨2, ![256, 128]⟩
abbrev S16x256 : Shape := ⟨2, ![16, 256]⟩
abbrev S256x256 : Shape := ⟨2, ![256, 256]⟩
abbrev S1x128 : Shape := ⟨2, ![1, 128]⟩
abbrev S256x1 : Shape := ⟨2, ![256, 1]⟩
abbrev S1x256 : Shape := ⟨2, ![1, 256]⟩
abbrev S1x1 : Shape := ⟨2, ![1, 1]⟩
abbrev S1x1x128 : Shape := ⟨3, ![1, 1, 128]⟩
abbrev S256 : Shape := ⟨1, ![256]⟩
abbrev S256x512 : Shape := ⟨2, ![256, 512]⟩
abbrev S1x256x512 : Shape := ⟨3, ![1, 256, 512]⟩
abbrev S1x1x256 : Shape := ⟨3, ![1, 1, 256]⟩
abbrev S1 : Shape := ⟨1, ![1]⟩

abbrev nBuf : Space → Nat
  | .hbm => 13
  | .vmem => 21
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x2048, .bf16⟩
  | .hbm, ⟨3, _⟩ => ⟨S16384x128, .f32⟩
  | .hbm, ⟨4, _⟩ => ⟨S4x256x512, .f32⟩
  | .hbm, ⟨5, _⟩ => ⟨S4x1x256, .f32⟩
  | .hbm, ⟨6, _⟩ => ⟨S4x1x128, .f32⟩
  | .hbm, ⟨7, _⟩ => ⟨S128x16384, .f32⟩
  | .hbm, ⟨8, _⟩ => ⟨S16x16384, .f32⟩
  | .hbm, ⟨9, _⟩ => ⟨S16384x2048, .bf16⟩
  | .hbm, ⟨10, _⟩ => ⟨S4x256x512, .f32⟩
  | .hbm, ⟨11, _⟩ => ⟨S4x1x256, .f32⟩
  | .hbm, ⟨12, _⟩ => ⟨S4x1x128, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .bf16⟩
  | .local _ .vmem, ⟨5, _⟩ => ⟨S256x2048, .bf16⟩
  | .local _ .vmem, ⟨6, _⟩ => ⟨S256x128, .f32⟩
  | .local _ .vmem, ⟨7, _⟩ => ⟨S256x128, .f32⟩
  | .local _ .vmem, ⟨8, _⟩ => ⟨S16x256, .f32⟩
  | .local _ .vmem, ⟨9, _⟩ => ⟨S16x256, .f32⟩
  | .local _ .vmem, ⟨10, _⟩ => ⟨S4x256x512, .f32⟩
  | .local _ .vmem, ⟨11, _⟩ => ⟨S4x1x256, .f32⟩
  | .local _ .vmem, ⟨12, _⟩ => ⟨S4x1x128, .f32⟩
  | .local _ .vmem, ⟨13, _⟩ => ⟨S256x2048, .bf16⟩
  | .local _ .vmem, ⟨14, _⟩ => ⟨S256x2048, .bf16⟩
  | .local _ .vmem, ⟨15, _⟩ => ⟨S4x256x512, .f32⟩
  | .local _ .vmem, ⟨16, _⟩ => ⟨S4x1x256, .f32⟩
  | .local _ .vmem, ⟨17, _⟩ => ⟨S4x1x128, .f32⟩
  | .local _ .vmem, ⟨18, _⟩ => ⟨S4x256x512, .f32⟩
  | .local _ .vmem, ⟨19, _⟩ => ⟨S4x1x256, .f32⟩
  | .local _ .vmem, ⟨20, _⟩ => ⟨S4x1x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v423 : BitVec 1 := Scalar.cmpi .eq arg0 c63_i32
  let v424 : BitVec 32 := Scalar.extui v423
  let c0_i32_147 : BitVec 32 := 0#32
  let v425 : BitVec 1 := Scalar.cmpi .ne v424 c0_i32_147
  v425

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S4x256x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S16384x1024 : Shape := ⟨2, ![16384, 1024]⟩
abbrev S16384x2048 : Shape := ⟨2, ![16384, 2048]⟩
abbrev S16384x128 : Shape := ⟨2, ![16384, 128]⟩
abbrev S4x256x512 : Shape := ⟨3, ![4, 256, 512]⟩
abbrev S4x1x256 : Shape := ⟨3, ![4, 1, 256]⟩
abbrev S4x1x128 : Shape := ⟨3, ![4, 1, 128]⟩
abbrev S128x16384 : Shape := ⟨2, ![128, 16384]⟩
abbrev S16384x4x256 : Shape := ⟨3, ![16384, 4, 256]⟩
abbrev S4x16384x256 : Shape := ⟨3, ![4, 16384, 256]⟩
abbrev S16384x4x512 : Shape := ⟨3, ![16384, 4, 512]⟩
abbrev S4x16384x512 : Shape := ⟨3, ![4, 16384, 512]⟩
abbrev S4x16384 : Shape := ⟨2, ![4, 16384]⟩
abbrev S4x512x256 : Shape := ⟨3, ![4, 512, 256]⟩
abbrev S4x256 : Shape := ⟨2, ![4, 256]⟩
abbrev S4x1x1 : Shape := ⟨3, ![4, 1, 1]⟩
abbrev S4 : Shape := ⟨1, ![4]⟩
abbrev S_ : Shape := ⟨0, ![]⟩
abbrev S64x64 : Shape := ⟨2, ![64, 64]⟩
abbrev S4x256x64x256 : Shape := ⟨4, ![4, 256, 64, 256]⟩
abbrev S256x4x64x256 : Shape := ⟨4, ![256, 4, 64, 256]⟩
abbrev S4x256x64x512 : Shape := ⟨4, ![4, 256, 64, 512]⟩
abbrev S256x4x64x512 : Shape := ⟨4, ![256, 4, 64, 512]⟩
abbrev S4x256x64 : Shape := ⟨3, ![4, 256, 64]⟩
abbrev S256x4x64 : Shape := ⟨3, ![256, 4, 64]⟩
abbrev S1x4x64x256 : Shape := ⟨4, ![1, 4, 64, 256]⟩
abbrev S4x64x256 : Shape := ⟨3, ![4, 64, 256]⟩
abbrev S1x4x64x512 : Shape := ⟨4, ![1, 4, 64, 512]⟩
abbrev S4x64x512 : Shape := ⟨3, ![4, 64, 512]⟩
abbrev S1x4x64 : Shape := ⟨3, ![1, 4, 64]⟩
abbrev S4x64 : Shape := ⟨2, ![4, 64]⟩
abbrev S4x64x1 : Shape := ⟨3, ![4, 64, 1]⟩
abbrev S4x1x64 : Shape := ⟨3, ![4, 1, 64]⟩
abbrev S4x64x64 : Shape := ⟨3, ![4, 64, 64]⟩
abbrev S4x1 : Shape := ⟨2, ![4, 1]⟩

abbrev nBuf : Space → Nat
  | .hbm => 177
  | .vmem => 0
  | .smem => 0
  | _ => 0

abbrev hbmTy0_0 (i : Nat) : BufTy := match i % 128 with
  | 0 => ⟨S16384x1024, .bf16⟩
  | 1 => ⟨S16384x1024, .bf16⟩
  | 2 => ⟨S16384x2048, .bf16⟩
  | 3 => ⟨S16384x128, .f32⟩
  | 4 => ⟨S4x256x512, .f32⟩
  | 5 => ⟨S4x1x256, .f32⟩
  | 6 => ⟨S4x1x128, .f32⟩
  | 7 => ⟨S128x16384, .f32⟩
  | 8 => ⟨S16384x1024, .f32⟩
  | 9 => ⟨S16384x4x256, .f32⟩
  | 10 => ⟨S4x16384x256, .f32⟩
  | 11 => ⟨S16384x1024, .f32⟩
  | 12 => ⟨S16384x4x256, .f32⟩
  | 13 => ⟨S4x16384x256, .f32⟩
  | 14 => ⟨S16384x2048, .f32⟩
  | 15 => ⟨S16384x4x512, .f32⟩
  | 16 => ⟨S4x16384x512, .f32⟩
  | 17 => ⟨S4x16384, .f32⟩
  | 18 => ⟨S4x16384, .f32⟩
  | 19 => ⟨S4x512x256, .f32⟩
  | 20 => ⟨S4x256, .f32⟩
  | 21 => ⟨S4x1x1, .f32⟩
  | 22 => ⟨S4, .f32⟩
  | 23 => ⟨S_, .i1⟩
  | 24 => ⟨S64x64, .i1⟩
  | 25 => ⟨S64x64, .i32⟩
  | 26 => ⟨S_, .i32⟩
  | 27 => ⟨S64x64, .i32⟩
  | 28 => ⟨S64x64, .i32⟩
  | 29 => ⟨S64x64, .i32⟩
  | 30 => ⟨S64x64, .i1⟩
  | 31 => ⟨S_, .i1⟩
  | 32 => ⟨S64x64, .i1⟩
  | 33 => ⟨S64x64, .i1⟩
  | 34 => ⟨S4x256x64x256, .f32⟩
  | 35 => ⟨S256x4x64x256, .f32⟩
  | 36 => ⟨S4x256x64x256, .f32⟩
  | 37 => ⟨S256x4x64x256, .f32⟩
  | 38 => ⟨S4x256x64x512, .f32⟩
  | 39 => ⟨S256x4x64x512, .f32⟩
  | 40 => ⟨S4x256x64, .f32⟩
  | 41 => ⟨S256x4x64, .f32⟩
  | 42 => ⟨S4x256x64, .f32⟩
  | 43 => ⟨S256x4x64, .f32⟩
  | 44 => ⟨S_, .f32⟩
  | 45 => ⟨S256x4x64x512, .f32⟩
  | 46 => ⟨S_, .i32⟩
  | 47 => ⟨S256x4x64x256, .f32⟩
  | 48 => ⟨S256x4x64x256, .f32⟩
  | 49 => ⟨S256x4x64x512, .f32⟩
  | 50 => ⟨S256x4x64, .f32⟩
  | 51 => ⟨S256x4x64, .f32⟩
  | 52 => ⟨S64x64, .i1⟩
  | 53 => ⟨S_, .i32⟩
  | 54 => ⟨S4x512x256, .f32⟩
  | 55 => ⟨S4x256, .f32⟩
  | 56 => ⟨S4, .f32⟩
  | 57 => ⟨S256x4x64x512, .f32⟩
  | 58 => ⟨S_, .i32⟩
  | 59 => ⟨S_, .i1⟩
  | 60 => ⟨S_, .i32⟩
  | 61 => ⟨S_, .i32⟩
  | 62 => ⟨S_, .i32⟩
  | 63 => ⟨S1x4x64x256, .f32⟩
  | 64 => ⟨S4x64x256, .f32⟩
  | 65 => ⟨S_, .i32⟩
  | 66 => ⟨S_, .i32⟩
  | 67 => ⟨S_, .i32⟩
  | 68 => ⟨S1x4x64x256, .f32⟩
  | 69 => ⟨S4x64x256, .f32⟩
  | 70 => ⟨S_, .i32⟩
  | 71 => ⟨S_, .i32⟩
  | 72 => ⟨S_, .i32⟩
  | 73 => ⟨S1x4x64x512, .f32⟩
  | 74 => ⟨S4x64x512, .f32⟩
  | 75 => ⟨S_, .i32⟩
  | 76 => ⟨S_, .i32⟩
  | 77 => ⟨S1x4x64, .f32⟩
  | 78 => ⟨S4x64, .f32⟩
  | 79 => ⟨S_, .i32⟩
  | 80 => ⟨S_, .i32⟩
  | 81 => ⟨S1x4x64, .f32⟩
  | 82 => ⟨S4x64, .f32⟩
  | 83 => ⟨S_, .f32⟩
  | 84 => ⟨S_, .f32⟩
  | 85 => ⟨S4x64, .f32⟩
  | 86 => ⟨S4x64x1, .f32⟩
  | 87 => ⟨S4x1x64, .f32⟩
  | 88 => ⟨S4x64x64, .f32⟩
  | 89 => ⟨S4x64x64, .f32⟩
  | 90 => ⟨S4x64x64, .f32⟩
  | 91 => ⟨S4x1x64, .f32⟩
  | 92 => ⟨S4x64x64, .f32⟩
  | 93 => ⟨S4x64x64, .f32⟩
  | 94 => ⟨S_, .f32⟩
  | 95 => ⟨S_, .f32⟩
  | 96 => ⟨S4x64x64, .i1⟩
  | 97 => ⟨S4x64x64, .f32⟩
  | 98 => ⟨S4x64x64, .f32⟩
  | 99 => ⟨S4x1, .f32⟩
  | 100 => ⟨S4x64, .f32⟩
  | 101 => ⟨S4x64, .f32⟩
  | 102 => ⟨S_, .f32⟩
  | 103 => ⟨S4x64, .f32⟩
  | 104 => ⟨S4x64, .f32⟩
  | 105 => ⟨S4x64x64, .f32⟩
  | 106 => ⟨S4x64x1, .f32⟩
  | 107 => ⟨S4x64x64, .f32⟩
  | 108 => ⟨S4x64x64, .f32⟩
  | 109 => ⟨S4x64x64, .f32⟩
  | 110 => ⟨S4x64x64, .f32⟩
  | 111 => ⟨S4x64, .f32⟩
  | 112 => ⟨S4x64, .f32⟩
  | 113 => ⟨S4x64x512, .f32⟩
  | 114 => ⟨S4x64x1, .f32⟩
  | 115 => ⟨S4x64x512, .f32⟩
  | 116 => ⟨S4x64x512, .f32⟩
  | 117 => ⟨S4x64x512, .f32⟩
  | 118 => ⟨S4x64x512, .f32⟩
  | 119 => ⟨S_, .f32⟩
  | 120 => ⟨S4x64, .f32⟩
  | 121 => ⟨S4x64, .f32⟩
  | 122 => ⟨S4x64, .f32⟩
  | 123 => ⟨S4x64, .f32⟩
  | 124 => ⟨S4x64, .f32⟩
  | 125 => ⟨S4x64, .f32⟩
  | 126 => ⟨S4x64, .f32⟩
  | 127 => ⟨S4x64, .f32⟩
  | _ => ⟨S16384x1024, .bf16⟩

abbrev hbmTy0_1 (i : Nat) : BufTy := match i % 128 with
  | 0 => ⟨S4x64x1, .f32⟩
  | 1 => ⟨S4x64x512, .f32⟩
  | 2 => ⟨S4x64x512, .f32⟩
  | 3 => ⟨S4x1, .f32⟩
  | 4 => ⟨S4, .f32⟩
  | 5 => ⟨S4x1, .f32⟩
  | 6 => ⟨S4x64, .f32⟩
  | 7 => ⟨S4x64, .f32⟩
  | 8 => ⟨S4x64, .f32⟩
  | 9 => ⟨S4, .f32⟩
  | 10 => ⟨S_, .f32⟩
  | 11 => ⟨S4, .f32⟩
  | 12 => ⟨S4, .f32⟩
  | 13 => ⟨S4, .f32⟩
  | 14 => ⟨S4, .f32⟩
  | 15 => ⟨S4, .f32⟩
  | 16 => ⟨S4x1, .f32⟩
  | 17 => ⟨S4x64, .f32⟩
  | 18 => ⟨S4x64, .f32⟩
  | 19 => ⟨S4x64, .f32⟩
  | 20 => ⟨S4x1x1, .f32⟩
  | 21 => ⟨S4x512x256, .f32⟩
  | 22 => ⟨S4x512x256, .f32⟩
  | 23 => ⟨S4x64x1, .f32⟩
  | 24 => ⟨S4x64x512, .f32⟩
  | 25 => ⟨S4x64x512, .f32⟩
  | 26 => ⟨S4x512x256, .f32⟩
  | 27 => ⟨S4x512x256, .f32⟩
  | 28 => ⟨S4x1, .f32⟩
  | 29 => ⟨S4x256, .f32⟩
  | 30 => ⟨S4x256, .f32⟩
  | 31 => ⟨S4x256, .f32⟩
  | 32 => ⟨S4x256, .f32⟩
  | 33 => ⟨S1x4x64x512, .f32⟩
  | 34 => ⟨S_, .i32⟩
  | 35 => ⟨S_, .i32⟩
  | 36 => ⟨S_, .i32⟩
  | 37 => ⟨S256x4x64x512, .f32⟩
  | 38 => ⟨S_, .i32⟩
  | 39 => ⟨S_, .i32⟩
  | 40 => ⟨S4x256x64x512, .f32⟩
  | 41 => ⟨S4x16384x512, .f32⟩
  | 42 => ⟨S16384x4x512, .f32⟩
  | 43 => ⟨S16384x2048, .f32⟩
  | 44 => ⟨S16384x2048, .bf16⟩
  | 45 => ⟨S4x256x512, .f32⟩
  | 46 => ⟨S4x1x256, .f32⟩
  | 47 => ⟨S4x1x1, .f32⟩
  | 48 => ⟨S4x1x128, .f32⟩
  | _ => ⟨S16384x1024, .bf16⟩

abbrev hbmTy (i : Nat) : BufTy := match i / 128 with
  | 0 => hbmTy0_0 i
  | 1 => hbmTy0_1 i
  | _ => ⟨S16384x1024, .bf16⟩

abbrev bufTy : (tb : Table) → Fin (tcTables nBuf tb) → BufTy
  | .hbm, ⟨i, _⟩ => hbmTy i
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_v16 : Ref sig .tc := ⟨.hbm, 24, rfl⟩
abbrev main_call0_v0 : Ref sig .tc := ⟨.hbm, 25, rfl⟩
abbrev main_call0_c : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_c_0 : Ref sig .tc := ⟨.hbm, 31, rfl⟩
abbrev main_call0_v5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst : Ref sig .tc := ⟨.hbm, 44, rfl⟩
abbrev main_v28 : Ref sig .tc := ⟨.hbm, 45, rfl⟩
abbrev main_c_0 : Ref sig .tc := ⟨.hbm, 46, rfl⟩
abbrev main_v29_0 : Ref sig .tc := ⟨.hbm, 47, rfl⟩
abbrev main_v29_1 : Ref sig .tc := ⟨.hbm, 48, rfl⟩
abbrev main_v29_2 : Ref sig .tc := ⟨.hbm, 49, rfl⟩
abbrev main_v29_3 : Ref sig .tc := ⟨.hbm, 50, rfl⟩
abbrev main_v29_4 : Ref sig .tc := ⟨.hbm, 51, rfl⟩
abbrev main_v29_5 : Ref sig .tc := ⟨.hbm, 52, rfl⟩
abbrev main_v29_6 : Ref sig .tc := ⟨.hbm, 53, rfl⟩
abbrev main_v29_7 : Ref sig .tc := ⟨.hbm, 54, rfl⟩
abbrev main_v29_8 : Ref sig .tc := ⟨.hbm, 55, rfl⟩
abbrev main_v29_9 : Ref sig .tc := ⟨.hbm, 56, rfl⟩
abbrev main_v29_10 : Ref sig .tc := ⟨.hbm, 57, rfl⟩
abbrev main_while0c_c_11 : Ref sig .tc := ⟨.hbm, 58, rfl⟩
abbrev main_while0c_v39 : Ref sig .tc := ⟨.hbm, 59, rfl⟩
abbrev main_while0b_call1_c : Ref sig .tc := ⟨.hbm, 60, rfl⟩
abbrev main_while0b_call1_c_0 : Ref sig .tc := ⟨.hbm, 61, rfl⟩
abbrev main_while0b_call1_c_1 : Ref sig .tc := ⟨.hbm, 62, rfl⟩
abbrev main_while0b_call1_v0 : Ref sig .tc := ⟨.hbm, 63, rfl⟩
abbrev main_while0b_v39 : Ref sig .tc := ⟨.hbm, 64, rfl⟩
abbrev main_while0b_call2_c : Ref sig .tc := ⟨.hbm, 65, rfl⟩
abbrev main_while0b_call2_c_0 : Ref sig .tc := ⟨.hbm, 66, rfl⟩
abbrev main_while0b_call2_c_1 : Ref sig .tc := ⟨.hbm, 67, rfl⟩
abbrev main_while0b_call2_v0 : Ref sig .tc := ⟨.hbm, 68, rfl⟩
abbrev main_while0b_v40 : Ref sig .tc := ⟨.hbm, 69, rfl⟩
abbrev main_while0b_call3_c : Ref sig .tc := ⟨.hbm, 70, rfl⟩
abbrev main_while0b_call3_c_0 : Ref sig .tc := ⟨.hbm, 71, rfl⟩
abbrev main_while0b_call3_c_1 : Ref sig .tc := ⟨.hbm, 72, rfl⟩
abbrev main_while0b_call3_v0 : Ref sig .tc := ⟨.hbm, 73, rfl⟩
abbrev main_while0b_v41 : Ref sig .tc := ⟨.hbm, 74, rfl⟩
abbrev main_while0b_call4_c : Ref sig .tc := ⟨.hbm, 75, rfl⟩
abbrev main_while0b_call4_c_0 : Ref sig .tc := ⟨.hbm, 76, rfl⟩
abbrev main_while0b_call4_v0 : Ref sig .tc := ⟨.hbm, 77, rfl⟩
abbrev main_while0b_v42 : Ref sig .tc := ⟨.hbm, 78, rfl⟩
abbrev main_while0b_call5_c : Ref sig .tc := ⟨.hbm, 79, rfl⟩
abbrev main_while0b_call5_c_0 : Ref sig .tc := ⟨.hbm, 80, rfl⟩
abbrev main_while0b_call5_v0 : Ref sig .tc := ⟨.hbm, 81, rfl⟩
abbrev main_while0b_v43 : Ref sig .tc := ⟨.hbm, 82, rfl⟩
abbrev main_while0b_call6_call0_cst : Ref sig .tc := ⟨.hbm, 83, rfl⟩
abbrev main_while0b_call6_call0_v0 : Ref sig .tc := ⟨.hbm, 84, rfl⟩
abbrev main_while0b_v44 : Ref sig .tc := ⟨.hbm, 85, rfl⟩
abbrev main_while0b_v45 : Ref sig .tc := ⟨.hbm, 86, rfl⟩
abbrev main_while0b_v46 : Ref sig .tc := ⟨.hbm, 87, rfl⟩
abbrev main_while0b_v47 : Ref sig .tc := ⟨.hbm, 88, rfl⟩
abbrev main_while0b_v48 : Ref sig .tc := ⟨.hbm, 89, rfl⟩
abbrev main_while0b_v49 : Ref sig .tc := ⟨.hbm, 90, rfl⟩
abbrev main_while0b_v50 : Ref sig .tc := ⟨.hbm, 91, rfl⟩
abbrev main_while0b_v51 : Ref sig .tc := ⟨.hbm, 92, rfl⟩
abbrev main_while0b_v52 : Ref sig .tc := ⟨.hbm, 93, rfl⟩
abbrev main_while0b_cst_11 : Ref sig .tc := ⟨.hbm, 94, rfl⟩
abbrev main_while0b_call7_v0 : Ref sig .tc := ⟨.hbm, 95, rfl⟩
abbrev main_while0b_call7_v1 : Ref sig .tc := ⟨.hbm, 96, rfl⟩
abbrev main_while0b_call7_v2 : Ref sig .tc := ⟨.hbm, 97, rfl⟩
abbrev main_while0b_v53 : Ref sig .tc := ⟨.hbm, 98, rfl⟩
abbrev main_while0b_v54 : Ref sig .tc := ⟨.hbm, 99, rfl⟩
abbrev main_while0b_v55 : Ref sig .tc := ⟨.hbm, 100, rfl⟩
abbrev main_while0b_v56 : Ref sig .tc := ⟨.hbm, 101, rfl⟩
abbrev main_while0b_cst_12 : Ref sig .tc := ⟨.hbm, 102, rfl⟩
abbrev main_while0b_v57 : Ref sig .tc := ⟨.hbm, 103, rfl⟩
abbrev main_while0b_v58 : Ref sig .tc := ⟨.hbm, 104, rfl⟩
abbrev main_while0b_v59 : Ref sig .tc := ⟨.hbm, 105, rfl⟩
abbrev main_while0b_v60 : Ref sig .tc := ⟨.hbm, 106, rfl⟩
abbrev main_while0b_v61 : Ref sig .tc := ⟨.hbm, 107, rfl⟩
abbrev main_while0b_v62 : Ref sig .tc := ⟨.hbm, 108, rfl⟩
abbrev main_while0b_v63 : Ref sig .tc := ⟨.hbm, 109, rfl⟩
abbrev main_while0b_v64 : Ref sig .tc := ⟨.hbm, 110, rfl⟩
abbrev main_while0b_v65 : Ref sig .tc := ⟨.hbm, 111, rfl⟩
abbrev main_while0b_v66 : Ref sig .tc := ⟨.hbm, 112, rfl⟩
abbrev main_while0b_v67 : Ref sig .tc := ⟨.hbm, 113, rfl⟩
abbrev main_while0b_v68 : Ref sig .tc := ⟨.hbm, 114, rfl⟩
abbrev main_while0b_v69 : Ref sig .tc := ⟨.hbm, 115, rfl⟩
abbrev main_while0b_v70 : Ref sig .tc := ⟨.hbm, 116, rfl⟩
abbrev main_while0b_v71 : Ref sig .tc := ⟨.hbm, 117, rfl⟩
abbrev main_while0b_v72 : Ref sig .tc := ⟨.hbm, 118, rfl⟩
abbrev main_while0b_cst_13 : Ref sig .tc := ⟨.hbm, 119, rfl⟩
abbrev main_while0b_v73 : Ref sig .tc := ⟨.hbm, 120, rfl⟩
abbrev main_while0b_v74 : Ref sig .tc := ⟨.hbm, 121, rfl⟩
abbrev main_while0b_v75 : Ref sig .tc := ⟨.hbm, 122, rfl⟩
abbrev main_while0b_v76 : Ref sig .tc := ⟨.hbm, 123, rfl⟩
abbrev main_while0b_v77 : Ref sig .tc := ⟨.hbm, 124, rfl⟩
abbrev main_while0b_v78 : Ref sig .tc := ⟨.hbm, 125, rfl⟩
abbrev main_while0b_v79 : Ref sig .tc := ⟨.hbm, 126, rfl⟩
abbrev main_while0b_v80 : Ref sig .tc := ⟨.hbm, 127, rfl⟩
abbrev main_while0b_v81 : Ref sig .tc := ⟨.hbm, 128, rfl⟩
abbrev main_while0b_v82 : Ref sig .tc := ⟨.hbm, 129, rfl⟩
abbrev main_while0b_v83 : Ref sig .tc := ⟨.hbm, 130, rfl⟩
abbrev main_while0b_v84 : Ref sig .tc := ⟨.hbm, 131, rfl⟩
abbrev main_while0b_v85 : Ref sig .tc := ⟨.hbm, 132, rfl⟩
abbrev main_while0b_v86 : Ref sig .tc := ⟨.hbm, 133, rfl⟩
abbrev main_while0b_v87 : Ref sig .tc := ⟨.hbm, 134, rfl⟩
abbrev main_while0b_v88 : Ref sig .tc := ⟨.hbm, 135, rfl⟩
abbrev main_while0b_v89 : Ref sig .tc := ⟨.hbm, 136, rfl⟩
abbrev main_while0b_v90 : Ref sig .tc := ⟨.hbm, 137, rfl⟩
abbrev main_while0b_cst_14 : Ref sig .tc := ⟨.hbm, 138, rfl⟩
abbrev main_while0b_v91 : Ref sig .tc := ⟨.hbm, 139, rfl⟩
abbrev main_while0b_v92 : Ref sig .tc := ⟨.hbm, 140, rfl⟩
abbrev main_while0b_v93 : Ref sig .tc := ⟨.hbm, 141, rfl⟩
abbrev main_while0b_v94 : Ref sig .tc := ⟨.hbm, 142, rfl⟩
abbrev main_while0b_v95 : Ref sig .tc := ⟨.hbm, 143, rfl⟩
abbrev main_while0b_v96 : Ref sig .tc := ⟨.hbm, 144, rfl⟩
abbrev main_while0b_v97 : Ref sig .tc := ⟨.hbm, 145, rfl⟩
abbrev main_while0b_v98 : Ref sig .tc := ⟨.hbm, 146, rfl⟩
abbrev main_while0b_v99 : Ref sig .tc := ⟨.hbm, 147, rfl⟩
abbrev main_while0b_v100 : Ref sig .tc := ⟨.hbm, 148, rfl⟩
abbrev main_while0b_v101 : Ref sig .tc := ⟨.hbm, 149, rfl⟩
abbrev main_while0b_v102 : Ref sig .tc := ⟨.hbm, 150, rfl⟩
abbrev main_while0b_v103 : Ref sig .tc := ⟨.hbm, 151, rfl⟩
abbrev main_while0b_v104 : Ref sig .tc := ⟨.hbm, 152, rfl⟩
abbrev main_while0b_v105 : Ref sig .tc := ⟨.hbm, 153, rfl⟩
abbrev main_while0b_v106 : Ref sig .tc := ⟨.hbm, 154, rfl⟩
abbrev main_while0b_v107 : Ref sig .tc := ⟨.hbm, 155, rfl⟩
abbrev main_while0b_v108 : Ref sig .tc := ⟨.hbm, 156, rfl⟩
abbrev main_while0b_v109 : Ref sig .tc := ⟨.hbm, 157, rfl⟩
abbrev main_while0b_v110 : Ref sig .tc := ⟨.hbm, 158, rfl⟩
abbrev main_while0b_v111 : Ref sig .tc := ⟨.hbm, 159, rfl⟩
abbrev main_while0b_v112 : Ref sig .tc := ⟨.hbm, 160, rfl⟩
abbrev main_while0b_call8_v0 : Ref sig .tc := ⟨.hbm, 161, rfl⟩
abbrev main_while0b_call8_c : Ref sig .tc := ⟨.hbm, 162, rfl⟩
abbrev main_while0b_call8_c_0 : Ref sig .tc := ⟨.hbm, 163, rfl⟩
abbrev main_while0b_call8_c_1 : Ref sig .tc := ⟨.hbm, 164, rfl⟩
abbrev main_while0b_v113 : Ref sig .tc := ⟨.hbm, 165, rfl⟩
abbrev main_while0b_c_15 : Ref sig .tc := ⟨.hbm, 166, rfl⟩
abbrev main_while0b_v114 : Ref sig .tc := ⟨.hbm, 167, rfl⟩
abbrev main_v30 : Ref sig .tc := ⟨.hbm, 168, rfl⟩
abbrev main_v31 : Ref sig .tc := ⟨.hbm, 169, rfl⟩
abbrev main_v32 : Ref sig .tc := ⟨.hbm, 170, rfl⟩
abbrev main_v33 : Ref sig .tc := ⟨.hbm, 171, rfl⟩
abbrev main_v34 : Ref sig .tc := ⟨.hbm, 172, rfl⟩
abbrev main_v35 : Ref sig .tc := ⟨.hbm, 173, rfl⟩
abbrev main_v36 : Ref sig .tc := ⟨.hbm, 174, rfl⟩
abbrev main_v37 : Ref sig .tc := ⟨.hbm, 175, rfl⟩
abbrev main_v38 : Ref sig .tc := ⟨.hbm, 176, rfl⟩

abbrev nD : Nat := 1
abbrev τ : Topo := Topo.v7x

variable {F : FTy → Type} [FloatOps F]

abbrev main_while0_count : Scf.Loop 32 := ⟨0#32, 256#32, 1#32⟩
-- ==== MIn.lean ====
abbrev S16384x1024 : Shape := ⟨2, ![16384, 1024]⟩
abbrev S1024 : Shape := ⟨1, ![1024]⟩
abbrev S8x1024 : Shape := ⟨2, ![8, 1024]⟩
abbrev S1024x4096 : Shape := ⟨2, ![1024, 4096]⟩
abbrev S_ : Shape := ⟨0, ![]⟩
abbrev S4096 : Shape := ⟨1, ![4096]⟩
abbrev S1x1024 : Shape := ⟨2, ![1, 1024]⟩
abbrev S1x4096 : Shape := ⟨2, ![1, 4096]⟩
abbrev S16384x4096 : Shape := ⟨2, ![16384, 4096]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩
abbrev S1024x1024 : Shape := ⟨2, ![1024, 1024]⟩

abbrev nBuf : Space → Nat
  | .hbm => 10
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S8x1024, .f32⟩
  | .hbm, ⟨3, _⟩ => ⟨S1024x4096, .f32⟩
  | .hbm, ⟨4, _⟩ => ⟨S1024x4096, .bf16⟩
  | .hbm, ⟨5, _⟩ => ⟨S_, .f32⟩
  | .hbm, ⟨6, _⟩ => ⟨S4096, .f32⟩
  | .hbm, ⟨7, _⟩ => ⟨S1x1024, .f32⟩
  | .hbm, ⟨8, _⟩ => ⟨S1x4096, .f32⟩
  | .hbm, ⟨9, _⟩ => ⟨S16384x4096, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S8x1024, .f32⟩
  | .local _ .vmem, ⟨4, _⟩ => ⟨S1024x4096, .bf16⟩
  | .local _ .vmem, ⟨5, _⟩ => ⟨S1x4096, .f32⟩
  | .local _ .vmem, ⟨6, _⟩ => ⟨S256x4096, .bf16⟩
  | .local _ .vmem, ⟨7, _⟩ => ⟨S256x4096, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceMInIdeal.lean ====
abbrev S16384x1024 : Shape := ⟨2, ![16384, 1024]⟩
abbrev S1024 : Shape := ⟨1, ![1024]⟩
abbrev S8x1024 : Shape := ⟨2, ![8, 1024]⟩
abbrev S1024x4096 : Shape := ⟨2, ![1024, 4096]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 35
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S8x1024, .f32⟩
  | .hbm, ⟨3, _⟩ => ⟨S1024x4096, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S16384x4096, .f32⟩
  | .hbm, ⟨34, _⟩ => ⟨S16384x4096, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== HIn.lean ====
abbrev S16384x1024 : Shape := ⟨2, ![16384, 1024]⟩
abbrev S1024 : Shape := ⟨1, ![1024]⟩
abbrev S8x1024 : Shape := ⟨2, ![8, 1024]⟩
abbrev S1024x3072 : Shape := ⟨2, ![1024, 3072]⟩
abbrev S3072 : Shape := ⟨1, ![3072]⟩
abbrev S1x1024 : Shape := ⟨2, ![1, 1024]⟩
abbrev S1x3072 : Shape := ⟨2, ![1, 3072]⟩
abbrev S16384x3072 : Shape := ⟨2, ![16384, 3072]⟩
abbrev S256x1024 : Shape := ⟨2, ![256, 1024]⟩
abbrev S256x3072 : Shape := ⟨2, ![256, 3072]⟩
abbrev S256 : Shape := ⟨1, ![256]⟩
abbrev S256x1 : Shape := ⟨2, ![256, 1]⟩
abbrev S1024x1024 : Shape := ⟨2, ![1024, 1024]⟩

abbrev nBuf : Space → Nat
  | .hbm => 9
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S8x1024, .f32⟩
  | .hbm, ⟨3, _⟩ => ⟨S1024x3072, .f32⟩
  | .hbm, ⟨4, _⟩ => ⟨S3072, .f32⟩
  | .hbm, ⟨5, _⟩ => ⟨S1024x3072, .bf16⟩
  | .hbm, ⟨6, _⟩ => ⟨S1x1024, .f32⟩
  | .hbm, ⟨7, _⟩ => ⟨S1x3072, .f32⟩
  | .hbm, ⟨8, _⟩ => ⟨S16384x3072, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S8x1024, .f32⟩
  | .local _ .vmem, ⟨4, _⟩ => ⟨S1024x3072, .bf16⟩
  | .local _ .vmem, ⟨5, _⟩ => ⟨S1x3072, .f32⟩
  | .local _ .vmem, ⟨6, _⟩ => ⟨S256x3072, .bf16⟩
  | .local _ .vmem, ⟨7, _⟩ => ⟨S256x3072, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceHInIdeal.lean ====
abbrev S16384x1024 : Shape := ⟨2, ![16384, 1024]⟩
abbrev S1024 : Shape := ⟨1, ![1024]⟩
abbrev S8x1024 : Shape := ⟨2, ![8, 1024]⟩
abbrev S1024x3072 : Shape := ⟨2, ![1024, 3072]⟩
abbrev S3072 : Shape := ⟨1, ![3072]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3072 : Shape := ⟨2, ![16384, 3072]⟩
abbrev S1x3072 : Shape := ⟨2, ![1, 3072]⟩

abbrev nBuf : Space → Nat
  | .hbm => 39
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S8x1024, .f32⟩
  | .hbm, ⟨3, _⟩ => ⟨S1024x3072, .f32⟩
  | .hbm, ⟨4, _⟩ => ⟨S3072, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S1x1024, .f32⟩
  | .hbm, ⟨30, _⟩ => ⟨S1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S16384x3072, .f32⟩
  | .hbm, ⟨35, _⟩ => ⟨S1x3072, .f32⟩
  | .hbm, ⟨36, _⟩ => ⟨S16384x3072, .f32⟩
  | .hbm, ⟨37, _⟩ => ⟨S16384x3072, .f32⟩
  | .hbm, ⟨38, _⟩ => ⟨S16384x3072, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== MOut.lean ====
abbrev S16384x2048 : Shape := ⟨2, ![16384, 2048]⟩
abbrev S2048x1024 : Shape := ⟨2, ![2048, 1024]⟩
abbrev S16384x1024 : Shape := ⟨2, ![16384, 1024]⟩
abbrev S8x1024 : Shape := ⟨2, ![8, 1024]⟩
abbrev S_ : Shape := ⟨0, ![]⟩
abbrev S1024 : Shape := ⟨1, ![1024]⟩
abbrev S1x1024 : Shape := ⟨2, ![1, 1024]⟩
abbrev S256x2048 : Shape := ⟨2, ![256, 2048]⟩
abbrev S256x1024 : Shape := ⟨2, ![256, 1024]⟩

abbrev nBuf : Space → Nat
  | .hbm => 9
  | .vmem => 9
  | .smem => 0
  | _ => 0

abbrev bufTy : (tb : Table) → Fin (tcTables nBuf tb) → BufTy
  | .hbm, ⟨0, _⟩ => ⟨S16384x2048, .bf16⟩
  | .hbm, ⟨1, _⟩ => ⟨S2048x1024, .f32⟩
  | .hbm, ⟨2, _⟩ => ⟨S16384x1024, .f32⟩
  | .hbm, ⟨3, _⟩ => ⟨S8x1024, .f32⟩
  | .hbm, ⟨4, _⟩ => ⟨S2048x1024, .bf16⟩
  | .hbm, ⟨5, _⟩ => ⟨S_, .f32⟩
  | .hbm, ⟨6, _⟩ => ⟨S1024, .f32⟩
  | .hbm, ⟨7, _⟩ => ⟨S1x1024, .f32⟩
  | .hbm, ⟨8, _⟩ => ⟨S16384x1024, .f32⟩
  | .local _ .vmem, ⟨0, _⟩ => ⟨S256x2048, .bf16⟩
  | .local _ .vmem, ⟨1, _⟩ => ⟨S256x2048, .bf16⟩
  | .local _ .vmem, ⟨2, _⟩ => ⟨S2048x1024, .bf16⟩
  | .local _ .vmem, ⟨3, _⟩ => ⟨S1x1024, .f32⟩
  | .local _ .vmem, ⟨4, _⟩ => ⟨S256x1024, .f32⟩
  | .local _ .vmem, ⟨5, _⟩ => ⟨S256x1024, .f32⟩
  | .local _ .vmem, ⟨6, _⟩ => ⟨S8x1024, .f32⟩
  | .local _ .vmem, ⟨7, _⟩ => ⟨S256x1024, .f32⟩
  | .local _ .vmem, ⟨8, _⟩ => ⟨S256x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceMOutIdeal.lean ====
abbrev S16384x2048 : Shape := ⟨2, ![16384, 2048]⟩
abbrev S2048x1024 : Shape := ⟨2, ![2048, 1024]⟩
abbrev S16384x1024 : Shape := ⟨2, ![16384, 1024]⟩
abbrev S8x1024 : Shape := ⟨2, ![8, 1024]⟩
abbrev S1x1024 : Shape := ⟨2, ![1, 1024]⟩
abbrev S1024 : Shape := ⟨1, ![1024]⟩

abbrev nBuf : Space → Nat
  | .hbm => 12
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x1024, .f32⟩
  | .hbm, ⟨2, _⟩ => ⟨S16384x1024, .f32⟩
  | .hbm, ⟨3, _⟩ => ⟨S8x1024, .f32⟩
  | .hbm, ⟨4, _⟩ => ⟨S1x1024, .f32⟩
  | .hbm, ⟨5, _⟩ => ⟨S1024, .f32⟩
  | .hbm, ⟨6, _⟩ => ⟨S16384x2048, .f32⟩
  | .hbm, ⟨7, _⟩ => ⟨S16384x1024, .f32⟩
  | .hbm, ⟨8, _⟩ => ⟨S1x1024, .f32⟩
  | .hbm, ⟨9, _⟩ => ⟨S16384x1024, .f32⟩
  | .hbm, ⟨10, _⟩ => ⟨S16384x1024, .f32⟩
  | .hbm, ⟨11, _⟩ => ⟨S16384x1024, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== HOut.lean ====
abbrev S8x16384x128 : Shape := ⟨3, ![8, 16384, 128]⟩
abbrev S1024x1024 : Shape := ⟨2, ![1024, 1024]⟩
abbrev S1024 : Shape := ⟨1, ![1024]⟩
abbrev S16384x1024 : Shape := ⟨2, ![16384, 1024]⟩
abbrev S8x1024 : Shape := ⟨2, ![8, 1024]⟩
abbrev S1x1024 : Shape := ⟨2, ![1, 1024]⟩
abbrev S8x256x128 : Shape := ⟨3, ![8, 256, 128]⟩
abbrev S256x1024 : Shape := ⟨2, ![256, 1024]⟩
abbrev S1x256x128 : Shape := ⟨3, ![1, 256, 128]⟩
abbrev S256x128 : Shape := ⟨2, ![256, 128]⟩

abbrev nBuf : Space → Nat
  | .hbm => 8
  | .vmem => 9
  | .smem => 0
  | _ => 0

abbrev bufTy : (tb : Table) → Fin (tcTables nBuf tb) → BufTy
  | .hbm, ⟨0, _⟩ => ⟨S8x16384x128, .f32⟩
  | .hbm, ⟨1, _⟩ => ⟨S1024x1024, .f32⟩
  | .hbm, ⟨2, _⟩ => ⟨S1024, .f32⟩
  | .hbm, ⟨3, _⟩ => ⟨S16384x1024, .f32⟩
  | .hbm, ⟨4, _⟩ => ⟨S8x1024, .f32⟩
  | .hbm, ⟨5, _⟩ => ⟨S1024x1024, .bf16⟩
  | .hbm, ⟨6, _⟩ => ⟨S1x1024, .f32⟩
  | .hbm, ⟨7, _⟩ => ⟨S16384x1024, .f32⟩
  | .local _ .vmem, ⟨0, _⟩ => ⟨S8x256x128, .f32⟩
  | .local _ .vmem, ⟨1, _⟩ => ⟨S8x256x128, .f32⟩
  | .local _ .vmem, ⟨2, _⟩ => ⟨S1024x1024, .bf16⟩
  | .local _ .vmem, ⟨3, _⟩ => ⟨S1x1024, .f32⟩
  | .local _ .vmem, ⟨4, _⟩ => ⟨S256x1024, .f32⟩
  | .local _ .vmem, ⟨5, _⟩ => ⟨S256x1024, .f32⟩
  | .local _ .vmem, ⟨6, _⟩ => ⟨S8x1024, .f32⟩
  | .local _ .vmem, ⟨7, _⟩ => ⟨S256x1024, .f32⟩
  | .local _ .vmem, ⟨8, _⟩ => ⟨S256x1024, .f32⟩
  | _, _ => ⟨S8x16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceHOutIdeal.lean ====
abbrev S8x16384x128 : Shape := ⟨3, ![8, 16384, 128]⟩
abbrev S1024x1024 : Shape := ⟨2, ![1024, 1024]⟩
abbrev S1024 : Shape := ⟨1, ![1024]⟩
abbrev S16384x1024 : Shape := ⟨2, ![16384, 1024]⟩
abbrev S8x1024 : Shape := ⟨2, ![8, 1024]⟩
abbrev S16384x8x128 : Shape := ⟨3, ![16384, 8, 128]⟩
abbrev S1x1024 : Shape := ⟨2, ![1, 1024]⟩

abbrev nBuf : Space → Nat
  | .hbm => 17
  | .vmem => 0
  | .smem => 0
  | _ => 0

abbrev bufTy : (tb : Table) → Fin (tcTables nBuf tb) → BufTy
  | .hbm, ⟨0, _⟩ => ⟨S8x16384x128, .f32⟩
  | .hbm, ⟨1, _⟩ => ⟨S1024x1024, .f32⟩
  | .hbm, ⟨2, _⟩ => ⟨S1024, .f32⟩
  | .hbm, ⟨3, _⟩ => ⟨S16384x1024, .f32⟩
  | .hbm, ⟨4, _⟩ => ⟨S8x1024, .f32⟩
  | .hbm, ⟨5, _⟩ => ⟨S16384x8x128, .f32⟩
  | .hbm, ⟨6, _⟩ => ⟨S16384x1024, .f32⟩
  | .hbm, ⟨7, _⟩ => ⟨S1x1024, .f32⟩
  | .hbm, ⟨8, _⟩ => ⟨S1024, .f32⟩
  | .hbm, ⟨9, _⟩ => ⟨S16384x1024, .f32⟩
  | .hbm, ⟨10, _⟩ => ⟨S1x1024, .f32⟩
  | .hbm, ⟨11, _⟩ => ⟨S16384x1024, .f32⟩
  | .hbm, ⟨12, _⟩ => ⟨S16384x1024, .f32⟩
  | .hbm, ⟨13, _⟩ => ⟨S1x1024, .f32⟩
  | .hbm, ⟨14, _⟩ => ⟨S16384x1024, .f32⟩
  | .hbm, ⟨15, _⟩ => ⟨S16384x1024, .f32⟩
  | .hbm, ⟨16, _⟩ => ⟨S16384x1024, .f32⟩
  | _, _ => ⟨S8x16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== MInCol.lean ====
abbrev S16384x1024 : Shape := ⟨2, ![16384, 1024]⟩
abbrev S1024 : Shape := ⟨1, ![1024]⟩
abbrev S8x1024 : Shape := ⟨2, ![8, 1024]⟩
abbrev S1024x4096 : Shape := ⟨2, ![1024, 4096]⟩
abbrev S_ : Shape := ⟨0, ![]⟩
abbrev S4096 : Shape := ⟨1, ![4096]⟩
abbrev S1x1024 : Shape := ⟨2, ![1, 1024]⟩
abbrev S1x4096 : Shape := ⟨2, ![1, 4096]⟩
abbrev S256x64x1024 : Shape := ⟨3, ![256, 64, 1024]⟩
abbrev S64x256x4096 : Shape := ⟨3, ![64, 256, 4096]⟩
abbrev S128x8x128 : Shape := ⟨3, ![128, 8, 128]⟩
abbrev S8x128x4096 : Shape := ⟨3, ![8, 128, 4096]⟩
abbrev S1024x128 : Shape := ⟨2, ![1024, 128]⟩
abbrev S128x128 : Shape := ⟨2, ![128, 128]⟩
abbrev S128x1024 : Shape := ⟨2, ![128, 1024]⟩
abbrev S128 : Shape := ⟨1, ![128]⟩
abbrev S128x1 : Shape := ⟨2, ![128, 1]⟩
abbrev S1024x1024 : Shape := ⟨2, ![1024, 1024]⟩
abbrev S1x128x1024 : Shape := ⟨3, ![1, 128, 1024]⟩

abbrev nBuf : Space → Nat
  | .hbm => 11
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S8x1024, .f32⟩
  | .hbm, ⟨3, _⟩ => ⟨S1024x4096, .f32⟩
  | .hbm, ⟨4, _⟩ => ⟨S1024x4096, .bf16⟩
  | .hbm, ⟨5, _⟩ => ⟨S_, .f32⟩
  | .hbm, ⟨6, _⟩ => ⟨S4096, .f32⟩
  | .hbm, ⟨7, _⟩ => ⟨S1x1024, .f32⟩
  | .hbm, ⟨8, _⟩ => ⟨S1x4096, .f32⟩
  | .hbm, ⟨9, _⟩ => ⟨S256x64x1024, .f32⟩
  | .hbm, ⟨10, _⟩ => ⟨S64x256x4096, .bf16⟩
  | .local _ .vmem, ⟨0, _⟩ => ⟨S128x8x128, .f32⟩
  | .local _ .vmem, ⟨1, _⟩ => ⟨S128x8x128, .f32⟩
  | .local _ .vmem, ⟨2, _⟩ => ⟨S128x8x128, .f32⟩
  | .local _ .vmem, ⟨3, _⟩ => ⟨S128x8x128, .f32⟩
  | .local _ .vmem, ⟨4, _⟩ => ⟨S128x8x128, .f32⟩
  | .local _ .vmem, ⟨5, _⟩ => ⟨S128x8x128, .f32⟩
  | .local _ .vmem, ⟨6, _⟩ => ⟨S128x8x128, .f32⟩
  | .local _ .vmem, ⟨7, _⟩ => ⟨S128x8x128, .f32⟩
  | .local _ .vmem, ⟨8, _⟩ => ⟨S128x8x128, .f32⟩
  | .local _ .vmem, ⟨9, _⟩ => ⟨S128x8x128, .f32⟩
  | .local _ .vmem, ⟨10, _⟩ => ⟨S128x8x128, .f32⟩
  | .local _ .vmem, ⟨11, _⟩ => ⟨S128x8x128, .f32⟩
  | .local _ .vmem, ⟨12, _⟩ => ⟨S128x8x128, .f32⟩
  | .local _ .vmem, ⟨13, _⟩ => ⟨S128x8x128, .f32⟩
  | .local _ .vmem, ⟨14, _⟩ => ⟨S128x8x128, .f32⟩
  | .local _ .vmem, ⟨15, _⟩ => ⟨S128x8x128, .f32⟩
  | .local _ .vmem, ⟨16, _⟩ => ⟨S1x1024, .f32⟩
  | .local _ .vmem, ⟨17, _⟩ => ⟨S8x1024, .f32⟩
  | .local _ .vmem, ⟨18, _⟩ => ⟨S1024x4096, .bf16⟩
  | .local _ .vmem, ⟨19, _⟩ => ⟨S1x4096, .f32⟩
  | .local _ .vmem, ⟨20, _⟩ => ⟨S8x128x4096, .bf16⟩
  | .local _ .vmem, ⟨21, _⟩ => ⟨S8x128x4096, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, arg0.toNat, c1_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg1.toNat, arg0.toNat, c2_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg1.toNat, arg0.toNat, c3_i32.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg1.toNat, arg0.toNat, c4_i32.toNat]

def cc0_transform_5 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg1.toNat, arg0.toNat, c5_i32.toNat]

def cc0_transform_6 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg1.toNat, arg0.toNat, c6_i32.toNat]

def cc0_transform_7 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg1.toNat, arg0.toNat, c7_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S128x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x4096 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S8x128x4096 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceMInColIdeal.lean ====
abbrev S16384x1024 : Shape := ⟨2, ![16384, 1024]⟩
abbrev S1024 : Shape := ⟨1, ![1024]⟩
abbrev S8x1024 : Shape := ⟨2, ![8, 1024]⟩
abbrev S1024x4096 : Shape := ⟨2, ![1024, 4096]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S256x64x1024 : Shape := ⟨3, ![256, 64, 1024]⟩
abbrev S64x256x1024 : Shape := ⟨3, ![64, 256, 1024]⟩
abbrev S64x256x4096 : Shape := ⟨3, ![64, 256, 4096]⟩

abbrev nBuf : Space → Nat
  | .hbm => 37
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S8x1024, .f32⟩
  | .hbm, ⟨3, _⟩ => ⟨S1024x4096, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S256x64x1024, .f32⟩
  | .hbm, ⟨34, _⟩ => ⟨S64x256x1024, .f32⟩
  | .hbm, ⟨35, _⟩ => ⟨S64x256x4096, .f32⟩
  | .hbm, ⟨36, _⟩ => ⟨S64x256x4096, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== HInCol.lean ====
abbrev S16384x1024 : Shape := ⟨2, ![16384, 1024]⟩
abbrev S1024 : Shape := ⟨1, ![1024]⟩
abbrev S8x1024 : Shape := ⟨2, ![8, 1024]⟩
abbrev S1024x3072 : Shape := ⟨2, ![1024, 3072]⟩
abbrev S3072 : Shape := ⟨1, ![3072]⟩
abbrev S1x1024 : Shape := ⟨2, ![1, 1024]⟩
abbrev S1x3072 : Shape := ⟨2, ![1, 3072]⟩
abbrev S256x64x1024 : Shape := ⟨3, ![256, 64, 1024]⟩
abbrev S64x256x3072 : Shape := ⟨3, ![64, 256, 3072]⟩
abbrev S128x8x128 : Shape := ⟨3, ![128, 8, 128]⟩
abbrev S8x128x3072 : Shape := ⟨3, ![8, 128, 3072]⟩
abbrev S1024x128 : Shape := ⟨2, ![1024, 128]⟩
abbrev S128x128 : Shape := ⟨2, ![128, 128]⟩
abbrev S128x1024 : Shape := ⟨2, ![128, 1024]⟩
abbrev S128 : Shape := ⟨1, ![128]⟩
abbrev S128x1 : Shape := ⟨2, ![128, 1]⟩
abbrev S1024x1024 : Shape := ⟨2, ![1024, 1024]⟩
abbrev S1x128x1024 : Shape := ⟨3, ![1, 128, 1024]⟩

abbrev nBuf : Space → Nat
  | .hbm => 10
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S8x1024, .f32⟩
  | .hbm, ⟨3, _⟩ => ⟨S1024x3072, .f32⟩
  | .hbm, ⟨4, _⟩ => ⟨S3072, .f32⟩
  | .hbm, ⟨5, _⟩ => ⟨S1024x3072, .bf16⟩
  | .hbm, ⟨6, _⟩ => ⟨S1x1024, .f32⟩
  | .hbm, ⟨7, _⟩ => ⟨S1x3072, .f32⟩
  | .hbm, ⟨8, _⟩ => ⟨S256x64x1024, .f32⟩
  | .hbm, ⟨9, _⟩ => ⟨S64x256x3072, .bf16⟩
  | .local _ .vmem, ⟨0, _⟩ => ⟨S128x8x128, .f32⟩
  | .local _ .vmem, ⟨1, _⟩ => ⟨S128x8x128, .f32⟩
  | .local _ .vmem, ⟨2, _⟩ => ⟨S128x8x128, .f32⟩
  | .local _ .vmem, ⟨3, _⟩ => ⟨S128x8x128, .f32⟩
  | .local _ .vmem, ⟨4, _⟩ => ⟨S128x8x128, .f32⟩
  | .local _ .vmem, ⟨5, _⟩ => ⟨S128x8x128, .f32⟩
  | .local _ .vmem, ⟨6, _⟩ => ⟨S128x8x128, .f32⟩
  | .local _ .vmem, ⟨7, _⟩ => ⟨S128x8x128, .f32⟩
  | .local _ .vmem, ⟨8, _⟩ => ⟨S128x8x128, .f32⟩
  | .local _ .vmem, ⟨9, _⟩ => ⟨S128x8x128, .f32⟩
  | .local _ .vmem, ⟨10, _⟩ => ⟨S128x8x128, .f32⟩
  | .local _ .vmem, ⟨11, _⟩ => ⟨S128x8x128, .f32⟩
  | .local _ .vmem, ⟨12, _⟩ => ⟨S128x8x128, .f32⟩
  | .local _ .vmem, ⟨13, _⟩ => ⟨S128x8x128, .f32⟩
  | .local _ .vmem, ⟨14, _⟩ => ⟨S128x8x128, .f32⟩
  | .local _ .vmem, ⟨15, _⟩ => ⟨S128x8x128, .f32⟩
  | .local _ .vmem, ⟨16, _⟩ => ⟨S1x1024, .f32⟩
  | .local _ .vmem, ⟨17, _⟩ => ⟨S8x1024, .f32⟩
  | .local _ .vmem, ⟨18, _⟩ => ⟨S1024x3072, .bf16⟩
  | .local _ .vmem, ⟨19, _⟩ => ⟨S1x3072, .f32⟩
  | .local _ .vmem, ⟨20, _⟩ => ⟨S8x128x3072, .bf16⟩
  | .local _ .vmem, ⟨21, _⟩ => ⟨S8x128x3072, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, arg0.toNat, c1_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg1.toNat, arg0.toNat, c2_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg1.toNat, arg0.toNat, c3_i32.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg1.toNat, arg0.toNat, c4_i32.toNat]

def cc0_transform_5 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg1.toNat, arg0.toNat, c5_i32.toNat]

def cc0_transform_6 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg1.toNat, arg0.toNat, c6_i32.toNat]

def cc0_transform_7 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg1.toNat, arg0.toNat, c7_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S128x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x3072 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x3072 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S8x128x3072 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceHInColIdeal.lean ====
abbrev S16384x1024 : Shape := ⟨2, ![16384, 1024]⟩
abbrev S1024 : Shape := ⟨1, ![1024]⟩
abbrev S8x1024 : Shape := ⟨2, ![8, 1024]⟩
abbrev S1024x3072 : Shape := ⟨2, ![1024, 3072]⟩
abbrev S3072 : Shape := ⟨1, ![3072]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S256x64x1024 : Shape := ⟨3, ![256, 64, 1024]⟩
abbrev S64x256x1024 : Shape := ⟨3, ![64, 256, 1024]⟩
abbrev S64x256x3072 : Shape := ⟨3, ![64, 256, 3072]⟩
abbrev S1x1x3072 : Shape := ⟨3, ![1, 1, 3072]⟩

abbrev nBuf : Space → Nat
  | .hbm => 41
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S8x1024, .f32⟩
  | .hbm, ⟨3, _⟩ => ⟨S1024x3072, .f32⟩
  | .hbm, ⟨4, _⟩ => ⟨S3072, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S1x1024, .f32⟩
  | .hbm, ⟨30, _⟩ => ⟨S1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S256x64x1024, .f32⟩
  | .hbm, ⟨35, _⟩ => ⟨S64x256x1024, .f32⟩
  | .hbm, ⟨36, _⟩ => ⟨S64x256x3072, .f32⟩
  | .hbm, ⟨37, _⟩ => ⟨S1x1x3072, .f32⟩
  | .hbm, ⟨38, _⟩ => ⟨S64x256x3072, .f32⟩
  | .hbm, ⟨39, _⟩ => ⟨S64x256x3072, .f32⟩
  | .hbm, ⟨40, _⟩ => ⟨S64x256x3072, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== MOutCol.lean ====
abbrev S16384x2048 : Shape := ⟨2, ![16384, 2048]⟩
abbrev S2048x1024 : Shape := ⟨2, ![2048, 1024]⟩
abbrev S16384x1024 : Shape := ⟨2, ![16384, 1024]⟩
abbrev S8x1024 : Shape := ⟨2, ![8, 1024]⟩
abbrev S_ : Shape := ⟨0, ![]⟩
abbrev S1024 : Shape := ⟨1, ![1024]⟩
abbrev S64x256x2048 : Shape := ⟨3, ![64, 256, 2048]⟩
abbrev S1x1024 : Shape := ⟨2, ![1, 1024]⟩
abbrev S256x64x1024 : Shape := ⟨3, ![256, 64, 1024]⟩
abbrev S8x128x2048 : Shape := ⟨3, ![8, 128, 2048]⟩
abbrev S128x8x128 : Shape := ⟨3, ![128, 8, 128]⟩
abbrev S128x8x1024 : Shape := ⟨3, ![128, 8, 1024]⟩
abbrev S1x128x2048 : Shape := ⟨3, ![1, 128, 2048]⟩
abbrev S128x2048 : Shape := ⟨2, ![128, 2048]⟩
abbrev S128x1024 : Shape := ⟨2, ![128, 1024]⟩
abbrev S1024x128 : Shape := ⟨2, ![1024, 128]⟩
abbrev S128x128 : Shape := ⟨2, ![128, 128]⟩
abbrev S128x1x1024 : Shape := ⟨3, ![128, 1, 1024]⟩

abbrev nBuf : Space → Nat
  | .hbm => 11
  | .vmem => 23
  | .smem => 0
  | _ => 0

abbrev bufTy : (tb : Table) → Fin (tcTables nBuf tb) → BufTy
  | .hbm, ⟨0, _⟩ => ⟨S16384x2048, .bf16⟩
  | .hbm, ⟨1, _⟩ => ⟨S2048x1024, .f32⟩
  | .hbm, ⟨2, _⟩ => ⟨S16384x1024, .f32⟩
  | .hbm, ⟨3, _⟩ => ⟨S8x1024, .f32⟩
  | .hbm, ⟨4, _⟩ => ⟨S2048x1024, .bf16⟩
  | .hbm, ⟨5, _⟩ => ⟨S_, .f32⟩
  | .hbm, ⟨6, _⟩ => ⟨S1024, .f32⟩
  | .hbm, ⟨7, _⟩ => ⟨S64x256x2048, .bf16⟩
  | .hbm, ⟨8, _⟩ => ⟨S1x1024, .f32⟩
  | .hbm, ⟨9, _⟩ => ⟨S256x64x1024, .f32⟩
  | .hbm, ⟨10, _⟩ => ⟨S256x64x1024, .f32⟩
  | .local _ .vmem, ⟨0, _⟩ => ⟨S8x128x2048, .bf16⟩
  | .local _ .vmem, ⟨1, _⟩ => ⟨S8x128x2048, .bf16⟩
  | .local _ .vmem, ⟨2, _⟩ => ⟨S2048x1024, .bf16⟩
  | .local _ .vmem, ⟨3, _⟩ => ⟨S1x1024, .f32⟩
  | .local _ .vmem, ⟨4, _⟩ => ⟨S128x8x128, .f32⟩
  | .local _ .vmem, ⟨5, _⟩ => ⟨S128x8x128, .f32⟩
  | .local _ .vmem, ⟨6, _⟩ => ⟨S128x8x128, .f32⟩
  | .local _ .vmem, ⟨7, _⟩ => ⟨S128x8x128, .f32⟩
  | .local _ .vmem, ⟨8, _⟩ => ⟨S128x8x128, .f32⟩
  | .local _ .vmem, ⟨9, _⟩ => ⟨S128x8x128, .f32⟩
  | .local _ .vmem, ⟨10, _⟩ => ⟨S128x8x128, .f32⟩
  | .local _ .vmem, ⟨11, _⟩ => ⟨S128x8x128, .f32⟩
  | .local _ .vmem, ⟨12, _⟩ => ⟨S128x8x128, .f32⟩
  | .local _ .vmem, ⟨13, _⟩ => ⟨S128x8x128, .f32⟩
  | .local _ .vmem, ⟨14, _⟩ => ⟨S128x8x128, .f32⟩
  | .local _ .vmem, ⟨15, _⟩ => ⟨S128x8x128, .f32⟩
  | .local _ .vmem, ⟨16, _⟩ => ⟨S128x8x128, .f32⟩
  | .local _ .vmem, ⟨17, _⟩ => ⟨S128x8x128, .f32⟩
  | .local _ .vmem, ⟨18, _⟩ => ⟨S128x8x128, .f32⟩
  | .local _ .vmem, ⟨19, _⟩ => ⟨S128x8x128, .f32⟩
  | .local _ .vmem, ⟨20, _⟩ => ⟨S8x1024, .f32⟩
  | .local _ .vmem, ⟨21, _⟩ => ⟨S128x8x1024, .f32⟩
  | .local _ .vmem, ⟨22, _⟩ => ⟨S128x8x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, arg0.toNat, c1_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg1.toNat, arg0.toNat, c2_i32.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg1.toNat, arg0.toNat, c3_i32.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg1.toNat, arg0.toNat, c4_i32.toNat]

def cc0_transform_8 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg1.toNat, arg0.toNat, c5_i32.toNat]

def cc0_transform_9 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg1.toNat, arg0.toNat, c6_i32.toNat]

def cc0_transform_10 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg1.toNat, arg0.toNat, c7_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S128x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S128x8x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceMOutColIdeal.lean ====
abbrev S16384x2048 : Shape := ⟨2, ![16384, 2048]⟩
abbrev S2048x1024 : Shape := ⟨2, ![2048, 1024]⟩
abbrev S16384x1024 : Shape := ⟨2, ![16384, 1024]⟩
abbrev S8x1024 : Shape := ⟨2, ![8, 1024]⟩
abbrev S256x64x1024 : Shape := ⟨3, ![256, 64, 1024]⟩
abbrev S1x1024 : Shape := ⟨2, ![1, 1024]⟩
abbrev S1024 : Shape := ⟨1, ![1024]⟩
abbrev S64x256x1024 : Shape := ⟨3, ![64, 256, 1024]⟩
abbrev S1x1x1024 : Shape := ⟨3, ![1, 1, 1024]⟩

abbrev nBuf : Space → Nat
  | .hbm => 15
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x1024, .f32⟩
  | .hbm, ⟨2, _⟩ => ⟨S16384x1024, .f32⟩
  | .hbm, ⟨3, _⟩ => ⟨S8x1024, .f32⟩
  | .hbm, ⟨4, _⟩ => ⟨S256x64x1024, .f32⟩
  | .hbm, ⟨5, _⟩ => ⟨S1x1024, .f32⟩
  | .hbm, ⟨6, _⟩ => ⟨S1024, .f32⟩
  | .hbm, ⟨7, _⟩ => ⟨S16384x2048, .f32⟩
  | .hbm, ⟨8, _⟩ => ⟨S16384x1024, .f32⟩
  | .hbm, ⟨9, _⟩ => ⟨S64x256x1024, .f32⟩
  | .hbm, ⟨10, _⟩ => ⟨S256x64x1024, .f32⟩
  | .hbm, ⟨11, _⟩ => ⟨S1x1x1024, .f32⟩
  | .hbm, ⟨12, _⟩ => ⟨S256x64x1024, .f32⟩
  | .hbm, ⟨13, _⟩ => ⟨S256x64x1024, .f32⟩
  | .hbm, ⟨14, _⟩ => ⟨S256x64x1024, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== HOutCol.lean ====
abbrev S8x16384x128 : Shape := ⟨3, ![8, 16384, 128]⟩
abbrev S1024x1024 : Shape := ⟨2, ![1024, 1024]⟩
abbrev S1024 : Shape := ⟨1, ![1024]⟩
abbrev S16384x1024 : Shape := ⟨2, ![16384, 1024]⟩
abbrev S8x1024 : Shape := ⟨2, ![8, 1024]⟩
abbrev S8x64x256x128 : Shape := ⟨4, ![8, 64, 256, 128]⟩
abbrev S1x1024 : Shape := ⟨2, ![1, 1024]⟩
abbrev S256x64x1024 : Shape := ⟨3, ![256, 64, 1024]⟩
abbrev S8x8x128x128 : Shape := ⟨4, ![8, 8, 128, 128]⟩
abbrev S128x8x128 : Shape := ⟨3, ![128, 8, 128]⟩
abbrev S128x8x1024 : Shape := ⟨3, ![128, 8, 1024]⟩
abbrev S1x1x128x128 : Shape := ⟨4, ![1, 1, 128, 128]⟩
abbrev S128x128 : Shape := ⟨2, ![128, 128]⟩
abbrev S128x1024 : Shape := ⟨2, ![128, 1024]⟩
abbrev S1024x128 : Shape := ⟨2, ![1024, 128]⟩
abbrev S128x1x1024 : Shape := ⟨3, ![128, 1, 1024]⟩

abbrev nBuf : Space → Nat
  | .hbm => 10
  | .vmem => 23
  | .smem => 0
  | _ => 0

abbrev bufTy : (tb : Table) → Fin (tcTables nBuf tb) → BufTy
  | .hbm, ⟨0, _⟩ => ⟨S8x16384x128, .f32⟩
  | .hbm, ⟨1, _⟩ => ⟨S1024x1024, .f32⟩
  | .hbm, ⟨2, _⟩ => ⟨S1024, .f32⟩
  | .hbm, ⟨3, _⟩ => ⟨S16384x1024, .f32⟩
  | .hbm, ⟨4, _⟩ => ⟨S8x1024, .f32⟩
  | .hbm, ⟨5, _⟩ => ⟨S1024x1024, .bf16⟩
  | .hbm, ⟨6, _⟩ => ⟨S8x64x256x128, .f32⟩
  | .hbm, ⟨7, _⟩ => ⟨S1x1024, .f32⟩
  | .hbm, ⟨8, _⟩ => ⟨S256x64x1024, .f32⟩
  | .hbm, ⟨9, _⟩ => ⟨S256x64x1024, .f32⟩
  | .local _ .vmem, ⟨0, _⟩ => ⟨S8x8x128x128, .f32⟩
  | .local _ .vmem, ⟨1, _⟩ => ⟨S8x8x128x128, .f32⟩
  | .local _ .vmem, ⟨2, _⟩ => ⟨S1024x1024, .bf16⟩
  | .local _ .vmem, ⟨3, _⟩ => ⟨S1x1024, .f32⟩
  | .local _ .vmem, ⟨4, _⟩ => ⟨S128x8x128, .f32⟩
  | .local _ .vmem, ⟨5, _⟩ => ⟨S128x8x128, .f32⟩
  | .local _ .vmem, ⟨6, _⟩ => ⟨S128x8x128, .f32⟩
  | .local _ .vmem, ⟨7, _⟩ => ⟨S128x8x128, .f32⟩
  | .local _ .vmem, ⟨8, _⟩ => ⟨S128x8x128, .f32⟩
  | .local _ .vmem, ⟨9, _⟩ => ⟨S128x8x128, .f32⟩
  | .local _ .vmem, ⟨10, _⟩ => ⟨S128x8x128, .f32⟩
  | .local _ .vmem, ⟨11, _⟩ => ⟨S128x8x128, .f32⟩
  | .local _ .vmem, ⟨12, _⟩ => ⟨S128x8x128, .f32⟩
  | .local _ .vmem, ⟨13, _⟩ => ⟨S128x8x128, .f32⟩
  | .local _ .vmem, ⟨14, _⟩ => ⟨S128x8x128, .f32⟩
  | .local _ .vmem, ⟨15, _⟩ => ⟨S128x8x128, .f32⟩
  | .local _ .vmem, ⟨16, _⟩ => ⟨S128x8x128, .f32⟩
  | .local _ .vmem, ⟨17, _⟩ => ⟨S128x8x128, .f32⟩
  | .local _ .vmem, ⟨18, _⟩ => ⟨S128x8x128, .f32⟩
  | .local _ .vmem, ⟨19, _⟩ => ⟨S128x8x128, .f32⟩
  | .local _ .vmem, ⟨20, _⟩ => ⟨S8x1024, .f32⟩
  | .local _ .vmem, ⟨21, _⟩ => ⟨S128x8x1024, .f32⟩
  | .local _ .vmem, ⟨22, _⟩ => ⟨S128x8x1024, .f32⟩
  | _, _ => ⟨S8x16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨2, ![8, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, arg0.toNat, c1_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg1.toNat, arg0.toNat, c2_i32.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg1.toNat, arg0.toNat, c3_i32.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg1.toNat, arg0.toNat, c4_i32.toNat]

def cc0_transform_8 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg1.toNat, arg0.toNat, c5_i32.toNat]

def cc0_transform_9 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg1.toNat, arg0.toNat, c6_i32.toNat]

def cc0_transform_10 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg1.toNat, arg0.toNat, c7_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S8x8x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S128x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S128x8x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceHOutColIdeal.lean ====
abbrev S8x16384x128 : Shape := ⟨3, ![8, 16384, 128]⟩
abbrev S1024x1024 : Shape := ⟨2, ![1024, 1024]⟩
abbrev S1024 : Shape := ⟨1, ![1024]⟩
abbrev S16384x1024 : Shape := ⟨2, ![16384, 1024]⟩
abbrev S8x1024 : Shape := ⟨2, ![8, 1024]⟩
abbrev S16384x8x128 : Shape := ⟨3, ![16384, 8, 128]⟩
abbrev S256x64x1024 : Shape := ⟨3, ![256, 64, 1024]⟩
abbrev S1x1024 : Shape := ⟨2, ![1, 1024]⟩
abbrev S64x256x1024 : Shape := ⟨3, ![64, 256, 1024]⟩
abbrev S1x1x1024 : Shape := ⟨3, ![1, 1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S8x16384x128, .f32⟩
  | .hbm, ⟨1, _⟩ => ⟨S1024x1024, .f32⟩
  | .hbm, ⟨2, _⟩ => ⟨S1024, .f32⟩
  | .hbm, ⟨3, _⟩ => ⟨S16384x1024, .f32⟩
  | .hbm, ⟨4, _⟩ => ⟨S8x1024, .f32⟩
  | .hbm, ⟨5, _⟩ => ⟨S16384x8x128, .f32⟩
  | .hbm, ⟨6, _⟩ => ⟨S16384x1024, .f32⟩
  | .hbm, ⟨7, _⟩ => ⟨S256x64x1024, .f32⟩
  | .hbm, ⟨8, _⟩ => ⟨S1x1024, .f32⟩
  | .hbm, ⟨9, _⟩ => ⟨S1024, .f32⟩
  | .hbm, ⟨10, _⟩ => ⟨S16384x1024, .f32⟩
  | .hbm, ⟨11, _⟩ => ⟨S1x1024, .f32⟩
  | .hbm, ⟨12, _⟩ => ⟨S16384x1024, .f32⟩
  | .hbm, ⟨13, _⟩ => ⟨S16384x1024, .f32⟩
  | .hbm, ⟨14, _⟩ => ⟨S64x256x1024, .f32⟩
  | .hbm, ⟨15, _⟩ => ⟨S256x64x1024, .f32⟩
  | .hbm, ⟨16, _⟩ => ⟨S1x1x1024, .f32⟩
  | .hbm, ⟨17, _⟩ => ⟨S256x64x1024, .f32⟩
  | .hbm, ⟨18, _⟩ => ⟨S256x64x1024, .f32⟩
  | .hbm, ⟨19, _⟩ => ⟨S256x64x1024, .f32⟩
  | _, _ => ⟨S8x16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== MPre.lean ====
abbrev S16384x4096 : Shape := ⟨2, ![16384, 4096]⟩
abbrev S3x2048 : Shape := ⟨2, ![3, 2048]⟩
abbrev S2048 : Shape := ⟨1, ![2048]⟩
abbrev S4x512x256 : Shape := ⟨3, ![4, 512, 256]⟩
abbrev S4x512x512 : Shape := ⟨3, ![4, 512, 512]⟩
abbrev S4096x16 : Shape := ⟨2, ![4096, 16]⟩
abbrev S16 : Shape := ⟨1, ![16]⟩
abbrev S_ : Shape := ⟨0, ![]⟩
abbrev S4096x128 : Shape := ⟨2, ![4096, 128]⟩
abbrev S1 : Shape := ⟨1, ![1]⟩
abbrev S1x128 : Shape := ⟨2, ![1, 128]⟩
abbrev S2 : Shape := ⟨1, ![2]⟩
abbrev S1x2048 : Shape := ⟨2, ![1, 2048]⟩
abbrev S16384x2048 : Shape := ⟨2, ![16384, 2048]⟩
abbrev S16384x1024 : Shape := ⟨2, ![16384, 1024]⟩
abbrev S16384x128 : Shape := ⟨2, ![16384, 128]⟩
abbrev S16x16384 : Shape := ⟨2, ![16, 16384]⟩
abbrev S256x2048 : Shape := ⟨2, ![256, 2048]⟩
abbrev S16x2048 : Shape := ⟨2, ![16, 2048]⟩
abbrev S256x1024 : Shape := ⟨2, ![256, 1024]⟩
abbrev S256x128 : Shape := ⟨2, ![256, 128]⟩
abbrev S16x256 : Shape := ⟨2, ![16, 256]⟩
abbrev S256x512 : Shape := ⟨2, ![256, 512]⟩
abbrev S1x512x256 : Shape := ⟨3, ![1, 512, 256]⟩
abbrev S512x256 : Shape := ⟨2, ![512, 256]⟩
abbrev S256x256 : Shape := ⟨2, ![256, 256]⟩
abbrev S1x512x512 : Shape := ⟨3, ![1, 512, 512]⟩
abbrev S512x512 : Shape := ⟨2, ![512, 512]⟩
abbrev S2048x128 : Shape := ⟨2, ![2048, 128]⟩
abbrev S128x256 : Shape := ⟨2, ![128, 256]⟩

abbrev nBuf : Space → Nat
  | .hbm => 32
  | .vmem => 25
  | .smem => 0
  | _ => 0

abbrev bufTy : (tb : Table) → Fin (tcTables nBuf tb) → BufTy
  | .hbm, ⟨0, _⟩ => ⟨S16384x4096, .bf16⟩
  | .hbm, ⟨1, _⟩ => ⟨S3x2048, .f32⟩
  | .hbm, ⟨2, _⟩ => ⟨S2048, .f32⟩
  | .hbm, ⟨3, _⟩ => ⟨S4x512x256, .f32⟩
  | .hbm, ⟨4, _⟩ => ⟨S4x512x256, .f32⟩
  | .hbm, ⟨5, _⟩ => ⟨S4x512x512, .f32⟩
  | .hbm, ⟨6, _⟩ => ⟨S4096x16, .f32⟩
  | .hbm, ⟨7, _⟩ => ⟨S16, .f32⟩
  | .hbm, ⟨8, _⟩ => ⟨S_, .bf16⟩
  | .hbm, ⟨9, _⟩ => ⟨S4096x128, .bf16⟩
  | .hbm, ⟨10, _⟩ => ⟨S4096x16, .bf16⟩
  | .hbm, ⟨11, _⟩ => ⟨S_, .i32⟩
  | .hbm, ⟨12, _⟩ => ⟨S1, .i32⟩
  | .hbm, ⟨13, _⟩ => ⟨S4096x128, .bf16⟩
  | .hbm, ⟨14, _⟩ => ⟨S_, .f32⟩
  | .hbm, ⟨15, _⟩ => ⟨S1x128, .f32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S2, .i32⟩
  | .hbm, ⟨21, _⟩ => ⟨S1x128, .f32⟩
  | .hbm, ⟨22, _⟩ => ⟨S1x2048, .f32⟩
  | .hbm, ⟨23, _⟩ => ⟨S4x512x256, .bf16⟩
  | .hbm, ⟨24, _⟩ => ⟨S4x512x256, .bf16⟩
  | .hbm, ⟨25, _⟩ => ⟨S4x512x512, .bf16⟩
  | .hbm, ⟨26, _⟩ => ⟨S16384x2048, .bf16⟩
  | .hbm, ⟨27, _⟩ => ⟨S16384x1024, .bf16⟩
  | .hbm, ⟨28, _⟩ => ⟨S16384x1024, .bf16⟩
  | .hbm, ⟨29, _⟩ => ⟨S16384x2048, .bf16⟩
  | .hbm, ⟨30, _⟩ => ⟨S16384x128, .f32⟩
  | .hbm, ⟨31, _⟩ => ⟨S16x16384, .f32⟩
  | .local _ .vmem, ⟨0, _⟩ => ⟨S256x2048, .bf16⟩
  | .local _ .vmem, ⟨1, _⟩ => ⟨S256x2048, .bf16⟩
  | .local _ .vmem, ⟨2, _⟩ => ⟨S16x2048, .bf16⟩
  | .local _ .vmem, ⟨3, _⟩ => ⟨S16x2048, .bf16⟩
  | .local _ .vmem, ⟨4, _⟩ => ⟨S16x2048, .bf16⟩
  | .local _ .vmem, ⟨5, _⟩ => ⟨S16x2048, .bf16⟩
  | .local _ .vmem, ⟨6, _⟩ => ⟨S3x2048, .f32⟩
  | .local _ .vmem, ⟨7, _⟩ => ⟨S1x2048, .f32⟩
  | .local _ .vmem, ⟨8, _⟩ => ⟨S4x512x256, .bf16⟩
  | .local _ .vmem, ⟨9, _⟩ => ⟨S4x512x256, .bf16⟩
  | .local _ .vmem, ⟨10, _⟩ => ⟨S4x512x512, .bf16⟩
  | .local _ .vmem, ⟨11, _⟩ => ⟨S4096x128, .bf16⟩
  | .local _ .vmem, ⟨12, _⟩ => ⟨S1x128, .f32⟩
  | .local _ .vmem, ⟨13, _⟩ => ⟨S256x2048, .bf16⟩
  | .local _ .vmem, ⟨14, _⟩ => ⟨S256x2048, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x2048, .bf16⟩
  | .local _ .vmem, ⟨20, _⟩ => ⟨S256x2048, .bf16⟩
  | .local _ .vmem, ⟨21, _⟩ => ⟨S256x128, .f32⟩
  | .local _ .vmem, ⟨22, _⟩ => ⟨S256x128, .f32⟩
  | .local _ .vmem, ⟨23, _⟩ => ⟨S16x256, .f32⟩
  | .local _ .vmem, ⟨24, _⟩ => ⟨S16x256, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_c_1 : Ref sig .tc := ⟨.hbm, 16, rfl⟩
abbrev main_v5 : Ref sig .tc := ⟨.hbm, 17, rfl⟩
abbrev main_c_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13_0 : Ref sig .tc := ⟨.hbm, 26, rfl⟩
abbrev main_v13_1 : Ref sig .tc := ⟨.hbm, 27, rfl⟩
abbrev main_v13_2 : Ref sig .tc := ⟨.hbm, 28, rfl⟩
abbrev main_v13_3 : Ref sig .tc := ⟨.hbm, 29, rfl⟩
abbrev main_v13_4 : Ref sig .tc := ⟨.hbm, 30, rfl⟩
abbrev main_v13_5 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S16x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ReferenceMPreIdeal.lean ====
abbrev S16384x4096 : Shape := ⟨2, ![16384, 4096]⟩
abbrev S3x2048 : Shape := ⟨2, ![3, 2048]⟩
abbrev S2048 : Shape := ⟨1, ![2048]⟩
abbrev S4x512x256 : Shape := ⟨3, ![4, 512, 256]⟩
abbrev S4x512x512 : Shape := ⟨3, ![4, 512, 512]⟩
abbrev S4096x16 : Shape := ⟨2, ![4096, 16]⟩
abbrev S16 : Shape := ⟨1, ![16]⟩
abbrev S16384x2048 : Shape := ⟨2, ![16384, 2048]⟩
abbrev S_ : Shape := ⟨0, ![]⟩
abbrev S16386x2048 : Shape := ⟨2, ![16386, 2048]⟩
abbrev S1x2048 : Shape := ⟨2, ![1, 2048]⟩
abbrev S16384x4x512 : Shape := ⟨3, ![16384, 4, 512]⟩
abbrev S4x256x16384 : Shape := ⟨3, ![4, 256, 16384]⟩
abbrev S16384x4x256 : Shape := ⟨3, ![16384, 4, 256]⟩
abbrev S16384x1024 : Shape := ⟨2, ![16384, 1024]⟩
abbrev S4x512x16384 : Shape := ⟨3, ![4, 512, 16384]⟩
abbrev S16384x16 : Shape := ⟨2, ![16384, 16]⟩
abbrev S1x16 : Shape := ⟨2, ![1, 16]⟩
abbrev S16384x4 : Shape := ⟨2, ![16384, 4]⟩
abbrev S16384x128 : Shape := ⟨2, ![16384, 128]⟩
abbrev S16x16384 : Shape := ⟨2, ![16, 16384]⟩

abbrev nBuf : Space → Nat
  | .hbm => 109
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S3x2048, .f32⟩
  | .hbm, ⟨2, _⟩ => ⟨S2048, .f32⟩
  | .hbm, ⟨3, _⟩ => ⟨S4x512x256, .f32⟩
  | .hbm, ⟨4, _⟩ => ⟨S4x512x256, .f32⟩
  | .hbm, ⟨5, _⟩ => ⟨S4x512x512, .f32⟩
  | .hbm, ⟨6, _⟩ => ⟨S4096x16, .f32⟩
  | .hbm, ⟨7, _⟩ => ⟨S16, .f32⟩
  | .hbm, ⟨8, _⟩ => ⟨S16384x2048, .bf16⟩
  | .hbm, ⟨9, _⟩ => ⟨S16384x2048, .f32⟩
  | .hbm, ⟨10, _⟩ => ⟨S_, .i32⟩
  | .hbm, ⟨11, _⟩ => ⟨S_, .f32⟩
  | .hbm, ⟨12, _⟩ => ⟨S16386x2048, .f32⟩
  | .hbm, ⟨13, _⟩ => ⟨S16384x2048, .f32⟩
  | .hbm, ⟨14, _⟩ => ⟨S1x2048, .f32⟩
  | .hbm, ⟨15, _⟩ => ⟨S2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S1x2048, .f32⟩
  | .hbm, ⟨24, _⟩ => ⟨S2048, .f32⟩
  | .hbm, ⟨25, _⟩ => ⟨S1x2048, .f32⟩
  | .hbm, ⟨26, _⟩ => ⟨S16384x2048, .f32⟩
  | .hbm, ⟨27, _⟩ => ⟨S16384x2048, .f32⟩
  | .hbm, ⟨28, _⟩ => ⟨S16384x2048, .f32⟩
  | .hbm, ⟨29, _⟩ => ⟨S16384x2048, .f32⟩
  | .hbm, ⟨30, _⟩ => ⟨S1x2048, .f32⟩
  | .hbm, ⟨31, _⟩ => ⟨S2048, .f32⟩
  | .hbm, ⟨32, _⟩ => ⟨S1x2048, .f32⟩
  | .hbm, ⟨33, _⟩ => ⟨S16384x2048, .f32⟩
  | .hbm, ⟨34, _⟩ => ⟨S16384x2048, .f32⟩
  | .hbm, ⟨35, _⟩ => ⟨S16384x2048, .f32⟩
  | .hbm, ⟨36, _⟩ => ⟨S16384x2048, .f32⟩
  | .hbm, ⟨37, _⟩ => ⟨S16384x2048, .f32⟩
  | .hbm, ⟨38, _⟩ => ⟨S_, .f32⟩
  | .hbm, ⟨39, _⟩ => ⟨S16384x2048, .f32⟩
  | .hbm, ⟨40, _⟩ => ⟨S16384x2048, .f32⟩
  | .hbm, ⟨41, _⟩ => ⟨S_, .f32⟩
  | .hbm, ⟨42, _⟩ => ⟨S16384x2048, .f32⟩
  | .hbm, ⟨43, _⟩ => ⟨S16384x2048, .f32⟩
  | .hbm, ⟨44, _⟩ => ⟨S16384x2048, .f32⟩
  | .hbm, ⟨45, _⟩ => ⟨S16384x4x512, .f32⟩
  | .hbm, ⟨46, _⟩ => ⟨S16384x4x512, .f32⟩
  | .hbm, ⟨47, _⟩ => ⟨S4x256x16384, .f32⟩
  | .hbm, ⟨48, _⟩ => ⟨S16384x4x256, .f32⟩
  | .hbm, ⟨49, _⟩ => ⟨S16384x1024, .f32⟩
  | .hbm, ⟨50, _⟩ => ⟨S4x256x16384, .f32⟩
  | .hbm, ⟨51, _⟩ => ⟨S16384x4x256, .f32⟩
  | .hbm, ⟨52, _⟩ => ⟨S_, .f32⟩
  | .hbm, ⟨53, _⟩ => ⟨S16384x4x256, .f32⟩
  | .hbm, ⟨54, _⟩ => ⟨S16384x4x256, .f32⟩
  | .hbm, ⟨55, _⟩ => ⟨S16384x1024, .f32⟩
  | .hbm, ⟨56, _⟩ => ⟨S4x512x16384, .f32⟩
  | .hbm, ⟨57, _⟩ => ⟨S16384x4x512, .f32⟩
  | .hbm, ⟨58, _⟩ => ⟨S16384x2048, .f32⟩
  | .hbm, ⟨59, _⟩ => ⟨S16384x4096, .f32⟩
  | .hbm, ⟨60, _⟩ => ⟨S16384x16, .f32⟩
  | .hbm, ⟨61, _⟩ => ⟨S1x16, .f32⟩
  | .hbm, ⟨62, _⟩ => ⟨S16384x16, .f32⟩
  | .hbm, ⟨63, _⟩ => ⟨S16384x16, .f32⟩
  | .hbm, ⟨64, _⟩ => ⟨S16384x4, .f32⟩
  | .hbm, ⟨65, _⟩ => ⟨S16384x4, .f32⟩
  | .hbm, ⟨66, _⟩ => ⟨S16384x4, .f32⟩
  | .hbm, ⟨67, _⟩ => ⟨S16384x4, .f32⟩
  | .hbm, ⟨68, _⟩ => ⟨S16384x4, .f32⟩
  | .hbm, ⟨69, _⟩ => ⟨S_, .f32⟩
  | .hbm, ⟨70, _⟩ => ⟨S16384x4, .f32⟩
  | .hbm, ⟨71, _⟩ => ⟨S16384x4, .f32⟩
  | .hbm, ⟨72, _⟩ => ⟨S16384x4, .f32⟩
  | .hbm, ⟨73, _⟩ => ⟨S16384x4, .f32⟩
  | .hbm, ⟨74, _⟩ => ⟨S16384x4, .i1⟩
  | .hbm, ⟨75, _⟩ => ⟨S16384x4, .f32⟩
  | .hbm, ⟨76, _⟩ => ⟨S16384x4, .f32⟩
  | .hbm, ⟨77, _⟩ => ⟨S16384x4, .f32⟩
  | .hbm, ⟨78, _⟩ => ⟨S16384x4, .f32⟩
  | .hbm, ⟨79, _⟩ => ⟨S16384x4, .f32⟩
  | .hbm, ⟨80, _⟩ => ⟨S16384x4, .f32⟩
  | .hbm, ⟨81, _⟩ => ⟨S16384x4, .f32⟩
  | .hbm, ⟨82, _⟩ => ⟨S16384x4, .f32⟩
  | .hbm, ⟨83, _⟩ => ⟨S16384x4, .f32⟩
  | .hbm, ⟨84, _⟩ => ⟨S16384x4, .f32⟩
  | .hbm, ⟨85, _⟩ => ⟨S_, .f32⟩
  | .hbm, ⟨86, _⟩ => ⟨S16384x4, .f32⟩
  | .hbm, ⟨87, _⟩ => ⟨S16384x4, .f32⟩
  | .hbm, ⟨88, _⟩ => ⟨S16384x4, .f32⟩
  | .hbm, ⟨89, _⟩ => ⟨S16384x4, .f32⟩
  | .hbm, ⟨90, _⟩ => ⟨S16384x4, .i1⟩
  | .hbm, ⟨91, _⟩ => ⟨S16384x4, .f32⟩
  | .hbm, ⟨92, _⟩ => ⟨S16384x4, .f32⟩
  | .hbm, ⟨93, _⟩ => ⟨S16384x4, .f32⟩
  | .hbm, ⟨94, _⟩ => ⟨S16384x4, .f32⟩
  | .hbm, ⟨95, _⟩ => ⟨S16384x4, .f32⟩
  | .hbm, ⟨96, _⟩ => ⟨S16384x4, .f32⟩
  | .hbm, ⟨97, _⟩ => ⟨S16384x4, .f32⟩
  | .hbm, ⟨98, _⟩ => ⟨S16384x4, .f32⟩
  | .hbm, ⟨99, _⟩ => ⟨S16384x4, .f32⟩
  | .hbm, ⟨100, _⟩ => ⟨S16384x16, .f32⟩
  | .hbm, ⟨101, _⟩ => ⟨S16384x2048, .bf16⟩
  | .hbm, ⟨102, _⟩ => ⟨S16384x1024, .bf16⟩
  | .hbm, ⟨103, _⟩ => ⟨S16384x1024, .bf16⟩
  | .hbm, ⟨104, _⟩ => ⟨S16384x2048, .bf16⟩
  | .hbm, ⟨105, _⟩ => ⟨S_, .i32⟩
  | .hbm, ⟨106, _⟩ => ⟨S_, .f32⟩
  | .hbm, ⟨107, _⟩ => ⟨S16384x128, .f32⟩
  | .hbm, ⟨108, _⟩ => ⟨S16x16384, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_call2_v0 : Ref sig .tc := ⟨.hbm, 68, rfl⟩
abbrev main_call2_call0_cst : Ref sig .tc := ⟨.hbm, 69, rfl⟩
abbrev main_call2_call0_v0 : Ref sig .tc := ⟨.hbm, 70, rfl⟩
abbrev main_call2_call0_v1 : Ref sig .tc := ⟨.hbm, 71, rfl⟩
abbrev main_call2_call0_v2 : Ref sig .tc := ⟨.hbm, 72, rfl⟩
abbrev main_call2_call0_v3 : Ref sig .tc := ⟨.hbm, 73, rfl⟩
abbrev main_call2_call0_v4 : Ref sig .tc := ⟨.hbm, 74, rfl⟩
abbrev main_call2_call0_v5 : Ref sig .tc := ⟨.hbm, 75, rfl⟩
abbrev main_call2_call0_v6 : Ref sig .tc := ⟨.hbm, 76, rfl⟩
abbrev main_call2_call0_v7 : Ref sig .tc := ⟨.hbm, 77, rfl⟩
abbrev main_call2_call0_v8 : Ref sig .tc := ⟨.hbm, 78, rfl⟩
abbrev main_call2_call0_v9 : Ref sig .tc := ⟨.hbm, 79, rfl⟩
abbrev main_call2_call0_v10 : Ref sig .tc := ⟨.hbm, 80, rfl⟩
abbrev main_call2_call0_v11 : Ref sig .tc := ⟨.hbm, 81, rfl⟩
abbrev main_call2_v1 : Ref sig .tc := ⟨.hbm, 82, rfl⟩
abbrev main_v49 : Ref sig .tc := ⟨.hbm, 83, rfl⟩
abbrev main_call3_v0 : Ref sig .tc := ⟨.hbm, 84, rfl⟩
abbrev main_call3_call0_cst : Ref sig .tc := ⟨.hbm, 85, rfl⟩
abbrev main_call3_call0_v0 : Ref sig .tc := ⟨.hbm, 86, rfl⟩
abbrev main_call3_call0_v1 : Ref sig .tc := ⟨.hbm, 87, rfl⟩
abbrev main_call3_call0_v2 : Ref sig .tc := ⟨.hbm, 88, rfl⟩
abbrev main_call3_call0_v3 : Ref sig .tc := ⟨.hbm, 89, rfl⟩
abbrev main_call3_call0_v4 : Ref sig .tc := ⟨.hbm, 90, rfl⟩
abbrev main_call3_call0_v5 : Ref sig .tc := ⟨.hbm, 91, rfl⟩
abbrev main_call3_call0_v6 : Ref sig .tc := ⟨.hbm, 92, rfl⟩
abbrev main_call3_call0_v7 : Ref sig .tc := ⟨.hbm, 93, rfl⟩
abbrev main_call3_call0_v8 : Ref sig .tc := ⟨.hbm, 94, rfl⟩
abbrev main_call3_call0_v9 : Ref sig .tc := ⟨.hbm, 95, rfl⟩
abbrev main_call3_call0_v10 : Ref sig .tc := ⟨.hbm, 96, rfl⟩
abbrev main_call3_call0_v11 : Ref sig .tc := ⟨.hbm, 97, rfl⟩
abbrev main_call3_v1 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_c_0 : Ref sig .tc := ⟨.hbm, 105, rfl⟩
abbrev main_call4_v0 : Ref sig .tc := ⟨.hbm, 106, rfl⟩
abbrev main_v56 : Ref sig .tc := ⟨.hbm, 107, rfl⟩
abbrev main_v57 : Ref sig .tc := ⟨.hbm, 108, rfl⟩

abbrev nD : Nat := 1
abbrev τ : Topo := Topo.v7x

variable {F : FTy → Type} [FloatOps F]
-- ==== Proof.Recur.lean ====
module

public import Idealize.ShloMosaic.PureOps.Ideal
public import Idealize.ShloMosaic.PureOps.Ideal.Laws
public import Idealize.ShloMosaic.Lib.Pointwise

@[expose] public section

/-! The mLSTM recurrence over the real numbers, one token at a time, and what one chunk of any length computes of it.

`U` is the memory without its stabiliser (`exp m` times what the programs keep), `Mx` the stabiliser. A chunk that
starts after `a` tokens and holds `N` tokens computes the memory after `a + N` tokens and each token's answer from the
memory after `a` tokens; both depend on the chunk's length only through where the chunk starts and ends. -/

noncomputable section
open Idealize.ShloMosaic
open scoped BigOperators
namespace Mlstm

variable (f i : ℕ → ℝ)

/-- The stabiliser after `n` tokens: the greatest exponent any term of the memory has had. -/
def Mx (m0 : ℝ) : ℕ → ℝ
  | 0 => m0
  | n + 1 => max (f n + Mx m0 n) (i n)

/-- One entry of the memory after `n` tokens, unscaled: it decays by `exp f` and takes `exp i` times the token's term. -/
def U (x : ℕ → ℝ) (u0 : ℝ) : ℕ → ℝ
  | 0 => u0
  | n + 1 => Real.exp (f n) * U x u0 n + Real.exp (i n) * x n

/-- The sum of the log forget gates of the first `t` tokens of the chunk that starts at `a`. -/
def B (a t : ℕ) : ℝ := ∑ s ∈ Finset.range t, f (a + s)

theorem B_succ (a t : ℕ) : B f a (t + 1) = B f a t + f (a + t) := Finset.sum_range_succ _ _

/-- The exponent with which token `s` of the chunk enters the memory after `t` tokens of it. -/
def g (a t s : ℕ) : ℝ := B f a t - B f a (s + 1) + i (a + s)

/-- The memory after `t` more tokens: the decayed memory and the chunk's own terms. -/
theorem U_add (x : ℕ → ℝ) (u0 : ℝ) (a t : ℕ) :
    U f i x u0 (a + t) = Real.exp (B f a t) * U f i x u0 a + ∑ s ∈ Finset.range t, Real.exp (g f i a t s) * x (a + s) := by
  induction t with
  | zero => simp [B]
  | succ t ih =>
    have e : ∀ s, Real.exp (g f i a (t + 1) s) = Real.exp (f (a + t)) * Real.exp (g f i a t s) := by
      intro s; rw [← Real.exp_add]; congr 1; unfold g; rw [B_succ]; ring
    have e' : Real.exp (g f i a (t + 1) t) = Real.exp (i (a + t)) := by
      congr 1; unfold g; ring
    have es : ∑ s ∈ Finset.range t, Real.exp (g f i a (t + 1) s) * x (a + s)
        = Real.exp (f (a + t)) * ∑ s ∈ Finset.range t, Real.exp (g f i a t s) * x (a + s) := by
      rw [Finset.mul_sum]
      exact Finset.sum_congr rfl fun s _ => by rw [e s, mul_assoc]
    rw [← Nat.add_assoc, U, ih, Finset.sum_range_succ, e', es, B_succ, Real.exp_add]
    ring

/-- The stabiliser after `t` more tokens lies below `c` exactly when every exponent does. -/
theorem Mx_add_le (m0 : ℝ) (a t : ℕ) : ∀ c : ℝ,
    Mx f i m0 (a + t) ≤ c ↔ B f a t + Mx f i m0 a ≤ c ∧ ∀ s < t, g f i a t s ≤ c := by
  induction t with
  | zero => intro c; simp [B]
  | succ t ih =>
    intro c
    have h1 := ih (c - f (a + t))
    rw [← Nat.add_assoc, Mx, max_le_iff, B_succ]
    have e : ∀ s, g f i a (t + 1) s = g f i a t s + f (a + t) := by
      intro s; unfold g; rw [B_succ]; ring
    have e' : g f i a (t + 1) t = i (a + t) := by unfold g; ring
    constructor
    · rintro ⟨h, h'⟩
      have := h1.mp (by linarith)
      refine ⟨by linarith [this.1], fun s hs => ?_⟩
      rcases Nat.lt_succ_iff_lt_or_eq.mp hs with hs | rfl
      · rw [e]; linarith [this.2 s hs]
      · rw [e']; exact h'
    · rintro ⟨h, h'⟩
      have := h1.mpr ⟨by linarith, fun s hs => by have := h' s (by omega); rw [e] at this; linarith⟩
      exact ⟨by linarith, by have := h' t (by omega); rwa [e'] at this⟩

/-! ## Sums, maxima and exponentials of real numbers among the extended reals -/

theorem coe_sum {ι : Type} (s : Finset ι) (h : ι → ℝ) : ∑ x ∈ s, (h x : EReal) = ((∑ x ∈ s, h x : ℝ) : EReal) := by
  classical
  induction s using Finset.induction_on with
  | empty => simp
  | insert x s hx ih => rw [Finset.sum_insert hx, Finset.sum_insert hx, ih, EReal.coe_add]

theorem coe_max (x y : ℝ) : max (x : EReal) (y : EReal) = ((max x y : ℝ) : EReal) :=
  (EReal.coe_strictMono.monotone.map_max).symm

theorem coe_abs (x : ℝ) : (FloatOps.absf (F := Ideal) (φ := .f32) (x : EReal) : EReal) = ((|x| : ℝ) : EReal) := by
  show max (x : EReal) (-(x : EReal)) = _
  rw [← EReal.coe_neg, coe_max]; rfl

/-- The greatest of a real number and finitely many others, each a real number or absent, is a real number. -/
theorem exists_max {N : ℕ} (p : Fin N → Prop) [DecidablePred p] (h : Fin N → ℝ) (x : ℝ) :
    ∃ y : ℝ, max (x : EReal) (Finset.fold max ⊥ (fun s => if p s then (h s : EReal) else ⊥) Finset.univ) = (y : EReal) := by
  have hb : max (x : EReal) (Finset.fold max ⊥ (fun s => if p s then (h s : EReal) else ⊥) Finset.univ) ≠ ⊥ :=
    ne_bot_of_le_ne_bot (EReal.coe_ne_bot x) (le_max_left _ _)
  have ht : max (x : EReal) (Finset.fold max ⊥ (fun s => if p s then (h s : EReal) else ⊥) Finset.univ) ≠ ⊤ := by
    refine ne_of_lt (max_lt (EReal.coe_lt_top x) ((Finset.fold_max_lt _).mpr ⟨bot_lt_top, fun s _ => ?_⟩))
    split
    · exact EReal.coe_lt_top _
    · exact bot_lt_top
  exact ⟨_, (EReal.coe_toReal ht hb).symm⟩

/-- The stabiliser at the chunk's end is the maximum that the chunk takes. -/
theorem max_eq (m0 : ℝ) (a N : ℕ) :
    max ((B f a N + Mx f i m0 a : ℝ) : EReal) (Finset.fold max ⊥ (fun s : Fin N => (g f i a N s : EReal)) Finset.univ)
      = (Mx f i m0 (a + N) : EReal) := by
  refine eq_of_forall_ge_iff fun c => ?_
  rw [max_le_iff, Finset.fold_max_le]
  induction c with
  | bot => simp
  | top => simp
  | coe c =>
    simp only [EReal.coe_le_coe_iff, bot_le, true_and, Finset.mem_univ, true_imp_iff]
    rw [Mx_add_le]
    exact and_congr_right fun _ => ⟨fun h s hs => h ⟨s, hs⟩, fun h s => h s s.isLt⟩

/-- A quotient of a token's answer: the stabiliser `y` leaves both its parts. -/
theorem div_stab (A D y : ℝ) :
    Ideal.div ((A * Real.exp (-y) : ℝ) : EReal) (max ((|D * Real.exp (-y)| : ℝ) : EReal) ((Real.exp (-y) : ℝ) : EReal))
      = ((A / max |D| 1 : ℝ) : EReal) := by
  have hp : 0 < Real.exp (-y) := Real.exp_pos _
  have h1 : (0 : ℝ) < max |D| 1 := lt_of_lt_of_le one_pos (le_max_right _ _)
  rw [coe_max, abs_mul, abs_of_pos hp]
  have e : max (|D| * Real.exp (-y)) (Real.exp (-y)) = max |D| 1 * Real.exp (-y) := by
    rw [max_mul_of_nonneg _ _ hp.le, one_mul]
  rw [e, Ideal.div_coe (mul_pos h1 hp).ne', ← EReal.coe_mul]
  congr 1
  field_simp

/-- A token's answer, as the chunk computes it. -/
theorem answer {N : ℕ} (p : Fin N → Prop) [DecidablePred p] (S h v : Fin N → ℝ) (a qC qn : ℝ) (G : Fin N → EReal)
    (J : EReal) (hG : ∀ s, G s = if p s then (h s : EReal) else ⊥)
    (hJ : J = max (a : EReal) (Finset.fold max ⊥ (fun s => G s) Finset.univ)) :
    Ideal.div (∑ s, (S s : EReal) * Ideal.exp (G s - J) * (v s : EReal) + Ideal.exp ((a : EReal) - J) * (qC : EReal))
      (max (FloatOps.absf (F := Ideal) (φ := .f32) (∑ s, (S s : EReal) * Ideal.exp (G s - J) + Ideal.exp ((a : EReal) - J) * (qn : EReal)))
        (Ideal.exp (-J)))
      = (((∑ s, (if p s then S s * Real.exp (h s) * v s else 0) + Real.exp a * qC)
          / max |∑ s, (if p s then S s * Real.exp (h s) else 0) + Real.exp a * qn| 1 : ℝ) : EReal) := by
  obtain ⟨y, hy⟩ := exists_max p h a
  obtain rfl : J = (y : EReal) := by rw [hJ, funext hG]; exact hy
  have e : ∀ s, Ideal.exp (G s - (y : EReal)) = ((if p s then Real.exp (h s) * Real.exp (-y) else 0 : ℝ) : EReal) := by
    intro s
    rw [hG]
    split
    · rw [← EReal.coe_sub, Ideal.exp_coe, ← Real.exp_add, sub_eq_add_neg]
    · rw [EReal.bot_sub]; rfl
  have ea : Ideal.exp ((a : EReal) - (y : EReal)) = ((Real.exp a * Real.exp (-y) : ℝ) : EReal) := by
    rw [← EReal.coe_sub, Ideal.exp_coe, ← Real.exp_add, sub_eq_add_neg]
  rw [← div_stab _ _ y]
  simp only [e, ea, ← EReal.coe_mul, coe_sum, ← EReal.coe_add, ← EReal.coe_neg, Ideal.exp_coe, coe_abs]
  have e1 : ∀ s, S s * (if p s then Real.exp (h s) * Real.exp (-y) else 0) * v s
      = (if p s then S s * Real.exp (h s) * v s else 0) * Real.exp (-y) := by
    intro s; split <;> ring
  have e2 : ∀ s, S s * (if p s then Real.exp (h s) * Real.exp (-y) else 0)
      = (if p s then S s * Real.exp (h s) else 0) * Real.exp (-y) := by
    intro s; split <;> ring
  rw [Finset.sum_congr rfl (fun s _ => e1 s), Finset.sum_congr rfl (fun s _ => e2 s), ← Finset.sum_mul, ← Finset.sum_mul]
  have r : ∀ X q : ℝ, X * Real.exp (-y) + Real.exp a * Real.exp (-y) * q = (X + Real.exp a * q) * Real.exp (-y) := by
    intro X q; ring
  rw [r, r]

/-- The parts of a token's answer, put together: the memory after the token, read by its query. -/
theorem read_add {N D : ℕ} (k : Fin D → ℕ → ℝ) (v : ℕ → ℝ) (u0 q : Fin D → ℝ) (m0 : ℝ) (a : ℕ) (t : Fin N) :
    ∑ s : Fin N, (if s ≤ t then (∑ d, q d * k d (a + s)) * Real.exp (g f i a (t + 1) s) * v (a + s) else 0)
        + Real.exp (B f a (t + 1) + Mx f i m0 a)
          * ∑ d, q d * (Real.exp (-Mx f i m0 a) * U f i (fun n => k d n * v n) (u0 d) a)
      = ∑ d, q d * U f i (fun n => k d n * v n) (u0 d) (a + (t + 1)) := by
  have e : ∑ s : Fin N, (if s ≤ t then (∑ d, q d * k d (a + s)) * Real.exp (g f i a (t + 1) s) * v (a + s) else 0)
      = ∑ s ∈ Finset.range (t + 1), (∑ d, q d * k d (a + s)) * Real.exp (g f i a (t + 1) s) * v (a + s) := by
    have e1 := Fin.sum_univ_eq_sum_range
      (fun s => if s ≤ (t : ℕ) then (∑ d, q d * k d (a + s)) * Real.exp (g f i a (t + 1) s) * v (a + s) else 0) N
    have e2 : (Finset.range N).filter (fun s => s ≤ (t : ℕ)) = Finset.range (t + 1) := by
      ext s; simp only [Finset.mem_filter, Finset.mem_range]; omega
    rw [← e2, Finset.sum_filter, ← e1]
    rfl
  rw [e]
  simp only [U_add, Real.exp_add, mul_add, Finset.sum_add_distrib, Finset.mul_sum, Finset.sum_mul]
  rw [Finset.sum_comm, add_comm]
  refine congrArg₂ (· + ·) (Finset.sum_congr rfl fun d _ => ?_)
    (Finset.sum_congr rfl fun d _ => Finset.sum_congr rfl fun s _ => by ring)
  have := Real.exp_pos (Mx f i m0 a)
  rw [Real.exp_neg]
  field_simp

/-- A token's answer: its query's reading of the memory, over the reading of the normaliser or one. -/
def H {D : ℕ} (k : Fin D → ℕ → ℝ) (v : ℕ → ℝ) (c0 n0 q : Fin D → ℝ) (m0 : ℝ) (n : ℕ) : ℝ :=
  (∑ d, q d * U f i (fun n => k d n * v n) (Real.exp m0 * c0 d) (n + 1))
    / max |∑ d, q d * U f i (fun n => k d n * 1) (Real.exp m0 * n0 d) (n + 1)| 1

/-- An entry of the memory as the programs keep it, after `n` tokens. -/
def St (x : ℕ → ℝ) (c0 m0 : ℝ) (n : ℕ) : ℝ := Real.exp (-Mx f i m0 n) * U f i x (Real.exp m0 * c0) n

theorem St_zero (x : ℕ → ℝ) (c0 m0 : ℝ) : St f i x c0 m0 0 = c0 := by
  show Real.exp (-m0) * (Real.exp m0 * c0) = c0
  rw [← mul_assoc, ← Real.exp_add, neg_add_cancel, Real.exp_zero, one_mul]

/-- The answer of a chunk's token, from the memory before the chunk. -/
theorem answer_chunk {N D : ℕ} (k : Fin D → ℕ → ℝ) (v : ℕ → ℝ) (c0 n0 q : Fin D → ℝ) (m0 : ℝ) (a : ℕ) (t : Fin N)
    (G : Fin N → EReal) (J b : EReal) (hG : ∀ s, G s = if s ≤ t then (g f i a (t + 1) s : EReal) else ⊥)
    (hb : b = ((B f a (t + 1) + Mx f i m0 a : ℝ) : EReal))
    (hJ : J = max b (Finset.fold max ⊥ (fun s => G s) Finset.univ)) :
    Ideal.div (∑ s : Fin N, ((∑ d, q d * k d (a + s) : ℝ) : EReal) * Ideal.exp (G s - J) * (v (a + s) : EReal)
          + Ideal.exp (b - J) * ((∑ d, q d * St f i (fun n => k d n * v n) (c0 d) m0 a : ℝ) : EReal))
      (max (FloatOps.absf (F := Ideal) (φ := .f32) (∑ s : Fin N, ((∑ d, q d * k d (a + s) : ℝ) : EReal) * Ideal.exp (G s - J)
          + Ideal.exp (b - J) * ((∑ d, q d * St f i (fun n => k d n * 1) (n0 d) m0 a : ℝ) : EReal)))
        (Ideal.exp (-J)))
      = (H f i k v c0 n0 q m0 (a + t) : EReal) := by
  subst hb
  have r1 := read_add f i k v (fun d => Real.exp m0 * c0 d) q m0 a t
  have r2 := read_add f i k (fun _ => 1) (fun d => Real.exp m0 * n0 d) q m0 a t
  simp only [mul_one] at r2
  unfold H
  rw [answer (fun s => s ≤ t) _ _ (fun s => v (a + s)) _ _ _ G J hG hJ, Nat.add_assoc, ← r1]
  simp only [mul_one]
  rw [← r2]
  rfl

/-- An entry of the memory after the chunk, from the one before it. -/
theorem state_chunk {N : ℕ} (k v : ℕ → ℝ) (c0 m0 : ℝ) (a : ℕ) :
    Ideal.exp (((B f a N + Mx f i m0 a : ℝ) : EReal) - (Mx f i m0 (a + N) : EReal)) * (St f i (fun n => k n * v n) c0 m0 a : EReal)
        + ∑ s : Fin N, (k (a + s) : EReal) * ((v (a + s) : EReal) * Ideal.exp ((g f i a N s : EReal) - (Mx f i m0 (a + N) : EReal)))
      = (St f i (fun n => k n * v n) c0 m0 (a + N) : EReal) := by
  simp only [← EReal.coe_sub, Ideal.exp_coe, ← EReal.coe_mul, coe_sum, ← EReal.coe_add]
  congr 1
  unfold St
  rw [U_add, ← Fin.sum_univ_eq_sum_range (fun s => Real.exp (g f i a N s) * (k (a + s) * v (a + s))) N, mul_add, Finset.mul_sum]
  refine congrArg₂ (· + ·) ?_ (Finset.sum_congr rfl fun s _ => ?_)
  · rw [sub_eq_add_neg, Real.exp_add, Real.exp_add, Real.exp_neg (Mx f i m0 a)]
    have := Real.exp_pos (Mx f i m0 a)
    field_simp
  · rw [sub_eq_add_neg, Real.exp_add]; ring

end Mlstm
end
-- ==== Proof.Kern.lean ====
module

public import proofs.«01_k».proof.Proof.Gen.KernelIdeal.Value
public import proofs.«01_k».proof.Proof.Recur
public import Idealize.ShloMosaic.Lib.Pipeline.ValueKit
public import Idealize.ShloMosaic.Lib.Pointwise
public import Idealize.ShloMosaic.Lib.Pipeline.ReadBack

@[expose] public section
set_option maxRecDepth 16384
noncomputable section
open Idealize.ShloMosaic Idealize.ShloMosaic.TcCoe Idealize.SL.Sem
namespace Cert.KernelIdeal.Scan
open Cert.KernelIdeal Cert.KernelIdeal.Gen Cert.KernelIdeal.Value

/-- The causal choice of a chunk: `a` where token `s` is not after token `t`, else `b`. -/
def sel (s t : ℕ) (a b : EReal) : EReal :=
  Scalar.select (IntOp.cmpi CmpIPredicate.sle (BitVec.ofNat 32 s) (BitVec.ofNat 32 t)) a b

/-- The running sum of head `h`'s log forget gates, read from the gates by token. -/
def bC (g : Vec Ideal S256x128 .f32) (h : Fin 4) (t : Fin 256) : EReal :=
  ∑ s : Fin 256, sel s t (g (ix2 s ⟨4 + h, by omega⟩)) 0

/-- The same from the gates by channel. -/
def bR (gt : Vec Ideal S16x256 .f32) (h : Fin 4) (t : Fin 256) : EReal :=
  ∑ s : Fin 256, sel s t (gt (ix2 ⟨4 + h, by omega⟩ s)) 0

/-- The sum over the whole chunk. -/
def tot (g : Vec Ideal S256x128 .f32) (h : Fin 4) : EReal := bC g h 255

/-- The stabiliser after the chunk. -/
def mNew (g : Vec Ideal S256x128 .f32) (gt : Vec Ideal S16x256 .f32) (M : EReal) (h : Fin 4) : EReal :=
  max (tot g h + M) (Finset.fold max (Ideal.ofBits .f32 4286578688#32)
    (fun x : Fin 256 => tot g h - bR gt h x + gt (ix2 ⟨h, by omega⟩ x)) Finset.univ)

/-- The memory after the chunk. -/
def cNew (k : Vec Ideal S256x1024 .bf16) (v : Vec Ideal S256x2048 .bf16) (g : Vec Ideal S256x128 .f32)
    (gt : Vec Ideal S16x256 .f32) (M C : EReal) (h : Fin 4) (d : Fin 256) (e : Fin 512) : EReal :=
  Ideal.exp (tot g h + M - mNew g gt M h) * C
    + ∑ s : Fin 256, k (ix2 s ⟨256 * h + d, by omega⟩) * (v (ix2 s ⟨512 * h + e, by omega⟩)
        * Ideal.exp (tot g h - bC g h s + g (ix2 s ⟨h, by omega⟩) - mNew g gt M h))

/-- The normaliser after the chunk. -/
def nNew (k : Vec Ideal S256x1024 .bf16) (g : Vec Ideal S256x128 .f32)
    (gt : Vec Ideal S16x256 .f32) (M n : EReal) (h : Fin 4) (d : Fin 256) : EReal :=
  Ideal.exp (tot g h + M - mNew g gt M h) * n
    + ∑ s : Fin 256, k (ix2 s ⟨256 * h + d, by omega⟩)
        * Ideal.exp (tot g h - bC g h s + g (ix2 s ⟨h, by omega⟩) - mNew g gt M h)

/-- The exponent of token `s` at token `t`. -/
def lg (g : Vec Ideal S256x128 .f32) (gt : Vec Ideal S16x256 .f32) (h : Fin 4) (t s : Fin 256) : EReal :=
  sel s t (bC g h t - bR gt h s + gt (ix2 ⟨h, by omega⟩ s)) (Ideal.ofBits .f32 4286578688#32)

/-- The stabiliser of token `t`'s answer. -/
def mj (g : Vec Ideal S256x128 .f32) (gt : Vec Ideal S16x256 .f32) (M : EReal) (h : Fin 4) (t : Fin 256) : EReal :=
  max (bC g h t + M) (Finset.fold max (Ideal.ofBits .f32 4286578688#32) (fun s => lg g gt h t s) Finset.univ)

/-- The inner products of the queries and the keys. -/
def qk (q k : Vec Ideal S256x1024 .bf16) (h : Fin 4) (t s : Fin 256) : EReal :=
  ∑ d : Fin 256, q (ix2 t ⟨256 * h + d, by omega⟩) * k (ix2 s ⟨256 * h + d, by omega⟩)

/-- Token `t`'s answer. -/
def hOut (q k : Vec Ideal S256x1024 .bf16) (v : Vec Ideal S256x2048 .bf16) (g : Vec Ideal S256x128 .f32)
    (gt : Vec Ideal S16x256 .f32) (M : EReal) (n : Fin 256 → EReal) (C : Fin 256 → EReal)
    (h : Fin 4) (t : Fin 256) (e : Fin 512) : EReal :=
  Ideal.div
    (∑ s : Fin 256, qk q k h t s * Ideal.exp (lg g gt h t s - mj g gt M h t) * v (ix2 s ⟨512 * h + e, by omega⟩)
      + Ideal.exp (bC g h t + M - mj g gt M h t) * ∑ d : Fin 256, q (ix2 t ⟨256 * h + d, by omega⟩) * C d)
    (max (FloatOps.absf (F := Ideal) (φ := .f32)
      (∑ s : Fin 256, qk q k h t s * Ideal.exp (lg g gt h t s - mj g gt M h t)
        + Ideal.exp (bC g h t + M - mj g gt M h t) * ∑ d : Fin 256, q (ix2 t ⟨256 * h + d, by omega⟩) * n d))
      (Ideal.exp (0 - mj g gt M h t)))

/-- What an index covered by the newer writes holds is theirs, whatever was written before. -/
theorem canon_append_of_cover {S : Shape} {e : EltTy} (L L' : List (View.Piece (Elt Ideal) S e)) (y : S.Idx)
    (hc : ∃ p ∈ L, y ∈ p.1.set) : View.canon (L ++ L') y = View.canon L y := by
  induction L with
  | nil => obtain ⟨_, hm, _⟩ := hc; exact absurd hm List.not_mem_nil
  | cons p L ih =>
    by_cases hy : y ∈ p.1.set
    · obtain ⟨x, rfl⟩ : ∃ x, p.1.emb x = y := p.1.exists_idx_of_mem hy
      rw [List.cons_append]
      exact (View.canon_cons_emb p.1 p.2 _ x).trans (View.canon_cons_emb p.1 p.2 _ x).symm
    · rw [List.cons_append, View.canon_cons_of_not_mem p _ hy, View.canon_cons_of_not_mem p _ hy]
      refine ih ?_
      obtain ⟨p', hm, hy'⟩ := hc
      rcases List.mem_cons.mp hm with rfl | hm
      · exact absurd hy' hy
      · exact ⟨p', hm, hy'⟩

/-- A load of what one store of a whole buffer left reads the stored array. -/
theorem readCov_whole {S : Shape} {e : EltTy} {κ : Kind} {sp : Space} (v : View sig κ sp S e) {off : Fin S.rank → Nat}
    (inb : ∀ a, off a + S.size a ≤ S.size a) (w : S.Idx → Elt Ideal e) (r : Rect S) (h : ∀ a, off a = 0) :
    v.readCov [(⟨Rect.unit off (no_index S.size) inb, w⟩ : View.Piece (Elt Ideal) S e)] r.toLoadRect = View.ld w r := by
  rw [View.readCov_eq_canon', View.canon_cons_unit_lit inb w [] h]

variable (m : (ℓ : Loc nD τ sig) → Buf (Elt Ideal) ℓ)

/-- What a point's chunk starts from: the given initial values at the first point, the carried ones afterwards. -/
def prev (c : Dev nD) (t : Fin cfg0.N) (acc : Vec Ideal S4x256x512 .f32 × Vec Ideal S4x1x256 .f32 × Vec Ideal S4x1x128 .f32) :
    Vec Ideal S4x256x512 .f32 × Vec Ideal S4x1x256 .f32 × Vec Ideal S4x1x128 .f32 :=
  if t.val % 64 = 0 then (iblk m c 5 t, iblk m c 6 t, iblk m c 7 t) else acc

set_option maxHeartbeats 4000000 in
/-- The carried stabilisers after a point. -/
theorem st_m (c : Dev nD) (t : Fin cfg0.N) (acc) (h : Fin 4) (z : Fin 1) (l : Fin 128) :
    (stAt0 m c t.val t.isLt acc).2.2.2.2.2.2 (ix3 h z l)
      = mNew (iblk m c 3 t) (iblk m c 4 t) ((prev m c t acc.2.2.2.2).2.2 (ix3 h 0 0)) h := by
  generalize hy : (ix3 h z l : S4x1x128.Idx) = y
  have hy0 : h.val = (y 0).val := by rw [← hy]; rfl
  unfold prev
  by_cases h0 : t.val % 64 = 0
  · have h1 : ¬t.val % 64 = 63 := by omega
    rw [stAt0_A m c t acc h0 h1, if_pos h0]
    frame_out
    refine (canon_append_of_cover [_, _, _, _] [_] _ ?_).trans ?_
    · exact View.cover_of_tiled_head _ _ _ (by rfl) _
    simp (disch := first | rfl | decide) only [View.readCov_skip, readCov_whole]
    canon_tiles x hh
    all_goals
      open_payloads; pointwise
    case' piece0 => obtain rfl : h = 3 := Fin.ext (by show h.val = 3; omega)
    case' piece1 => obtain rfl : h = 2 := Fin.ext (by show h.val = 2; omega)
    case' piece2 => obtain rfl : h = 1 := Fin.ext (by show h.val = 1; omega)
    case' piece3 => obtain rfl : h = 0 := Fin.ext (by show h.val = 0; omega)
    all_goals
      rfl
  · by_cases h1 : t.val % 64 = 63
    · rw [stAt0_C m c t acc h0 h1, if_neg h0]
      frame_out
      canon_tiles x hh
      all_goals
        open_payloads; pointwise
        simp only [(Memref.isWhole_whole _).read_unread]
      case' piece0 => obtain rfl : h = 3 := Fin.ext (by show h.val = 3; omega)
      case' piece1 => obtain rfl : h = 2 := Fin.ext (by show h.val = 2; omega)
      case' piece2 => obtain rfl : h = 1 := Fin.ext (by show h.val = 1; omega)
      case' piece3 => obtain rfl : h = 0 := Fin.ext (by show h.val = 0; omega)
      all_goals
        rfl
    · rw [stAt0_B m c t acc h0 h1, if_neg h0]
      frame_out
      canon_tiles x hh
      all_goals
        open_payloads; pointwise
        simp only [(Memref.isWhole_whole _).read_unread]
      case' piece0 => obtain rfl : h = 3 := Fin.ext (by show h.val = 3; omega)
      case' piece1 => obtain rfl : h = 2 := Fin.ext (by show h.val = 2; omega)
      case' piece2 => obtain rfl : h = 1 := Fin.ext (by show h.val = 1; omega)
      case' piece3 => obtain rfl : h = 0 := Fin.ext (by show h.val = 0; omega)
      all_goals
        rfl

set_option maxHeartbeats 4000000 in
/-- The carried memory after a point. -/
theorem st_C (c : Dev nD) (t : Fin cfg0.N) (acc) (h : Fin 4) (d : Fin 256) (e : Fin 512) :
    (stAt0 m c t.val t.isLt acc).2.2.2.2.1 (ix3 h d e)
      = cNew (iblk m c 1 t) (iblk m c 2 t) (iblk m c 3 t) (iblk m c 4 t) ((prev m c t acc.2.2.2.2).2.2 (ix3 h 0 0))
          ((prev m c t acc.2.2.2.2).1 (ix3 h d e)) h d e := by
  generalize hy : (ix3 h d e : S4x256x512.Idx) = y
  have hy0 : h.val = (y 0).val := by rw [← hy]; rfl
  have hy1 : d.val = (y 1).val := by rw [← hy]; rfl
  have hy2 : e.val = (y 2).val := by rw [← hy]; rfl
  unfold prev
  by_cases h0 : t.val % 64 = 0
  · have h1 : ¬t.val % 64 = 63 := by omega
    rw [stAt0_A m c t acc h0 h1, if_pos h0]
    frame_out
    refine (canon_append_of_cover [_, _, _, _] [_] _ ?_).trans ?_
    · exact View.cover_of_tiled_head _ _ _ (by rfl) _
    simp (disch := first | rfl | decide) only [View.readCov_skip, readCov_whole]
    canon_tiles x hh
    all_goals
      open_payloads; pointwise
    case' piece0 => obtain rfl : h = 3 := Fin.ext (by show h.val = 3; omega)
    case' piece1 => obtain rfl : h = 2 := Fin.ext (by show h.val = 2; omega)
    case' piece2 => obtain rfl : h = 1 := Fin.ext (by show h.val = 1; omega)
    case' piece3 => obtain rfl : h = 0 := Fin.ext (by show h.val = 0; omega)
    all_goals
      obtain rfl : d = x 1 := Fin.ext (by omega)
      obtain rfl : e = x 2 := Fin.ext (by omega)
      subst hy
      unfold cNew
      try simp only [Fin.val_zero, Nat.mul_zero, Nat.zero_add]
      rfl
  · by_cases h1 : t.val % 64 = 63
    · rw [stAt0_C m c t acc h0 h1, if_neg h0]
      frame_out
      canon_tiles x hh
      all_goals
        open_payloads; pointwise
        simp only [(Memref.isWhole_whole _).read_unread]
      case' piece0 => obtain rfl : h = 3 := Fin.ext (by show h.val = 3; omega)
      case' piece1 => obtain rfl : h = 2 := Fin.ext (by show h.val = 2; omega)
      case' piece2 => obtain rfl : h = 1 := Fin.ext (by show h.val = 1; omega)
      case' piece3 => obtain rfl : h = 0 := Fin.ext (by show h.val = 0; omega)
      all_goals
        obtain rfl : d = x 1 := Fin.ext (by omega)
        obtain rfl : e = x 2 := Fin.ext (by omega)
        subst hy
        unfold cNew
        try simp only [Fin.val_zero, Nat.mul_zero, Nat.zero_add]
        rfl
    · rw [stAt0_B m c t acc h0 h1, if_neg h0]
      frame_out
      canon_tiles x hh
      all_goals
        open_payloads; pointwise
        simp only [(Memref.isWhole_whole _).read_unread]
      case' piece0 => obtain rfl : h = 3 := Fin.ext (by show h.val = 3; omega)
      case' piece1 => obtain rfl : h = 2 := Fin.ext (by show h.val = 2; omega)
      case' piece2 => obtain rfl : h = 1 := Fin.ext (by show h.val = 1; omega)
      case' piece3 => obtain rfl : h = 0 := Fin.ext (by show h.val = 0; omega)
      all_goals
        obtain rfl : d = x 1 := Fin.ext (by omega)
        obtain rfl : e = x 2 := Fin.ext (by omega)
        subst hy
        unfold cNew
        try simp only [Fin.val_zero, Nat.mul_zero, Nat.zero_add]
        rfl

set_option maxHeartbeats 4000000 in
/-- The carried normaliser after a point. -/
theorem st_n (c : Dev nD) (t : Fin cfg0.N) (acc) (h : Fin 4) (z : Fin 1) (d : Fin 256) :
    (stAt0 m c t.val t.isLt acc).2.2.2.2.2.1 (ix3 h z d)
      = nNew (iblk m c 1 t) (iblk m c 3 t) (iblk m c 4 t) ((prev m c t acc.2.2.2.2).2.2 (ix3 h 0 0))
          ((prev m c t acc.2.2.2.2).2.1 (ix3 h 0 d)) h d := by
  obtain rfl : z = 0 := Subsingleton.elim _ _
  generalize hy : (ix3 h 0 d : S4x1x256.Idx) = y
  have hy0 : h.val = (y 0).val := by rw [← hy]; rfl
  have hy2 : d.val = (y 2).val := by rw [← hy]; rfl
  unfold prev
  by_cases h0 : t.val % 64 = 0
  · have h1 : ¬t.val % 64 = 63 := by omega
    rw [stAt0_A m c t acc h0 h1, if_pos h0]
    frame_out
    refine (canon_append_of_cover [_, _, _, _] [_] _ ?_).trans ?_
    · exact View.cover_of_tiled_head _ _ _ (by rfl) _
    simp (disch := first | rfl | decide) only [View.readCov_skip, readCov_whole]
    canon_tiles x hh
    all_goals
      open_payloads; pointwise
    case' piece0 => obtain rfl : h = 3 := Fin.ext (by show h.val = 3; omega)
    case' piece1 => obtain rfl : h = 2 := Fin.ext (by show h.val = 2; omega)
    case' piece2 => obtain rfl : h = 1 := Fin.ext (by show h.val = 1; omega)
    case' piece3 => obtain rfl : h = 0 := Fin.ext (by show h.val = 0; omega)
    all_goals
      obtain rfl : d = x 2 := Fin.ext (by omega)
      subst hy
      unfold nNew
      try simp only [Fin.val_zero, Nat.mul_zero, Nat.zero_add]
      rfl
  · by_cases h1 : t.val % 64 = 63
    · rw [stAt0_C m c t acc h0 h1, if_neg h0]
      frame_out
      canon_tiles x hh
      all_goals
        open_payloads; pointwise
        simp only [(Memref.isWhole_whole _).read_unread]
      case' piece0 => obtain rfl : h = 3 := Fin.ext (by show h.val = 3; omega)
      case' piece1 => obtain rfl : h = 2 := Fin.ext (by show h.val = 2; omega)
      case' piece2 => obtain rfl : h = 1 := Fin.ext (by show h.val = 1; omega)
      case' piece3 => obtain rfl : h = 0 := Fin.ext (by show h.val = 0; omega)
      all_goals
        obtain rfl : d = x 2 := Fin.ext (by omega)
        subst hy
        unfold nNew
        try simp only [Fin.val_zero, Nat.mul_zero, Nat.zero_add]
        rfl
    · rw [stAt0_B m c t acc h0 h1, if_neg h0]
      frame_out
      canon_tiles x hh
      all_goals
        open_payloads; pointwise
        simp only [(Memref.isWhole_whole _).read_unread]
      case' piece0 => obtain rfl : h = 3 := Fin.ext (by show h.val = 3; omega)
      case' piece1 => obtain rfl : h = 2 := Fin.ext (by show h.val = 2; omega)
      case' piece2 => obtain rfl : h = 1 := Fin.ext (by show h.val = 1; omega)
      case' piece3 => obtain rfl : h = 0 := Fin.ext (by show h.val = 0; omega)
      all_goals
        obtain rfl : d = x 2 := Fin.ext (by omega)
        subst hy
        unfold nNew
        try simp only [Fin.val_zero, Nat.mul_zero, Nat.zero_add]
        rfl

set_option maxHeartbeats 4000000 in
/-- The answers of a point's tokens. -/
theorem st_h (c : Dev nD) (t : Fin cfg0.N) (acc) (r : Fin 256) (h : Fin 4) (e : Fin 512) :
    (stAt0 m c t.val t.isLt acc).1 (ix2 r ⟨512 * h + e, by omega⟩)
      = hOut (iblk m c 0 t) (iblk m c 1 t) (iblk m c 2 t) (iblk m c 3 t) (iblk m c 4 t)
          ((prev m c t acc.2.2.2.2).2.2 (ix3 h 0 0)) (fun d => (prev m c t acc.2.2.2.2).2.1 (ix3 h 0 d))
          (fun d => (prev m c t acc.2.2.2.2).1 (ix3 h d e)) h r e := by
  generalize hy : (ix2 r ⟨512 * h + e, by omega⟩ : S256x2048.Idx) = y
  have hy0 : r.val = (y 0).val := by rw [← hy]; rfl
  have hy1 : 512 * h.val + e.val = (y 1).val := by rw [← hy]; rfl
  unfold prev
  by_cases h0 : t.val % 64 = 0
  · have h1 : ¬t.val % 64 = 63 := by omega
    rw [stAt0_A m c t acc h0 h1, if_pos h0]
    frame_out
    simp (disch := first | rfl | decide) only [View.readCov_skip, readCov_whole]
    canon_tiles x hh
    all_goals
      open_payloads; pointwise
    case' piece0 => obtain rfl : h = 3 := Fin.ext (by show h.val = 3; omega)
    case' piece1 => obtain rfl : h = 2 := Fin.ext (by show h.val = 2; omega)
    case' piece2 => obtain rfl : h = 1 := Fin.ext (by show h.val = 1; omega)
    case' piece3 => obtain rfl : h = 0 := Fin.ext (by show h.val = 0; omega)
    all_goals
      obtain rfl : r = x 0 := Fin.ext (by omega)
      obtain rfl : e = x 1 := Fin.ext (by simp at hy1; omega)
      unfold hOut qk
      try simp only [Fin.val_zero, Nat.mul_zero, Nat.zero_add]
      rfl
  · by_cases h1 : t.val % 64 = 63
    · rw [stAt0_C m c t acc h0 h1, if_neg h0]
      frame_out
      canon_tiles x hh
      all_goals
        open_payloads; pointwise
        simp only [(Memref.isWhole_whole _).read_unread]
      case' piece0 => obtain rfl : h = 3 := Fin.ext (by show h.val = 3; omega)
      case' piece1 => obtain rfl : h = 2 := Fin.ext (by show h.val = 2; omega)
      case' piece2 => obtain rfl : h = 1 := Fin.ext (by show h.val = 1; omega)
      case' piece3 => obtain rfl : h = 0 := Fin.ext (by show h.val = 0; omega)
      all_goals
        obtain rfl : r = x 0 := Fin.ext (by omega)
        obtain rfl : e = x 1 := Fin.ext (by simp at hy1; omega)
        unfold hOut qk
        try simp only [Fin.val_zero, Nat.mul_zero, Nat.zero_add]
        rfl
    · rw [stAt0_B m c t acc h0 h1, if_neg h0]
      frame_out
      canon_tiles x hh
      all_goals
        open_payloads; pointwise
        simp only [(Memref.isWhole_whole _).read_unread]
      case' piece0 => obtain rfl : h = 3 := Fin.ext (by show h.val = 3; omega)
      case' piece1 => obtain rfl : h = 2 := Fin.ext (by show h.val = 2; omega)
      case' piece2 => obtain rfl : h = 1 := Fin.ext (by show h.val = 1; omega)
      case' piece3 => obtain rfl : h = 0 := Fin.ext (by show h.val = 0; omega)
      all_goals
        obtain rfl : r = x 0 := Fin.ext (by omega)
        obtain rfl : e = x 1 := Fin.ext (by simp at hy1; omega)
        unfold hOut qk
        try simp only [Fin.val_zero, Nat.mul_zero, Nat.zero_add]
        rfl

/-- At the last point the results are the carried values. -/
theorem st_last (c : Dev nD) (t : Fin cfg0.N) (acc) (h1 : t.val % 64 = 63) :
    (stAt0 m c t.val t.isLt acc).2.1 = (stAt0 m c t.val t.isLt acc).2.2.2.2.1
      ∧ (stAt0 m c t.val t.isLt acc).2.2.1 = (stAt0 m c t.val t.isLt acc).2.2.2.2.2.1
      ∧ (stAt0 m c t.val t.isLt acc).2.2.2.1 = (stAt0 m c t.val t.isLt acc).2.2.2.2.2.2 := by
  have h0 : ¬t.val % 64 = 0 := by omega
  rw [stAt0_C m c t acc h0 h1]
  refine ⟨?_, ?_, ?_⟩
  all_goals
    funext y
    frame_out
    rw [View.readCov_eq_canon']
    refine congrArg _ (funext fun a => Fin.ext ?_)
    show ![0, 0, 0] a + 1 * (y a).val = (y a).val
    have e : (![0, 0, 0] : Fin 3 → ℕ) a = 0 := by fin_cases a <;> rfl
    omega

end Cert.KernelIdeal.Scan
end
-- ==== Proof.Data.lean ====
module

public import proofs.«01_k».proof.Proof.Recur
public import Idealize.ShloMosaic.Lib.Pointwise

@[expose] public section

/-! The inputs of the recurrence as real numbers, and its results as functions of them. -/

noncomputable section
open Idealize.ShloMosaic
namespace Mlstm

/-- The choice by a comparison of two small numbers is the choice by their order. -/
theorem select_le (s t : ℕ) (hs : s < 256) (ht : t < 256) (a b : EReal) :
    Scalar.select (IntOp.cmpi CmpIPredicate.sle (BitVec.ofNat 32 s) (BitVec.ofNat 32 t)) a b = if s ≤ t then a else b := by
  have e : (BitVec.ofNat 32 s).sle (BitVec.ofNat 32 t) = decide (s ≤ t) := by
    rw [BitVec.sle, BitVec.toInt_eq_toNat_of_lt (by simp; omega), BitVec.toInt_eq_toNat_of_lt (by simp; omega)]
    simp only [BitVec.toNat_ofNat]
    rw [Nat.mod_eq_of_lt (by omega), Nat.mod_eq_of_lt (by omega)]
    simp
  by_cases h : s ≤ t <;> simp [Scalar.select, IntOp.cmpi, e, h]

/-- The pattern of the absent entry is the least extended real. -/
theorem ofBits_bot : Ideal.ofBits .f32 4286578688#32 = (⊥ : EReal) := by
  simp [Ideal.ofBits, Ideal.ieee]

/-- The running sum of the gates up to token `t` of the chunk. -/
theorem sum_le {N : ℕ} (f : ℕ → ℝ) (a : ℕ) (t : Fin N) :
    ∑ s : Fin N, (if (s : ℕ) ≤ t then (f (a + s) : EReal) else 0) = (B f a (t + 1) : EReal) := by
  have e1 := Fin.sum_univ_eq_sum_range (fun s => if s ≤ (t : ℕ) then f (a + s) else 0) N
  have e2 : (Finset.range N).filter (fun s => s ≤ (t : ℕ)) = Finset.range (t + 1) := by
    ext s; simp only [Finset.mem_filter, Finset.mem_range]; omega
  rw [B, ← e2, Finset.sum_filter, ← e1, ← coe_sum]
  refine Finset.sum_congr rfl fun s _ => ?_
  split <;> rfl

variable (q k : (⟨2, ![16384, 1024]⟩ : Shape).Idx → EReal) (v : (⟨2, ![16384, 2048]⟩ : Shape).Idx → EReal)
  (g : (⟨2, ![16384, 128]⟩ : Shape).Idx → EReal) (c0 : (⟨3, ![4, 256, 512]⟩ : Shape).Idx → EReal)
  (n0 : (⟨3, ![4, 1, 256]⟩ : Shape).Idx → EReal) (m0 : (⟨3, ![4, 1, 128]⟩ : Shape).Idx → EReal)

/-- Entry `d` of head `h` of the queries (of the keys) at token `n`. -/
def tokQ (h : Fin 4) (d : Fin 256) (n : ℕ) : ℝ :=
  if hn : n < 16384 then (q (ix2 ⟨n, hn⟩ ⟨256 * h + d, by omega⟩)).toReal else 0

/-- Entry `e` of head `h` of the values at token `n`. -/
def tokV (h : Fin 4) (e : Fin 512) (n : ℕ) : ℝ :=
  if hn : n < 16384 then (v (ix2 ⟨n, hn⟩ ⟨512 * h + e, by omega⟩)).toReal else 0

/-- Channel `j` of the gates at token `n`. -/
def gate (j : Fin 8) (n : ℕ) : ℝ :=
  if hn : n < 16384 then (g (ix2 ⟨n, hn⟩ ⟨j, by omega⟩)).toReal else 0

/-- Head `h`'s log input gates and log forget gates. -/
def gI (h : Fin 4) (n : ℕ) : ℝ := gate g ⟨h, by omega⟩ n
def gF (h : Fin 4) (n : ℕ) : ℝ := gate g ⟨4 + h, by omega⟩ n

/-- Head `h`'s initial stabiliser. -/
def ini (h : Fin 4) : ℝ := (m0 (ix3 h 0 0)).toReal

/-- Every input that the recurrence reads is a real number. -/
structure Finite : Prop where
  q : ∀ x, q x = ((q x).toReal : EReal)
  k : ∀ x, k x = ((k x).toReal : EReal)
  v : ∀ x, v x = ((v x).toReal : EReal)
  g : ∀ (n : Fin 16384) (j : Fin 8), g (ix2 n ⟨j, by omega⟩) = ((g (ix2 n ⟨j, by omega⟩)).toReal : EReal)
  c0 : ∀ x, c0 x = ((c0 x).toReal : EReal)
  n0 : ∀ x, n0 x = ((n0 x).toReal : EReal)
  m0 : ∀ h : Fin 4, m0 (ix3 h 0 0) = ((m0 (ix3 h 0 0)).toReal : EReal)

/-- The stabiliser after `n` tokens. -/
def resM (h : Fin 4) (n : ℕ) : ℝ := Mx (gF g h) (gI g h) (ini m0 h) n

/-- The memory after `n` tokens. -/
def resC (h : Fin 4) (d : Fin 256) (e : Fin 512) (n : ℕ) : ℝ :=
  St (gF g h) (gI g h) (fun n => tokQ k h d n * tokV v h e n) (c0 (ix3 h d e)).toReal (ini m0 h) n

/-- The normaliser after `n` tokens. -/
def resN (h : Fin 4) (d : Fin 256) (n : ℕ) : ℝ :=
  St (gF g h) (gI g h) (fun n => tokQ k h d n * 1) (n0 (ix3 h 0 d)).toReal (ini m0 h) n

/-- The answer of token `n`. -/
def resH (h : Fin 4) (e : Fin 512) (n : ℕ) : ℝ :=
  H (gF g h) (gI g h) (tokQ k h) (tokV v h e) (fun d => (c0 (ix3 h d e)).toReal) (fun d => (n0 (ix3 h 0 d)).toReal)
    (fun d => tokQ q h d n) (ini m0 h) n

end Mlstm
end
-- ==== Proof.KernChunk.lean ====
module

public import proofs.«01_k».proof.Proof.Kern
public import proofs.«01_k».proof.Proof.Data

@[expose] public section

/-! One point of the kernel on real inputs: the chunk that starts after `a` tokens takes the recurrence's values after
`a` tokens to those after `a + 256`, and answers its 256 tokens. -/

noncomputable section
open Idealize.ShloMosaic
namespace Cert.KernelIdeal.Scan
open Cert.KernelIdeal Mlstm

variable (g : Vec Ideal S256x128 .f32) (gt : Vec Ideal S16x256 .f32) (f i : ℕ → ℝ) (m0 : ℝ) (a : ℕ) (h : Fin 4)

theorem bC_eq (hf : ∀ s : Fin 256, g (ix2 s ⟨4 + h, by omega⟩) = (f (a + s) : EReal)) (t : Fin 256) :
    bC g h t = (B f a (t + 1) : EReal) := by
  unfold bC sel
  rw [← sum_le]
  exact Finset.sum_congr rfl fun s _ => by rw [select_le _ _ s.isLt t.isLt, hf]

theorem bR_eq (hf : ∀ s : Fin 256, gt (ix2 ⟨4 + h, by omega⟩ s) = (f (a + s) : EReal)) (t : Fin 256) :
    bR gt h t = (B f a (t + 1) : EReal) := by
  unfold bR sel
  rw [← sum_le]
  exact Finset.sum_congr rfl fun s _ => by rw [select_le _ _ s.isLt t.isLt, hf]

/-- The gates of the chunk, by token and by channel, are the recurrence's. -/
structure Gates : Prop where
  cf : ∀ s : Fin 256, g (ix2 s ⟨4 + h, by omega⟩) = (f (a + s) : EReal)
  ci : ∀ s : Fin 256, g (ix2 s ⟨h, by omega⟩) = (i (a + s) : EReal)
  rf : ∀ s : Fin 256, gt (ix2 ⟨4 + h, by omega⟩ s) = (f (a + s) : EReal)
  ri : ∀ s : Fin 256, gt (ix2 ⟨h, by omega⟩ s) = (i (a + s) : EReal)

variable {g gt f i a h} (G : Gates g gt f i a h)
include G

theorem tot_eq : tot g h = (B f a 256 : EReal) := bC_eq g f a h G.cf 255

theorem mNew_eq : mNew g gt (Mx f i m0 a : EReal) h = (Mx f i m0 (a + 256) : EReal) := by
  unfold mNew
  rw [tot_eq G, ofBits_bot, ← EReal.coe_add, ← max_eq f i m0 a 256]
  refine congrArg _ (Finset.fold_congr fun s _ => ?_)
  rw [bR_eq gt f a h G.rf, G.ri, ← EReal.coe_sub, ← EReal.coe_add]
  rfl

theorem wt_eq (s : Fin 256) : tot g h - bC g h s + g (ix2 s ⟨h, by omega⟩) = (Mlstm.g f i a 256 s : EReal) := by
  rw [tot_eq G, bC_eq g f a h G.cf, G.ci, ← EReal.coe_sub, ← EReal.coe_add]
  rfl

theorem cNew_eq (k : Vec Ideal S256x1024 .bf16) (v : Vec Ideal S256x2048 .bf16) (d : Fin 256) (e : Fin 512) (kk vv : ℕ → ℝ)
    (hk : ∀ s : Fin 256, k (ix2 s ⟨256 * h + d, by omega⟩) = (kk (a + s) : EReal))
    (hv : ∀ s : Fin 256, v (ix2 s ⟨512 * h + e, by omega⟩) = (vv (a + s) : EReal)) (c0 : ℝ) :
    cNew k v g gt (Mx f i m0 a : EReal) (St f i (fun n => kk n * vv n) c0 m0 a : EReal) h d e
      = (St f i (fun n => kk n * vv n) c0 m0 (a + 256) : EReal) := by
  unfold cNew
  rw [← state_chunk (N := 256), mNew_eq m0 G, tot_eq G, ← EReal.coe_add]
  simp only [← tot_eq G]
  refine congrArg _ (Finset.sum_congr rfl fun s _ => ?_)
  rw [wt_eq G, hk, hv]

theorem nNew_eq (k : Vec Ideal S256x1024 .bf16) (d : Fin 256) (kk : ℕ → ℝ)
    (hk : ∀ s : Fin 256, k (ix2 s ⟨256 * h + d, by omega⟩) = (kk (a + s) : EReal)) (n0 : ℝ) :
    nNew k g gt (Mx f i m0 a : EReal) (St f i (fun n => kk n * 1) n0 m0 a : EReal) h d
      = (St f i (fun n => kk n * 1) n0 m0 (a + 256) : EReal) := by
  unfold nNew
  rw [← state_chunk (N := 256) f i kk (fun _ => 1), mNew_eq m0 G, tot_eq G, ← EReal.coe_add]
  simp only [← tot_eq G]
  refine congrArg _ (Finset.sum_congr rfl fun s _ => ?_)
  rw [wt_eq G, hk, EReal.coe_one, one_mul]

theorem lg_eq (t s : Fin 256) : lg g gt h t s = if s ≤ t then (Mlstm.g f i a (t + 1) s : EReal) else ⊥ := by
  unfold lg sel
  rw [select_le _ _ s.isLt t.isLt, bC_eq g f a h G.cf, bR_eq gt f a h G.rf, G.ri, ← EReal.coe_sub, ← EReal.coe_add, ofBits_bot]
  rfl

theorem hOut_eq (q k : Vec Ideal S256x1024 .bf16) (v : Vec Ideal S256x2048 .bf16) (t : Fin 256) (e : Fin 512)
    (qq : Fin 256 → ℝ) (kk : Fin 256 → ℕ → ℝ) (vv : ℕ → ℝ)
    (hq : ∀ d : Fin 256, q (ix2 t ⟨256 * h + d, by omega⟩) = (qq d : EReal))
    (hk : ∀ (d s : Fin 256), k (ix2 s ⟨256 * h + d, by omega⟩) = (kk d (a + s) : EReal))
    (hv : ∀ s : Fin 256, v (ix2 s ⟨512 * h + e, by omega⟩) = (vv (a + s) : EReal)) (c0 n0 : Fin 256 → ℝ)
    (n C : Fin 256 → EReal) (hn : ∀ d, n d = (St f i (fun n => kk d n * 1) (n0 d) m0 a : EReal))
    (hC : ∀ d, C d = (St f i (fun n => kk d n * vv n) (c0 d) m0 a : EReal)) :
    hOut q k v g gt (Mx f i m0 a : EReal) n C h t e = (H f i kk vv c0 n0 qq m0 (a + t) : EReal) := by
  have hS : ∀ s, qk q k h t s = ((∑ d, qq d * kk d (a + s) : ℝ) : EReal) := by
    intro s
    unfold qk
    rw [← coe_sum]
    exact Finset.sum_congr rfl fun d _ => by rw [hq, hk, ← EReal.coe_mul]
  have hqC : ∑ d : Fin 256, q (ix2 t ⟨256 * h + d, by omega⟩) * C d
      = ((∑ d, qq d * St f i (fun n => kk d n * vv n) (c0 d) m0 a : ℝ) : EReal) := by
    rw [← coe_sum]
    exact Finset.sum_congr rfl fun d _ => by rw [hq, hC, ← EReal.coe_mul]
  have hqn : ∑ d : Fin 256, q (ix2 t ⟨256 * h + d, by omega⟩) * n d
      = ((∑ d, qq d * St f i (fun n => kk d n * 1) (n0 d) m0 a : ℝ) : EReal) := by
    rw [← coe_sum]
    exact Finset.sum_congr rfl fun d _ => by rw [hq, hn, ← EReal.coe_mul]
  unfold hOut
  rw [zero_sub, hqC, hqn]
  simp only [hS, hv]
  refine answer_chunk f i kk vv c0 n0 qq m0 a t (lg g gt h t) (mj g gt _ h t) _ (lg_eq G t) ?_ ?_
  · rw [bC_eq g f a h G.cf, ← EReal.coe_add]
  · unfold mj; rw [ofBits_bot]

end Cert.KernelIdeal.Scan
end
-- ==== Proof.KernRun.lean ====
module

public import proofs.«01_k».proof.Proof.KernChunk

@[expose] public section

/-! The kernel's points in order: what the carried values are after each, and the results. -/

set_option maxRecDepth 16384
noncomputable section
open Idealize.ShloMosaic Idealize.ShloMosaic.TcCoe Idealize.SL.Sem
namespace Cert.KernelIdeal.Scan
open Cert.KernelIdeal Cert.KernelIdeal.Gen Cert.KernelIdeal.Value Mlstm

variable (m : (ℓ : Loc nD τ sig) → Buf (Elt Ideal) ℓ) (c : Dev nD)

theorem idx_eq : ∀ t : Fin cfg0.N, win0_0.index t = ![t.val, 0] ∧ win0_1.index t = ![t.val, 0] ∧ win0_2.index t = ![t.val, 0]
    ∧ win0_3.index t = ![t.val, 0] ∧ win0_4.index t = ![0, t.val] ∧ win0_5.index t = ![0, 0, 0] ∧ win0_6.index t = ![0, 0, 0]
    ∧ win0_7.index t = ![0, 0, 0] :=
  (by decide +kernel : ∀ t : Fin grid0.N, win0_0.index t = ![t.val, 0] ∧ win0_1.index t = ![t.val, 0] ∧ win0_2.index t = ![t.val, 0]
    ∧ win0_3.index t = ![t.val, 0] ∧ win0_4.index t = ![0, t.val] ∧ win0_5.index t = ![0, 0, 0] ∧ win0_6.index t = ![0, 0, 0]
    ∧ win0_7.index t = ![0, 0, 0])

theorem lt64 (t : Fin cfg0.N) : t.val < 64 := lt_of_lt_of_eq t.isLt (show cfg0.N = 64 from N_0)

theorem blk_q (t : Fin cfg0.N) (s : Fin 256) (x : Fin 1024) :
    iblk m c 0 t (ix2 s x) = m ((c : Thread nD τ).loc main_arg0) (ix2 ⟨256 * t.val + s, by have := lt64 t; omega⟩ x) := by
  blk_ext [iblk, V, idx_eq t]

theorem blk_k (t : Fin cfg0.N) (s : Fin 256) (x : Fin 1024) :
    iblk m c 1 t (ix2 s x) = m ((c : Thread nD τ).loc main_arg1) (ix2 ⟨256 * t.val + s, by have := lt64 t; omega⟩ x) := by
  blk_ext [iblk, V, idx_eq t]

theorem blk_v (t : Fin cfg0.N) (s : Fin 256) (x : Fin 2048) :
    iblk m c 2 t (ix2 s x) = m ((c : Thread nD τ).loc main_arg2) (ix2 ⟨256 * t.val + s, by have := lt64 t; omega⟩ x) := by
  blk_ext [iblk, V, idx_eq t]

theorem blk_g (t : Fin cfg0.N) (s : Fin 256) (x : Fin 128) :
    iblk m c 3 t (ix2 s x) = m ((c : Thread nD τ).loc main_arg3) (ix2 ⟨256 * t.val + s, by have := lt64 t; omega⟩ x) := by
  blk_ext [iblk, V, idx_eq t]

theorem blk_gt (t : Fin cfg0.N) (x : Fin 16) (s : Fin 256) :
    iblk m c 4 t (ix2 x s) = m ((c : Thread nD τ).loc main_arg3)
      (ix2 ⟨256 * t.val + s, by have := lt64 t; omega⟩ ⟨x, by omega⟩) := by
  have e : V m c main_v1 = extractStridedSlice S16x16384 ![0, 0]
      (transpose S128x16384 [1, 0] (m ((c : Thread nD τ).loc main_arg3)) transposes_S16384x128_S128x16384_1_0)
      slices_S128x16384_S16x16384_0_0 := rfl
  have e2 : iblk m c 4 t (ix2 x s) = V m c main_v1 (ix2 x ⟨256 * t.val + s, by have := lt64 t; omega⟩) := by
    blk_ext [iblk, idx_eq t]
  rw [e2, e]
  pointwise
  blk_ext [iblk, V, idx_eq t]

theorem blk_c0 (t : Fin cfg0.N) (x : S4x256x512.Idx) : iblk m c 5 t x = m ((c : Thread nD τ).loc main_arg4) x := by
  blk_ext [iblk, V, idx_eq t]

theorem blk_n0 (t : Fin cfg0.N) (x : S4x1x256.Idx) : iblk m c 6 t x = m ((c : Thread nD τ).loc main_arg5) x := by
  blk_ext [iblk, V, idx_eq t]

theorem blk_m0 (t : Fin cfg0.N) (x : S4x1x128.Idx) : iblk m c 7 t x = m ((c : Thread nD τ).loc main_arg6) x := by
  blk_ext [iblk, V, idx_eq t]

/-- The kernel's inputs. -/
abbrev aQ := m ((c : Thread nD τ).loc main_arg0)
abbrev aK := m ((c : Thread nD τ).loc main_arg1)
abbrev aV := m ((c : Thread nD τ).loc main_arg2)
abbrev aG := m ((c : Thread nD τ).loc main_arg3)
abbrev aC := m ((c : Thread nD τ).loc main_arg4)
abbrev aN := m ((c : Thread nD τ).loc main_arg5)
abbrev aM := m ((c : Thread nD τ).loc main_arg6)

/-- The carried values are the recurrence's after `a` tokens. -/
structure Good (p : Vec Ideal S4x256x512 .f32 × Vec Ideal S4x1x256 .f32 × Vec Ideal S4x1x128 .f32) (a : ℕ) : Prop where
  hm : ∀ h, p.2.2 (ix3 h 0 0) = (resM (aG m c) (aM m c) h a : EReal)
  hn : ∀ h d, p.2.1 (ix3 h 0 d) = (resN (aK m c) (aG m c) (aN m c) (aM m c) h d a : EReal)
  hC : ∀ h d e, p.1 (ix3 h d e) = (resC (aK m c) (aV m c) (aG m c) (aC m c) (aM m c) h d e a : EReal)

variable {m c} (F : Finite (aQ m c) (aK m c) (aV m c) (aG m c) (aC m c) (aN m c) (aM m c))
include F

theorem gates (t : Fin cfg0.N) (h : Fin 4) :
    Gates (iblk m c 3 t) (iblk m c 4 t) (gF (aG m c) h) (gI (aG m c) h) (256 * t.val) h := by
  have ht := lt64 t
  constructor
  all_goals
    intro s
    first | rw [blk_g] | rw [blk_gt]
    simp only [gF, gI, gate]
    rw [dif_pos (by omega)]
  · exact F.g _ ⟨4 + h, by omega⟩
  · exact F.g _ ⟨h, by omega⟩
  · exact F.g _ ⟨4 + h, by omega⟩
  · exact F.g _ ⟨h, by omega⟩

theorem q_eq (t : Fin cfg0.N) (s : Fin 256) (h : Fin 4) (d : Fin 256) :
    iblk m c 0 t (ix2 s ⟨256 * h + d, by omega⟩) = (tokQ (aQ m c) h d (256 * t.val + s) : EReal) := by
  have ht := lt64 t
  rw [blk_q, tokQ, dif_pos (by omega)]
  exact F.q _

theorem k_eq (t : Fin cfg0.N) (s : Fin 256) (h : Fin 4) (d : Fin 256) :
    iblk m c 1 t (ix2 s ⟨256 * h + d, by omega⟩) = (tokQ (aK m c) h d (256 * t.val + s) : EReal) := by
  have ht := lt64 t
  rw [blk_k, tokQ, dif_pos (by omega)]
  exact F.k _

theorem v_eq (t : Fin cfg0.N) (s : Fin 256) (h : Fin 4) (e : Fin 512) :
    iblk m c 2 t (ix2 s ⟨512 * h + e, by omega⟩) = (tokV (aV m c) h e (256 * t.val + s) : EReal) := by
  have ht := lt64 t
  rw [blk_v, tokV, dif_pos (by omega)]
  exact F.v _

theorem prev_good (t : Fin cfg0.N) (acc : Vec Ideal S4x256x512 .f32 × Vec Ideal S4x1x256 .f32 × Vec Ideal S4x1x128 .f32)
    (hacc : t.val ≠ 0 → Good m c acc (256 * t.val)) : Good m c (prev m c t acc) (256 * t.val) := by
  have ht := lt64 t
  unfold prev
  by_cases h0 : t.val % 64 = 0
  · rw [if_pos h0, show 256 * t.val = 0 by omega]
    constructor
    · intro h; exact (blk_m0 m c t _).trans (F.m0 h)
    · intro h d; exact (blk_n0 m c t _).trans ((F.n0 _).trans (congrArg _ (St_zero _ _ _ _ _).symm))
    · intro h d e; exact (blk_c0 m c t _).trans ((F.c0 _).trans (congrArg _ (St_zero _ _ _ _ _).symm))
  · rw [if_neg h0]
    exact hacc (by omega)

theorem step_good (t : Fin cfg0.N) (acc) (hacc : t.val ≠ 0 → Good m c acc.2.2.2.2 (256 * t.val)) :
    Good m c (stAt0 m c t.val t.isLt acc).2.2.2.2 (256 * (t.val + 1)) := by
  have P := prev_good F t acc.2.2.2.2 hacc
  constructor
  · intro h
    rw [st_m, P.hm]
    exact mNew_eq _ (gates F t h)
  · intro h d
    rw [st_n, P.hm, P.hn]
    exact nNew_eq _ (gates F t h) _ d _ (fun s => k_eq F t s h d) _
  · intro h d e
    rw [st_C, P.hm, P.hC]
    exact cNew_eq _ (gates F t h) _ _ d e _ _ (fun s => k_eq F t s h d) (fun s => v_eq F t s h e) _

theorem step_h (t : Fin cfg0.N) (acc) (hacc : t.val ≠ 0 → Good m c acc.2.2.2.2 (256 * t.val)) (r : Fin 256) (h : Fin 4) (e : Fin 512) :
    (stAt0 m c t.val t.isLt acc).1 (ix2 r ⟨512 * h + e, by omega⟩)
      = (resH (aQ m c) (aK m c) (aV m c) (aG m c) (aC m c) (aN m c) (aM m c) h e (256 * t.val + r) : EReal) := by
  have P := prev_good F t acc.2.2.2.2 hacc
  rw [st_h, P.hm]
  exact hOut_eq _ (gates F t h) _ _ _ r e _ _ _ (fun d => q_eq F t r h d) (fun d s => k_eq F t s h d) (fun s => v_eq F t s h e)
    _ _ _ _ (fun d => P.hn h d) (fun d => P.hC h d e)

theorem outs_good (n : ℕ) (hn : n < cfg0.N) : Good m c (outsAt0 m c n hn).2.2.2.2 (256 * (n + 1)) := by
  induction n with
  | zero => rw [outsAt0_zero]; exact step_good F ⟨0, hn⟩ _ (fun h => absurd rfl h)
  | succ n ih => rw [outsAt0_succ]; exact step_good F ⟨n + 1, hn⟩ _ (fun _ => ih _)

theorem outs_h (n : ℕ) (hn : n < cfg0.N) (r : Fin 256) (h : Fin 4) (e : Fin 512) :
    (outsAt0 m c n hn).1 (ix2 r ⟨512 * h + e, by omega⟩)
      = (resH (aQ m c) (aK m c) (aV m c) (aG m c) (aC m c) (aN m c) (aM m c) h e (256 * n + r) : EReal) := by
  cases n with
  | zero => rw [outsAt0_zero]; exact step_h F ⟨0, hn⟩ _ (fun h => absurd rfl h) r h e
  | succ n => rw [outsAt0_succ]; exact step_h F ⟨n + 1, hn⟩ _ (fun _ => outs_good F n _) r h e

/-- The stabiliser fills every lane of its row. -/
theorem outs_m_lane (n : ℕ) (hn : n < cfg0.N) (h : Fin 4) (z : Fin 1) (l : Fin 128) :
    (outsAt0 m c n hn).2.2.2.2.2.2 (ix3 h z l) = (resM (aG m c) (aM m c) h (256 * (n + 1)) : EReal) := by
  rw [← (outs_good F n hn).hm h]
  cases n with
  | zero => rw [outsAt0_zero]; exact (st_m m c ⟨0, hn⟩ _ h z l).trans (st_m m c ⟨0, hn⟩ _ h 0 0).symm
  | succ n => rw [outsAt0_succ]; exact (st_m m c ⟨n + 1, hn⟩ _ h z l).trans (st_m m c ⟨n + 1, hn⟩ _ h 0 0).symm

omit F in
theorem outs_last : (outsAt0 m c 63 (lt_of_lt_of_eq (by decide) N_0.symm)).2.1
        = (outsAt0 m c 63 (lt_of_lt_of_eq (by decide) N_0.symm)).2.2.2.2.1
      ∧ (outsAt0 m c 63 (lt_of_lt_of_eq (by decide) N_0.symm)).2.2.1
        = (outsAt0 m c 63 (lt_of_lt_of_eq (by decide) N_0.symm)).2.2.2.2.2.1
      ∧ (outsAt0 m c 63 (lt_of_lt_of_eq (by decide) N_0.symm)).2.2.2.1
        = (outsAt0 m c 63 (lt_of_lt_of_eq (by decide) N_0.symm)).2.2.2.2.2.2 := by
  rw [outsAt0_succ]
  exact st_last m c ⟨63, lt_of_lt_of_eq (by decide) N_0.symm⟩ _ rfl

/-- The kernel's results. -/
theorem out_h (n : Fin 16384) (h : Fin 4) (e : Fin 512) : G8 m c (ix2 n ⟨512 * h + e, by omega⟩)
    = (resH (aQ m c) (aK m c) (aV m c) (aG m c) (aC m c) (aN m c) (aM m c) h e n : EReal) := by
  have hp : n.val / 256 < cfg0.N := lt_of_lt_of_eq (by omega) N_0.symm
  have e1 : G8 m c (ix2 n ⟨512 * h + e, by omega⟩)
      = (outsAt0 m c (n.val / 256) hp).1 (ix2 ⟨n.val % 256, by omega⟩ ⟨512 * h + e, by omega⟩) := by
    have hpt : pt8Of (ix2 n ⟨512 * h + e, by omega⟩ : S16384x2048.Idx) = n.val / 256 := by
      show 1 * (n.val / 256 - 0) + 1 * ((512 * h.val + e.val) / 2048 - 0) = _
      omega
    unfold G8
    rw [dif_pos (by rw [hpt]; exact hp), fold0_congr m c _ _ (n.val / 256) (by omega) hpt, ← outsAt0_sweep m c _ hp]
    refine congrArg _ (funext fun a => Fin.ext ?_)
    fin_cases a
    · rfl
    · show (512 * h.val + e.val) % 2048 = _
      exact Nat.mod_eq_of_lt (by omega)
  rw [e1, outs_h F, show 256 * (n.val / 256) + ((⟨n.val % 256, by omega⟩ : Fin 256) : ℕ) = n from Nat.div_add_mod _ _]

theorem out_C (h : Fin 4) (d : Fin 256) (e : Fin 512) : G9 m c (ix3 h d e)
    = (resC (aK m c) (aV m c) (aG m c) (aC m c) (aM m c) h d e 16384 : EReal) := by
  rw [G9_last, ← outsAt0_sweep m c 63 (lt_of_lt_of_eq (by decide) N_0.symm), outs_last.1]
  exact (outs_good F 63 _).hC h d e

theorem out_n (h : Fin 4) (z : Fin 1) (d : Fin 256) : G10 m c (ix3 h z d)
    = (resN (aK m c) (aG m c) (aN m c) (aM m c) h d 16384 : EReal) := by
  obtain rfl : z = 0 := Subsingleton.elim _ _
  rw [G10_last, ← outsAt0_sweep m c 63 (lt_of_lt_of_eq (by decide) N_0.symm), outs_last.2.1]
  exact (outs_good F 63 _).hn h d

theorem out_m (h : Fin 4) (z : Fin 1) (l : Fin 128) : G11 m c (ix3 h z l)
    = (resM (aG m c) (aM m c) h 16384 : EReal) := by
  rw [G11_last, ← outsAt0_sweep m c 63 (lt_of_lt_of_eq (by decide) N_0.symm), outs_last.2.2]
  exact outs_m_lane F 63 _ h z l

end Cert.KernelIdeal.Scan
end
-- ==== Proof.Cumsum.lean ====
module

public import proofs.«01_k».proof.Proof.Recur
public import Idealize.ShloMosaic.Lib.Pointwise
public import Idealize.ShloMosaic.Lib.Routing.Ops

@[expose] public section

/-! The running sum along the rows of a chunk of gates, as the windowed sum of the reference. -/

noncomputable section
open Idealize.ShloMosaic
namespace Mlstm

/-- A left fold that adds one term at a time adds the sum of the terms. -/
theorem foldl_plus {ι : Type} (w : ι → EReal) (l : List ι) (z : EReal) :
    l.foldl (fun r n => r + w n) z = z + (l.map w).sum := by
  induction l generalizing z with
  | nil => simp
  | cons n l ih => rw [List.foldl_cons, ih, List.map_cons, List.sum_cons, add_assoc]

/-- The positions of a window of 64 that ends at `t` and lies inside the row are the entries up to `t`. -/
theorem window_sum (f : ℕ → ℝ) (t : ℕ) (ht : t < 64) :
    ∑ w ∈ Finset.range 64, (if 63 ≤ t + w then (f (t + w - 63) : EReal) else 0) = (∑ s ∈ Finset.range (t + 1), f s : ℝ) := by
  rw [show 64 = (63 - t) + (t + 1) by omega, Finset.sum_range_add, Finset.sum_eq_zero, zero_add, ← coe_sum]
  · refine Finset.sum_congr rfl fun s _ => ?_
    rw [if_pos (by omega), show t + (63 - t + s) - 63 = s by omega]
  · intro w hw
    rw [if_neg (by have := Finset.mem_range.1 hw; omega)]

/-- A window of 64 entries that ends at each entry, padded with zeros, sums the entries up to it. -/
theorem cumsum (x : FVec Ideal ⟨2, ![4, 64]⟩ .f32) (z : FVec Ideal ⟨0, ![]⟩ .f32) (f : ℕ → ℝ) (h : Fin 4) (t : Fin 64)
    (hx : ∀ s : Fin 64, x (ix2 h s) = (f s : EReal)) (hu : 0 < (⟨0, ![]⟩ : Shape).numel) (hz : z (Shape.Idx.first hu) = (0 : EReal))
    (hw : (⟨2, ![4, 64]⟩ : Shape).ReduceWindows ![1, 64] ![1, 1] ![0, 63] ![0, 0] ⟨2, ![4, 64]⟩) :
    Host.reduceWindowAdd ![1, 64] ![1, 1] ![0, 63] ![0, 0] x z hw hu (ix2 h t)
      = ((∑ s ∈ Finset.range (t + 1), f s : ℝ) : EReal) := by
  have ht := t.isLt
  rw [← window_sum f t t.isLt]
  show Ideal.hostReduceWindowAdd ![1, 64] ![1, 1] ![0, 63] ![0, 0] hw x (z (Shape.Idx.first hu)) (ix2 h t) = _
  rw [hz]
  unfold Ideal.hostReduceWindowAdd Host.reduceWindow
  dsimp only
  rw [foldl_plus, zero_add, ← Fin.sum_univ_def]
  have hN : (⟨2, ![1, 64]⟩ : Shape).numel = 64 := by decide
  rw [show ∑ w ∈ Finset.range 64, (if 63 ≤ (t : ℕ) + w then (f (t + w - 63) : EReal) else 0)
      = ∑ w : Fin (⟨2, ![1, 64]⟩ : Shape).numel, (if 63 ≤ (t : ℕ) + w then (f (t + w - 63) : EReal) else 0) by
    rw [Fin.sum_univ_eq_sum_range (fun w => if 63 ≤ (t : ℕ) + w then (f (t + w - 63) : EReal) else 0), hN]]
  refine Finset.sum_congr rfl fun n _ => ?_
  have hn : n.val < 64 := lt_of_lt_of_eq n.isLt hN
  have hw0 : ((⟨2, ![1, 64]⟩ : Shape).rowMajor.symm n 0).val = 0 := by
    have := ((⟨2, ![1, 64]⟩ : Shape).rowMajor.symm n 0).isLt
    change _ < 1 at this
    omega
  have hw1 : ((⟨2, ![1, 64]⟩ : Shape).rowMajor.symm n 1).val = n.val := by
    exact congrArg (fun i : (⟨2, ![1, 64]⟩ : Shape).Idx => (i 1).val) (Routing.symm2 (N := 64) n)
  split
  · next hin =>
    have h1 := (hin 1).1
    change 63 ≤ (t : ℕ) * 1 + ((⟨2, ![1, 64]⟩ : Shape).rowMajor.symm n 1).val at h1
    rw [hw1] at h1
    rw [if_pos (by omega)]
    refine (congrArg x (funext fun a => Fin.ext ?_)).trans (hx ⟨t + n - 63, by omega⟩)
    match a with
    | ⟨0, _⟩ =>
      show (h : ℕ) * 1 + ((⟨2, ![1, 64]⟩ : Shape).rowMajor.symm n 0).val - 0 = h
      omega
    | ⟨1, _⟩ =>
      show (t : ℕ) * 1 + ((⟨2, ![1, 64]⟩ : Shape).rowMajor.symm n 1).val - 63 = t + n - 63
      omega
  · next hin =>
    rw [if_neg fun hle => hin fun a => ?_]
    match a with
    | ⟨0, _⟩ =>
      show 0 ≤ (h : ℕ) * 1 + ((⟨2, ![1, 64]⟩ : Shape).rowMajor.symm n 0).val
        ∧ (h : ℕ) * 1 + ((⟨2, ![1, 64]⟩ : Shape).rowMajor.symm n 0).val - 0 < 4
      omega
    | ⟨1, _⟩ =>
      show 63 ≤ (t : ℕ) * 1 + ((⟨2, ![1, 64]⟩ : Shape).rowMajor.symm n 1).val
        ∧ (t : ℕ) * 1 + ((⟨2, ![1, 64]⟩ : Shape).rowMajor.symm n 1).val - 63 < 64
      omega

end Mlstm
end
-- ==== Proof.RefChunk.lean ====
module

public import proofs.«01_k».proof.Proof.Gen.ReferenceIdeal.Run
public import proofs.«01_k».proof.Proof.Data
public import proofs.«01_k».proof.Proof.Cumsum
public import Idealize.ShloMosaic.Lib.Pointwise
public import Idealize.ShloMosaic.Lib.Tactic.CleanTypes

@[expose] public section

/-! One trip of the reference's loop, read at an entry. -/

set_option maxRecDepth 16384
noncomputable section
open Idealize.ShloMosaic Idealize.ShloMosaic.TcCoe Idealize.SL.Sem Mlstm
namespace Cert.ReferenceIdeal.Scan
open Cert.ReferenceIdeal Cert.ReferenceIdeal.Gen Cert.ReferenceIdeal.Value

variable (q k : (⟨2, ![16384, 1024]⟩ : Shape).Idx → EReal) (v : (⟨2, ![16384, 2048]⟩ : Shape).Idx → EReal)
  (g : (⟨2, ![16384, 128]⟩ : Shape).Idx → EReal) (c0 : (⟨3, ![4, 256, 512]⟩ : Shape).Idx → EReal)
  (n0 : (⟨3, ![4, 1, 256]⟩ : Shape).Idx → EReal) (m0 : (⟨3, ![4, 1, 128]⟩ : Shape).Idx → EReal)

/-- A start inside the array is not moved. -/
theorem start_at {n K : ℕ} (hn : n < 256) (hK : K = 255) :
    (min (max ((BitVec.ofNat 32 n).toInt) 0) ((K : ℕ) : Int)).toNat = n := by
  have : (BitVec.ofNat 32 n).toInt = n := by
    rw [BitVec.toInt_eq_toNat_of_lt (by simp; omega)]; simp; omega
  rw [this]; omega

/-- What the loop finds after `n` trips: the inputs in chunks of 64 tokens, the counter, and the recurrence's
    state after `64 * n` tokens. -/
structure Inv (V : Valuation τ sig (Elt Ideal)) (n : ℕ) : Prop where
  x0 : ∀ (c : Fin 256) (h : Fin 4) (t : Fin 64) (d : Fin 256),
    (V (Proc.devRef .tc main_v29_0) (ix4 c h t d) : EReal) = (tokQ q h d (64 * c + t) : EReal)
  x1 : ∀ (c : Fin 256) (h : Fin 4) (t : Fin 64) (d : Fin 256),
    (V (Proc.devRef .tc main_v29_1) (ix4 c h t d) : EReal) = (tokQ k h d (64 * c + t) : EReal)
  x2 : ∀ (c : Fin 256) (h : Fin 4) (t : Fin 64) (e : Fin 512),
    (V (Proc.devRef .tc main_v29_2) (ix4 c h t e) : EReal) = (tokV v h e (64 * c + t) : EReal)
  x3 : ∀ (c : Fin 256) (h : Fin 4) (t : Fin 64),
    (V (Proc.devRef .tc main_v29_3) (ix3 c h t) : EReal) = (gI g h (64 * c + t) : EReal)
  x4 : ∀ (c : Fin 256) (h : Fin 4) (t : Fin 64),
    (V (Proc.devRef .tc main_v29_4) (ix3 c h t) : EReal) = (gF g h (64 * c + t) : EReal)
  x5 : ∀ (t s : Fin 64) (a b : EReal),
    Scalar.select (V (Proc.devRef .tc main_v29_5) (ix2 t s)) a b = if (s : ℕ) ≤ t then a else b
  ctr : V (Proc.devRef .tc main_v29_6) = fun _ => BitVec.ofNat 32 n
  st7 : ∀ (h : Fin 4) (e : Fin 512) (d : Fin 256),
    (V (Proc.devRef .tc main_v29_7) (ix3 h e d) : EReal) = (resC k v g c0 m0 h d e (64 * n) : EReal)
  st8 : ∀ (h : Fin 4) (d : Fin 256),
    (V (Proc.devRef .tc main_v29_8) (ix2 h d) : EReal) = (resN k g n0 m0 h d (64 * n) : EReal)
  st9 : ∀ (h : Fin 4), (V (Proc.devRef .tc main_v29_9) (ix1 h) : EReal) = (resM g m0 h (64 * n) : EReal)
  st10 : ∀ (c : Fin 256) (h : Fin 4) (t : Fin 64) (e : Fin 512), (c : ℕ) < n →
    (V (Proc.devRef .tc main_v29_10) (ix4 c h t e) : EReal) = (resH q k v g c0 n0 m0 h e (64 * c + t) : EReal)

variable {q k v g c0 n0 m0} {V : Valuation τ sig (Elt Ideal)} {n : ℕ}

theorem v39 (I : Inv q k v g c0 n0 m0 V n) (hn : n < 256) (h : Fin 4) (t : Fin 64) (d : Fin 256) :
    (res_main_while0b_v39 V (ix3 h t d) : EReal) = (tokQ q h d (64 * n + t) : EReal) := by
  unfold res_main_while0b_v39
  clean_types
  pointwise
  refine Eq.trans (congrArg _ ?_) (I.x0 ⟨n, hn⟩ h t d)
  refine congr (congr (congr (congrArg ix4 ?_) ?_) ?_) ?_
  · apply Fin.ext
    simp only [I.ctr]
    simp [Host.clampedStart]
    exact start_at hn rfl
  all_goals apply Fin.ext; simp [Host.clampedStart, constantI]

theorem v40 (I : Inv q k v g c0 n0 m0 V n) (hn : n < 256) (h : Fin 4) (t : Fin 64) (d : Fin 256) :
    (res_main_while0b_v40 V (ix3 h t d) : EReal) = (tokQ k h d (64 * n + t) : EReal) := by
  unfold res_main_while0b_v40
  clean_types
  pointwise
  refine Eq.trans (congrArg _ ?_) (I.x1 ⟨n, hn⟩ h t d)
  refine congr (congr (congr (congrArg ix4 ?_) ?_) ?_) ?_
  · apply Fin.ext
    simp only [I.ctr]
    simp [Host.clampedStart]
    exact start_at hn rfl
  all_goals apply Fin.ext; simp [Host.clampedStart, constantI]

theorem v41 (I : Inv q k v g c0 n0 m0 V n) (hn : n < 256) (h : Fin 4) (t : Fin 64) (e : Fin 512) :
    (res_main_while0b_v41 V (ix3 h t e) : EReal) = (tokV v h e (64 * n + t) : EReal) := by
  unfold res_main_while0b_v41
  clean_types
  pointwise
  refine Eq.trans (congrArg _ ?_) (I.x2 ⟨n, hn⟩ h t e)
  refine congr (congr (congr (congrArg ix4 ?_) ?_) ?_) ?_
  · apply Fin.ext
    simp only [I.ctr]
    simp [Host.clampedStart]
    exact start_at hn rfl
  all_goals apply Fin.ext; simp [Host.clampedStart, constantI]

theorem v42 (I : Inv q k v g c0 n0 m0 V n) (hn : n < 256) (h : Fin 4) (t : Fin 64) :
    (res_main_while0b_v42 V (ix2 h t) : EReal) = (gI g h (64 * n + t) : EReal) := by
  unfold res_main_while0b_v42
  clean_types
  pointwise
  refine Eq.trans (congrArg _ ?_) (I.x3 ⟨n, hn⟩ h t)
  refine congr (congr (congrArg ix3 ?_) ?_) ?_
  · apply Fin.ext
    simp only [I.ctr]
    simp [Host.clampedStart]
    exact start_at hn rfl
  all_goals apply Fin.ext; simp [Host.clampedStart, constantI]

theorem v44 (I : Inv q k v g c0 n0 m0 V n) (hn : n < 256) (h : Fin 4) (t : Fin 64) :
    (res_main_while0b_v44 V (ix2 h t) : EReal) = (B (gF g h) (64 * n) (t + 1) : EReal) := by
  unfold res_main_while0b_v44
  refine cumsum _ _ (fun s => gF g h (64 * n + s)) h t (fun s => ?_) _ ?_ _
  · clean_types
    pointwise
    refine Eq.trans (congrArg _ ?_) (I.x4 ⟨n, hn⟩ h s)
    refine congr (congr (congrArg ix3 ?_) ?_) ?_
    · apply Fin.ext
      simp only [I.ctr]
      simp [Host.clampedStart]
      exact start_at hn rfl
    all_goals apply Fin.ext; simp [Host.clampedStart, constantI]
  · show Ideal.ofBits .f32 0x00000000#32 = 0
    simp [Ideal.ofBits, Ideal.ieee]

theorem v53 (I : Inv q k v g c0 n0 m0 V n) (hn : n < 256) (h : Fin 4) (t s : Fin 64) :
    (res_main_while0b_v53 V (ix3 h t s) : EReal)
      = if s ≤ t then (Mlstm.g (gF g h) (gI g h) (64 * n) (t + 1) s : EReal) else ⊥ := by
  unfold res_main_while0b_v53
  clean_types
  pointwise
  rw [I.x5, v44 I hn, v44 I hn, v42 I hn]
  refine if_congr Iff.rfl ?_ ofBits_bot
  rw [Mlstm.g]
  push_cast
  rfl

theorem v56 (I : Inv q k v g c0 n0 m0 V n) (hn : n < 256) (h : Fin 4) (t : Fin 64) :
    (res_main_while0b_v56 V (ix2 h t) : EReal)
      = ((B (gF g h) (64 * n) (t + 1) + resM g m0 h (64 * n) : ℝ) : EReal) := by
  unfold res_main_while0b_v56
  clean_types
  pointwise
  rw [I.st9, v44 I hn]
  push_cast
  rfl

theorem v58 (h : Fin 4) (t : Fin 64) :
    (res_main_while0b_v58 V (ix2 h t) : EReal)
      = @max EReal _ (res_main_while0b_v56 V (ix2 h t))
          (Finset.fold max (⊥ : EReal) (fun s : Fin 64 => res_main_while0b_v53 V (ix3 h t s)) Finset.univ) := by
  unfold res_main_while0b_v58
  clean_types
  pointwise
  rw [ofBits_bot]

theorem v64 (I : Inv q k v g c0 n0 m0 V n) (hn : n < 256) (h : Fin 4) (t s : Fin 64) :
    (res_main_while0b_v64 V (ix3 h t s) : EReal)
      = ((∑ d, tokQ q h d (64 * n + t) * tokQ k h d (64 * n + s) : ℝ) : EReal)
        * Ideal.exp (@HSub.hSub EReal EReal EReal _ (res_main_while0b_v53 V (ix3 h t s)) (res_main_while0b_v58 V (ix2 h t))) := by
  unfold res_main_while0b_v64
  clean_types
  pointwise
  simp only [v39 I hn, v40 I hn]
  rw [← coe_sum]
  simp only [EReal.coe_mul]

theorem v66 (h : Fin 4) (t : Fin 64) :
    (res_main_while0b_v66 V (ix2 h t) : EReal)
      = Ideal.exp (@HSub.hSub EReal EReal EReal _ (res_main_while0b_v56 V (ix2 h t)) (res_main_while0b_v58 V (ix2 h t))) := by
  unfold res_main_while0b_v66
  clean_types
  pointwise

theorem v85 (I : Inv q k v g c0 n0 m0 V n) (hn : n < 256) (h : Fin 4) :
    (res_main_while0b_v85 V (ix1 h) : EReal) = (B (gF g h) (64 * n) 64 : EReal) := by
  unfold res_main_while0b_v85
  clean_types
  pointwise
  exact v44 I hn h 63

theorem v89 (I : Inv q k v g c0 n0 m0 V n) (hn : n < 256) (h : Fin 4) (s : Fin 64) :
    (res_main_while0b_v89 V (ix2 h s) : EReal) = (Mlstm.g (gF g h) (gI g h) (64 * n) 64 s : EReal) := by
  unfold res_main_while0b_v89
  clean_types
  pointwise
  rw [v85 I hn, v44 I hn, v42 I hn, Mlstm.g]
  push_cast
  rfl

theorem v92 (I : Inv q k v g c0 n0 m0 V n) (hn : n < 256) (h : Fin 4) :
    (res_main_while0b_v92 V (ix1 h) : EReal) = (resM g m0 h (64 * n + 64) : EReal) := by
  unfold res_main_while0b_v92
  clean_types
  pointwise
  rw [v85 I hn, I.st9, ofBits_bot]
  simp only [v89 I hn]
  rw [← EReal.coe_add]
  exact max_eq (gF g h) (gI g h) (ini m0 h) (64 * n) 64

theorem v95 (I : Inv q k v g c0 n0 m0 V n) (hn : n < 256) (h : Fin 4) :
    (res_main_while0b_v95 V (ix1 h) : EReal)
      = Ideal.exp (((B (gF g h) (64 * n) 64 + resM g m0 h (64 * n) : ℝ) : EReal) - (resM g m0 h (64 * n + 64) : EReal)) := by
  unfold res_main_while0b_v95
  clean_types
  pointwise
  rw [v85 I hn, I.st9, v92 I hn]
  push_cast
  rfl

theorem v99 (I : Inv q k v g c0 n0 m0 V n) (hn : n < 256) (h : Fin 4) (s : Fin 64) :
    (res_main_while0b_v99 V (ix2 h s) : EReal)
      = Ideal.exp ((Mlstm.g (gF g h) (gI g h) (64 * n) 64 s : EReal) - (resM g m0 h (64 * n + 64) : EReal)) := by
  unfold res_main_while0b_v99
  clean_types
  pointwise
  rw [v89 I hn, v92 I hn]

theorem step7 (I : Inv q k v g c0 n0 m0 V n) (hn : n < 256) (h : Fin 4) (e : Fin 512) (d : Fin 256) :
    (step_main_v29_7 V (ix3 h e d) : EReal) = (resC k v g c0 m0 h d e (64 * (n + 1)) : EReal) := by
  unfold step_main_v29_7
  simp only [id_eq]
  clean_types
  pointwise
  rw [v95 I hn, I.st7]
  simp only [v99 I hn, v40 I hn, v41 I hn]
  rw [Nat.mul_add, Nat.mul_one]
  refine Eq.trans ?_ (state_chunk (N := 64) (gF g h) (gI g h) (tokQ k h d) (tokV v h e) (c0 (ix3 h d e)).toReal (ini m0 h) (64 * n))
  refine congrArg₂ (· + ·) rfl (Finset.sum_congr rfl fun s _ => mul_comm _ _)

theorem step8 (I : Inv q k v g c0 n0 m0 V n) (hn : n < 256) (h : Fin 4) (d : Fin 256) :
    (step_main_v29_8 V (ix2 h d) : EReal) = (resN k g n0 m0 h d (64 * (n + 1)) : EReal) := by
  unfold step_main_v29_8
  simp only [id_eq]
  clean_types
  pointwise
  rw [v95 I hn, I.st8]
  simp only [v99 I hn, v40 I hn]
  rw [Nat.mul_add, Nat.mul_one]
  refine Eq.trans ?_ (state_chunk (N := 64) (gF g h) (gI g h) (tokQ k h d) (fun _ => 1) (n0 (ix3 h 0 d)).toReal (ini m0 h) (64 * n))
  refine congrArg₂ (· + ·) rfl (Finset.sum_congr rfl fun s _ => ?_)
  rw [EReal.coe_one, one_mul]
  exact mul_comm _ _

theorem step9 (I : Inv q k v g c0 n0 m0 V n) (hn : n < 256) (h : Fin 4) :
    (step_main_v29_9 V (ix1 h) : EReal) = (resM g m0 h (64 * (n + 1)) : EReal) := by
  unfold step_main_v29_9
  rw [Nat.mul_add, Nat.mul_one]
  exact v92 I hn h

theorem step6 (I : Inv q k v g c0 n0 m0 V n) :
    step_main_v29_6 V = fun _ => BitVec.ofNat 32 (n + 1) := by
  unfold step_main_v29_6
  rw [I.ctr]
  funext x
  exact (BitVec.ofNat_add n 1).symm

/-- A block of one chunk, written at chunk `n`, is what that chunk reads; the other chunks keep their contents. -/
theorem put_at (x : (⟨4, ![256, 4, 64, 512]⟩ : Shape).Idx → EReal) (u : (⟨4, ![1, 4, 64, 512]⟩ : Shape).Idx → EReal)
    (st : Fin 4 → Int) (fit : (⟨4, ![256, 4, 64, 512]⟩ : Shape).Slices (fun _ => 0) ⟨4, ![1, 4, 64, 512]⟩)
    (hn : n < 256) (h0 : st 0 = n) (h1 : st 1 = 0) (h2 : st 2 = 0) (h3 : st 3 = 0)
    (c : Fin 256) (h : Fin 4) (t : Fin 64) (e : Fin 512) :
    Host.dynamicUpdateSlice x u st fit (ix4 c h t e) = if (c : ℕ) = n then u (ix4 0 h t e) else x (ix4 c h t e) := by
  have hh := h.isLt
  have ht := t.isLt
  have he := e.isLt
  have e0 : Host.clampedStart ⟨4, ![256, 4, 64, 512]⟩ ⟨4, ![1, 4, 64, 512]⟩ fit.1 st 0 = n :=
    Host.clampedStart_of_le _ _ _ _ h0 (by show n + 1 ≤ 256; omega)
  have e1 : Host.clampedStart ⟨4, ![256, 4, 64, 512]⟩ ⟨4, ![1, 4, 64, 512]⟩ fit.1 st 1 = 0 :=
    Host.clampedStart_of_le _ _ _ _ h1 (by show 0 + 4 ≤ 4; omega)
  have e2 : Host.clampedStart ⟨4, ![256, 4, 64, 512]⟩ ⟨4, ![1, 4, 64, 512]⟩ fit.1 st 2 = 0 :=
    Host.clampedStart_of_le _ _ _ _ h2 (by show 0 + 64 ≤ 64; omega)
  have e3 : Host.clampedStart ⟨4, ![256, 4, 64, 512]⟩ ⟨4, ![1, 4, 64, 512]⟩ fit.1 st 3 = 0 :=
    Host.clampedStart_of_le _ _ _ _ h3 (by show 0 + 512 ≤ 512; omega)
  rw [Host.dynamicUpdateSlice_apply]
  by_cases hc : (c : ℕ) = n
  · rw [if_pos hc, dif_pos]
    · refine congrArg u ?_
      rw [ValueIdx.eq_ix4 (Shape.Idx.norm _)]
      refine congr (congr (congr (congrArg ix4 ?_) ?_) ?_) ?_
      · exact Fin.ext (by
          show (c : ℕ) - Host.clampedStart _ _ fit.1 st 0 = 0
          rw [e0]; omega)
      · exact Fin.ext (by
          show (h : ℕ) - Host.clampedStart _ _ fit.1 st 1 = h
          rw [e1]; omega)
      · exact Fin.ext (by
          show (t : ℕ) - Host.clampedStart _ _ fit.1 st 2 = t
          rw [e2]; omega)
      · exact Fin.ext (by
          show (e : ℕ) - Host.clampedStart _ _ fit.1 st 3 = e
          rw [e3]; omega)
    · intro a
      match a with
      | ⟨0, _⟩ =>
        show Host.clampedStart _ _ fit.1 st 0 ≤ (c : ℕ) ∧ (c : ℕ) < Host.clampedStart _ _ fit.1 st 0 + 1
        rw [e0]; omega
      | ⟨1, _⟩ =>
        show Host.clampedStart _ _ fit.1 st 1 ≤ (h : ℕ) ∧ (h : ℕ) < Host.clampedStart _ _ fit.1 st 1 + 4
        rw [e1]; omega
      | ⟨2, _⟩ =>
        show Host.clampedStart _ _ fit.1 st 2 ≤ (t : ℕ) ∧ (t : ℕ) < Host.clampedStart _ _ fit.1 st 2 + 64
        rw [e2]; omega
      | ⟨3, _⟩ =>
        show Host.clampedStart _ _ fit.1 st 3 ≤ (e : ℕ) ∧ (e : ℕ) < Host.clampedStart _ _ fit.1 st 3 + 512
        rw [e3]; omega
  · rw [if_neg hc, dif_neg]
    intro hin
    have := hin 0
    change Host.clampedStart _ _ fit.1 st 0 ≤ (c : ℕ) ∧ (c : ℕ) < Host.clampedStart _ _ fit.1 st 0 + 1 at this
    rw [e0] at this
    omega

theorem ctr_int (hn : n < 256) : (BitVec.ofNat 32 n).toInt = n := by
  rw [BitVec.toInt_eq_toNat_of_lt (by simp; omega)]; simp; omega

/-- The rows after one more trip: the trip's own chunk holds its 64 tokens' answers. -/
theorem step10 (I : Inv q k v g c0 n0 m0 V n) (hn : n < 256) (c : Fin 256) (h : Fin 4) (t : Fin 64) (e : Fin 512)
    (hc : (c : ℕ) < n + 1) :
    (step_main_v29_10 V (ix4 c h t e) : EReal) = (resH q k v g c0 n0 m0 h e (64 * c + t) : EReal) := by
  unfold step_main_v29_10
  simp only [id_eq]
  refine (put_at (n := n) _ _ _ _ hn ?_ rfl rfl rfl c h t e).trans ?_
  · show BitVec.toInt (V (Proc.devRef .tc main_v29_6) _) = _
    rw [I.ctr]
    exact ctr_int hn
  by_cases hcn : (c : ℕ) = n
  swap
  · rw [if_neg hcn]
    exact I.st10 c h t e (by omega)
  rw [if_pos hcn, hcn]
  clean_types
  pointwise
  have eC : ∑ d, (tokQ q h d (64 * n + t) : EReal) * (resC k v g c0 m0 h d e (64 * n) : EReal)
      = ((∑ d, tokQ q h d (64 * n + t) * resC k v g c0 m0 h d e (64 * n) : ℝ) : EReal) := by
    rw [← coe_sum]; simp only [EReal.coe_mul]
  have eN : ∑ d, (tokQ q h d (64 * n + t) : EReal) * (resN k g n0 m0 h d (64 * n) : EReal)
      = ((∑ d, tokQ q h d (64 * n + t) * resN k g n0 m0 h d (64 * n) : ℝ) : EReal) := by
    rw [← coe_sum]; simp only [EReal.coe_mul]
  simp only [v64 I hn, v66, v39 I hn, v41 I hn, I.st7, I.st8]
  rw [eC, eN]
  exact answer_chunk (gF g h) (gI g h) (tokQ k h) (tokV v h e) (fun d => (c0 (ix3 h d e)).toReal)
    (fun d => (n0 (ix3 h 0 d)).toReal) (fun d => tokQ q h d (64 * n + t)) (ini m0 h) (64 * n) t
    (fun s => res_main_while0b_v53 V (ix3 h t s)) _ _ (v53 I hn h t) (v56 I hn h t) (v58 h t)

end Cert.ReferenceIdeal.Scan
end
-- ==== Proof.RefRun.lean ====
module

public import proofs.«01_k».proof.Proof.RefChunk

@[expose] public section

/-! The reference's loop from its entry to its exit. -/

set_option maxRecDepth 16384
noncomputable section
open Idealize.ShloMosaic Idealize.ShloMosaic.TcCoe Idealize.SL.Sem Idealize.ShloMosaic.StableHlo Mlstm
namespace Cert.ReferenceIdeal.Scan
open Cert.ReferenceIdeal Cert.ReferenceIdeal.Gen Cert.ReferenceIdeal.Value

section Loop
variable {q k : (⟨2, ![16384, 1024]⟩ : Shape).Idx → EReal} {v : (⟨2, ![16384, 2048]⟩ : Shape).Idx → EReal}
  {g : (⟨2, ![16384, 128]⟩ : Shape).Idx → EReal} {c0 : (⟨3, ![4, 256, 512]⟩ : Shape).Idx → EReal}
  {n0 : (⟨3, ![4, 1, 256]⟩ : Shape).Idx → EReal} {m0 : (⟨3, ![4, 1, 128]⟩ : Shape).Idx → EReal}
  {V : Valuation τ sig (Elt Ideal)}

/-- One trip takes the recurrence 64 tokens on. -/
theorem trip {n : ℕ} (I : Inv q k v g c0 n0 m0 V n) (hn : n < 256) : Inv q k v g c0 n0 m0 (STEP V) (n + 1) where
  x0 := by rw [STEP_main_v29_0]; exact I.x0
  x1 := by rw [STEP_main_v29_1]; exact I.x1
  x2 := by rw [STEP_main_v29_2]; exact I.x2
  x3 := by rw [STEP_main_v29_3]; exact I.x3
  x4 := by rw [STEP_main_v29_4]; exact I.x4
  x5 := by rw [STEP_main_v29_5]; exact I.x5
  ctr := by rw [STEP_main_v29_6]; exact step6 I
  st7 := by rw [STEP_main_v29_7]; exact step7 I hn
  st8 := by rw [STEP_main_v29_8]; exact step8 I hn
  st9 := by rw [STEP_main_v29_9]; exact step9 I hn
  st10 := by rw [STEP_main_v29_10]; exact step10 I hn

theorem trips (I : Inv q k v g c0 n0 m0 V 0) : ∀ n ≤ 256, Inv q k v g c0 n0 m0 (STEP^[n] V) n
  | 0, _ => I
  | n + 1, hn => by
    rw [Function.iterate_succ_apply']
    exact trip (trips I n (by omega)) (by omega)

variable (I : Inv q k v g c0 n0 m0 V 256)
include I

theorem exit_h (n : Fin 16384) (h : Fin 4) (e : Fin 512) :
    (out_main_v34 V (ix2 n ⟨512 * h + e, by omega⟩) : EReal) = (resH q k v g c0 n0 m0 h e n : EReal) := by
  unfold out_main_v34
  pointwise
  refine (I.st10 _ h _ e (by have := n.isLt; show (n : ℕ) / 64 < 256; omega)).trans ?_
  rw [show 64 * ((n : ℕ) / 64) + (n : ℕ) % 64 = n by omega]

theorem exit_C (h : Fin 4) (d : Fin 256) (e : Fin 512) :
    (out_main_v35 V (ix3 h d e) : EReal) = (resC k v g c0 m0 h d e 16384 : EReal) := by
  unfold out_main_v35
  pointwise
  exact I.st7 h e d

theorem exit_n (h : Fin 4) (z : Fin 1) (d : Fin 256) :
    (out_main_v36 V (ix3 h z d) : EReal) = (resN k g n0 m0 h d 16384 : EReal) := by
  unfold out_main_v36
  pointwise
  exact I.st8 h d

theorem exit_m (h : Fin 4) (z : Fin 1) (l : Fin 128) :
    (out_main_v38 V (ix3 h z l) : EReal) = (resM g m0 h 16384 : EReal) := by
  unfold out_main_v38
  pointwise
  exact I.st9 h

end Loop

variable (m : (ℓ : Loc nD τ sig) → Buf (Elt Ideal) ℓ) (c : Dev nD)

abbrev aQ : (⟨2, ![16384, 1024]⟩ : Shape).Idx → EReal := m ((c : Thread nD τ).loc main_arg0)
abbrev aK : (⟨2, ![16384, 1024]⟩ : Shape).Idx → EReal := m ((c : Thread nD τ).loc main_arg1)
abbrev aV : (⟨2, ![16384, 2048]⟩ : Shape).Idx → EReal := m ((c : Thread nD τ).loc main_arg2)
abbrev aG : (⟨2, ![16384, 128]⟩ : Shape).Idx → EReal := m ((c : Thread nD τ).loc main_arg3)
abbrev aC : (⟨3, ![4, 256, 512]⟩ : Shape).Idx → EReal := m ((c : Thread nD τ).loc main_arg4)
abbrev aN : (⟨3, ![4, 1, 256]⟩ : Shape).Idx → EReal := m ((c : Thread nD τ).loc main_arg5)
abbrev aM : (⟨3, ![4, 1, 128]⟩ : Shape).Idx → EReal := m ((c : Thread nD τ).loc main_arg6)

theorem e0 (b : Fin 256) (h : Fin 4) (t : Fin 64) (d : Fin 256) :
    (entryContents preI m c (Proc.devRef .tc main_v29_0) (ix4 b h t d) : EReal) = aQ m c (ix2 ⟨64 * b + t, by omega⟩ ⟨256 * h + d, by omega⟩) := by
  simp only [entryContents, afterL_cons, afterL_nil]
  after_reads_simp
  simp only [id_eq]
  clean_types
  pointwise
  exact congrArg (aQ m c) (congr (congrArg ix2 (Fin.ext (congrArg (· + (t : ℕ)) (Nat.mul_comm _ _))))
    (Fin.ext (congrArg (· + (d : ℕ)) (Nat.mul_comm _ _))))

theorem e1 (b : Fin 256) (h : Fin 4) (t : Fin 64) (d : Fin 256) :
    (entryContents preI m c (Proc.devRef .tc main_v29_1) (ix4 b h t d) : EReal) = aK m c (ix2 ⟨64 * b + t, by omega⟩ ⟨256 * h + d, by omega⟩) := by
  simp only [entryContents, afterL_cons, afterL_nil]
  after_reads_simp
  simp only [id_eq]
  clean_types
  pointwise
  exact congrArg (aK m c) (congr (congrArg ix2 (Fin.ext (congrArg (· + (t : ℕ)) (Nat.mul_comm _ _))))
    (Fin.ext (congrArg (· + (d : ℕ)) (Nat.mul_comm _ _))))

theorem e2 (b : Fin 256) (h : Fin 4) (t : Fin 64) (e : Fin 512) :
    (entryContents preI m c (Proc.devRef .tc main_v29_2) (ix4 b h t e) : EReal) = aV m c (ix2 ⟨64 * b + t, by omega⟩ ⟨512 * h + e, by omega⟩) := by
  simp only [entryContents, afterL_cons, afterL_nil]
  after_reads_simp
  simp only [id_eq]
  clean_types
  pointwise
  exact congrArg (aV m c) (congr (congrArg ix2 (Fin.ext (congrArg (· + (t : ℕ)) (Nat.mul_comm _ _))))
    (Fin.ext (congrArg (· + (e : ℕ)) (Nat.mul_comm _ _))))

theorem e3 (b : Fin 256) (h : Fin 4) (t : Fin 64) :
    (entryContents preI m c (Proc.devRef .tc main_v29_3) (ix3 b h t) : EReal) = aG m c (ix2 ⟨64 * b + t, by omega⟩ ⟨h, by omega⟩) := by
  simp only [entryContents, afterL_cons, afterL_nil]
  after_reads_simp
  simp only [id_eq]
  clean_types
  pointwise
  exact congrArg (aG m c) (congr (congrArg ix2 (Fin.ext (congrArg (· + (t : ℕ)) (Nat.mul_comm _ _)))) rfl)

theorem e4 (b : Fin 256) (h : Fin 4) (t : Fin 64) :
    (entryContents preI m c (Proc.devRef .tc main_v29_4) (ix3 b h t) : EReal) = aG m c (ix2 ⟨64 * b + t, by omega⟩ ⟨4 + h, by omega⟩) := by
  simp only [entryContents, afterL_cons, afterL_nil]
  after_reads_simp
  simp only [id_eq]
  clean_types
  pointwise
  exact congrArg (aG m c) (congr (congrArg ix2 (Fin.ext (congrArg (· + (t : ℕ)) (Nat.mul_comm _ _)))) rfl)

theorem e7 (h : Fin 4) (e : Fin 512) (d : Fin 256) :
    (entryContents preI m c (Proc.devRef .tc main_v29_7) (ix3 h e d) : EReal) = aC m c (ix3 h d e) := by
  simp only [entryContents, afterL_cons, afterL_nil]
  after_reads_simp
  simp only [id_eq]
  clean_types
  pointwise

theorem e8 (h : Fin 4) (d : Fin 256) :
    (entryContents preI m c (Proc.devRef .tc main_v29_8) (ix2 h d) : EReal) = aN m c (ix3 h 0 d) := by
  simp only [entryContents, afterL_cons, afterL_nil]
  after_reads_simp
  simp only [id_eq]
  clean_types
  pointwise

theorem e9 (h : Fin 4) :
    (entryContents preI m c (Proc.devRef .tc main_v29_9) (ix1 h) : EReal) = aM m c (ix3 h 0 0) := by
  simp only [entryContents, afterL_cons, afterL_nil]
  after_reads_simp
  simp only [id_eq]
  clean_types
  pointwise

theorem e5 (t s : Fin 64) (a b : EReal) :
    Scalar.select (entryContents preI m c (Proc.devRef .tc main_v29_5) (ix2 t s)) a b = if (s : ℕ) ≤ t then a else b := by
  simp only [entryContents, afterL_cons, afterL_nil]
  after_reads_simp
  simp only [id_eq]
  show Scalar.select (select (cmpi .sge (addi (iotaInDim S64x64 32 0) (broadcastInDim S64x64 ![] bcast_S_S64x64 (constantI S_ 32 0#32)))
    (iotaInDim S64x64 32 1)) (broadcastInDim S64x64 ![] bcast_S_S64x64 (constantI S_ 1 1#1))
    (broadcastInDim S64x64 ![] bcast_S_S64x64 (constantI S_ 1 0#1)) (ix2 t s)) a b = _
  pointwise
  rw [show IntOp.addi (BitVec.ofNat 32 t) 0#32 = BitVec.ofNat 32 t from BitVec.add_zero _,
    show IntOp.cmpi CmpIPredicate.sge (BitVec.ofNat 32 t) (BitVec.ofNat 32 s)
      = IntOp.cmpi CmpIPredicate.sle (BitVec.ofNat 32 s) (BitVec.ofNat 32 t) from rfl]
  have key := select_le s t (by omega) (by omega) a b
  rw [← key]
  generalize IntOp.cmpi CmpIPredicate.sle (BitVec.ofNat 32 s) (BitVec.ofNat 32 t) = w
  revert w
  show ∀ w : BitVec 1, Scalar.select (Scalar.select w 1#1 0#1) a b = Scalar.select w a b
  intro w
  unfold Scalar.select
  by_cases hw : w = 1#1 <;> simp [hw]

/-- At the loop's entry the inputs lie in chunks and the state is the initial one. -/
theorem entry (F : Finite (aQ m c) (aK m c) (aV m c) (aG m c) (aC m c) (aN m c) (aM m c)) :
    Inv (aQ m c) (aK m c) (aV m c) (aG m c) (aC m c) (aN m c) (aM m c) (entryContents preI m c) 0 where
  x0 b h t d := by
    rw [e0, tokQ, dif_pos (by omega)]
    exact F.q _
  x1 b h t d := by
    rw [e1, tokQ, dif_pos (by omega)]
    exact F.k _
  x2 b h t e := by
    rw [e2, tokV, dif_pos (by omega)]
    exact F.v _
  x3 b h t := by
    rw [e3, gI, gate, dif_pos (by omega)]
    exact F.g _ ⟨h, by omega⟩
  x4 b h t := by
    rw [e4, gF, gate, dif_pos (by omega)]
    exact F.g _ ⟨4 + h, by omega⟩
  x5 := e5 m c
  ctr := ctr_entry m c
  st7 h e d := by
    rw [e7, resC, Nat.mul_zero, St_zero]
    exact F.c0 _
  st8 h d := by
    rw [e8, resN, Nat.mul_zero, St_zero]
    exact F.n0 _
  st9 h := by
    rw [e9, resM, Nat.mul_zero]
    exact F.m0 h
  st10 b h t e hb := absurd hb (Nat.not_lt_zero _)

/-- What the loop leaves. -/
theorem last (F : Finite (aQ m c) (aK m c) (aV m c) (aG m c) (aC m c) (aN m c) (aM m c)) :
    Inv (aQ m c) (aK m c) (aV m c) (aG m c) (aC m c) (aN m c) (aM m c) (STEP^[256] (entryContents preI m c)) 256 :=
  trips (entry m c F) 256 le_rfl

end Cert.ReferenceIdeal.Scan
end
-- ==== Proof.Pre.lean ====
module

public import proofs.«01_k».proof.Defs
public import proofs.«01_k».proof.Proof.Gen.Pre_finite
public import proofs.«01_k».proof.Proof.Data
public import Idealize.ShloMosaic.Lib.ReduceAll

@[expose] public section

/-! The precondition as a statement about every entry. -/

noncomputable section
open Idealize.ShloMosaic Mlstm
namespace Cert.Pre_finite.Read
open Cert.Pre_finite Cert.Pre_finite.Gen

/-- An extended real whose absolute value is below infinity is a real number. -/
theorem real_of_lt (x : EReal) (h : FloatOps.cmpf (F := Ideal) (φ := .f32) .olt (FloatOps.absf (F := Ideal) (φ := .f32) x)
    (FloatOps.ofBits (F := Ideal) .f32 0x7F800000#32) = 1#1) : x = (x.toReal : EReal) := by
  have ht : (FloatOps.ofBits (F := Ideal) .f32 0x7F800000#32 : EReal) = ⊤ := by
    show Ideal.ofBits .f32 0x7F800000#32 = _
    simp [Ideal.ofBits, Ideal.ieee]
  rw [ht] at h
  refine (EReal.coe_toReal ?_ ?_).symm
  · rintro rfl
    simp [FloatOps.cmpf, FloatOps.absf, Ideal.cmp] at h
  · rintro rfl
    simp [FloatOps.cmpf, FloatOps.absf, Ideal.cmp] at h

instance : Subsingleton S_.Idx := ⟨fun _ _ => funext fun a => a.elim0⟩

theorem all_real {s : Shape} {axes : List (Fin s.rank)} (x : FVec Ideal s .f32) (h : s.ReducesTo axes S_)
    (hb : S_.BroadcastsInDim s (![] : Fin 0 → Fin s.rank)) (j : S_.Idx)
    (e : Host.reduce IntOp.andi (cmpf .olt (Host.absf x) (broadcastInDim s ![] hb (constant S_ .f32 0x7F800000#32))) (constantI S_ 1 1#1) h h_S_ j = 1#1)
    (i : s.Idx) : (x i : EReal) = ((x i : EReal).toReal : EReal) :=
  real_of_lt _ (Host.reduce_andi_all _ _ h h_S_ j e i)

theorem finite (q k : FVec Ideal S16384x1024 .bf16) (v : FVec Ideal S16384x2048 .bf16) (g : FVec Ideal S16384x128 .f32)
    (c0 : FVec Ideal S4x256x512 .f32) (n0 : FVec Ideal S4x1x256 .f32) (m0 : FVec Ideal S4x1x128 .f32)
    (h : Cert.Pre_finite.fn (F := Ideal) q k v g c0 n0 m0 = fun _ => 1#1) : Finite q k v g c0 n0 m0 := by
  have h0 := congrFun h ix0
  unfold Cert.Pre_finite.fn fn_part1 fn_part2 at h0
  dsimp only at h0
  simp only [andi, IntOp.andi_eq_one] at h0
  obtain ⟨⟨⟨⟨⟨⟨hq, hk⟩, hv⟩, hg⟩, hc⟩, hn⟩, hm⟩ := h0
  refine ⟨all_real _ _ _ _ hq, all_real _ _ _ _ hk, all_real _ _ _ _ hv, fun n j => ?_, all_real _ _ _ _ hc, all_real _ _ _ _ hn, fun h => ?_⟩
  · have := all_real _ _ _ _ hg (ix2 n j)
    pointwise at this
    exact this
  · have := all_real _ _ _ _ hm (ix1 h)
    pointwise at this
    exact this

end Cert.Pre_finite.Read
end
-- ==== Proof.Dense.lean ====
module

public import Idealize.ShloMosaic.Lib.Pipeline.ValueKit
public import Idealize.ShloMosaic.Lib.Pointwise

@[expose] public section
noncomputable section
open Idealize.ShloMosaic

/-! The dense layers before and after the mixers, read at an entry. -/
namespace Dense

/-- A row's normalised and modulated entry: divided by the row's root mean square, scaled by `g`, then by one plus
    `s`, and moved by `t`. -/
def nrm (x g s t : Fin 1024 → EReal) (k : Fin 1024) : EReal :=
  x k * Ideal.rsqrt (Ideal.div (∑ i : Fin 1024, x i * x i) (Ideal.ofBits FTy.f32 1149239296#32) + Ideal.ofBits FTy.f32 897988541#32)
    * g k * (1 + s k) + t k

/-- The row times a column of the weights. -/
def lin {n : ℕ} (u w : Fin n → EReal) : EReal := ∑ k : Fin n, u k * w k

/-- The residual: the old entry plus the gated new one. -/
def res (h g s : EReal) : EReal := h + g * s

end Dense
end
-- ==== Proof.MIn.lean ====
module

public import proofs.«01_k».proof.Proof.Gen.MInIdeal.Value
public import proofs.«01_k».proof.Proof.Gen.ReferenceMInIdeal.Run
public import proofs.«01_k».proof.Defs
public import proofs.«01_k».proof.Proof.Dense
public import Idealize.ShloMosaic.Lib.Tactic.CleanTypes

@[expose] public section
set_option maxRecDepth 16384
noncomputable section
open Idealize.ShloMosaic Idealize.ShloMosaic.TcCoe Idealize.SL.Sem Idealize.ShloMosaic.StableHlo

/-! The projection into the mLSTM mixer. -/
namespace Cert.MInIdeal.Proj
open Cert.MInIdeal Cert.MInIdeal.Gen Cert.MInIdeal.Value Dense

/-- A block of the result, from the blocks the body reads. -/
theorem block (x0 : Vec Ideal S256x1024 .f32) (x1 : Vec Ideal S1x1024 .f32) (x2 : Vec Ideal S8x1024 .f32)
    (x3 : Vec Ideal S1024x4096 .bf16) (x4 : Vec Ideal S1x4096 .f32) (r : Fin 256) (j : Fin 4096) :
    (out0_5 x0 x1 x2 x3 x4 (ix2 r j) : EReal)
      = lin (nrm (fun k => x0 (ix2 r k)) (fun k => x1 (ix2 0 k)) (fun k => x2 (ix2 1 k)) (fun k => x2 (ix2 0 k)))
          (fun k => x3 (ix2 k j)) + x4 (ix2 0 j) := by
  generalize hy : (ix2 r j : S256x4096.Idx) = y
  have hy0 : r.val = (y 0).val := by rw [← hy]; rfl
  have hy1 : j.val = (y 1).val := by rw [← hy]; rfl
  frame_out
  canon_tiles x hh
  all_goals
    open_payloads; pointwise
    obtain rfl : r = x 0 := Fin.ext (by omega)
    obtain ⟨j', hj, rfl⟩ : ∃ j' h, j = ⟨j', h⟩ := ⟨j.val, j.isLt, rfl⟩
    have e := hy1.trans hh1
    dsimp only at e
    subst e
    rfl

variable (m : (ℓ : Loc nD τ sig) → Buf (Elt Ideal) ℓ) (c : Dev nD)

theorem idx_eq : ∀ t : Fin cfg0.N, (win0_0.index t = ![t.val, 0] ∧ win0_1.index t = ![0, 0] ∧ win0_2.index t = ![0, 0])
    ∧ win0_3.index t = ![0, 0] ∧ win0_4.index t = ![0, 0] ∧ win0_5.index t = ![t.val, 0] :=
  (by decide +kernel : ∀ t : Fin grid0.N, _)

theorem lt64 (t : Fin cfg0.N) : t.val < 64 := lt_of_lt_of_eq t.isLt (show cfg0.N = 64 from N_0)

theorem blk_x (t : Fin cfg0.N) (s : Fin 256) (x : Fin 1024) :
    iblk m c 0 t (ix2 s x) = m ((c : Thread nD τ).loc main_arg0) (ix2 ⟨256 * t.val + s, by have := lt64 t; omega⟩ x) := by
  blk_ext [iblk, V, idx_eq t]

theorem blk_g (t : Fin cfg0.N) (x : Fin 1024) :
    (iblk m c 1 t (ix2 0 x) : EReal) = m ((c : Thread nD τ).loc main_arg1) (ix1 x) := by
  have e : V m c main_v2 = shapeCast S1x1024 (m ((c : Thread nD τ).loc main_arg1)) shapeCasts_S1024_S1x1024 := rfl
  have e2 : iblk m c 1 t (ix2 0 x) = V m c main_v2 (ix2 0 x) := by
    blk_ext [iblk, idx_eq t]
  rw [e2, e]
  pointwise

theorem blk_mod (t : Fin cfg0.N) (s : Fin 8) (x : Fin 1024) :
    iblk m c 2 t (ix2 s x) = m ((c : Thread nD τ).loc main_arg2) (ix2 s x) := by
  blk_ext [iblk, V, idx_eq t]

theorem blk_w (t : Fin cfg0.N) (x : Fin 1024) (j : Fin 4096) :
    (iblk m c 3 t (ix2 x j) : EReal) = m ((c : Thread nD τ).loc main_arg3) (ix2 x j) := by
  have e2 : iblk m c 3 t (ix2 x j) = V m c main_v0 (ix2 x j) := by
    blk_ext [iblk, idx_eq t]
  exact e2

theorem blk_b (t : Fin cfg0.N) (j : Fin 4096) : @Eq EReal (iblk m c 4 t (ix2 0 j)) 0 := by
  have e : V m c main_v3 = shapeCast S1x4096 (broadcastInDim S4096 ![] bcast_S_S4096 (constant (F := Ideal) S_ .f32 0x00000000#32)) shapeCasts_S4096_S1x4096 := rfl
  have e2 : iblk m c 4 t (ix2 0 j) = V m c main_v3 (ix2 0 j) := by
    blk_ext [iblk, idx_eq t]
  rw [e2, e]
  pointwise

/-- The result at row `n`, column `j`. -/
def val (n : Fin 16384) (j : Fin 4096) : EReal :=
  lin (nrm (fun k => m ((c : Thread nD τ).loc main_arg0) (ix2 n k)) (fun k => m ((c : Thread nD τ).loc main_arg1) (ix1 k))
      (fun k => m ((c : Thread nD τ).loc main_arg2) (ix2 1 k)) (fun k => m ((c : Thread nD τ).loc main_arg2) (ix2 0 k)))
    (fun k => m ((c : Thread nD τ).loc main_arg3) (ix2 k j))

/-- The result as an array. -/
def G : Buf (Elt Ideal) ((c : Thread nD τ).loc main_v4) := fun i => val m c (i 0) (i 1)

theorem final : (dats m 0 c).arrAt 5 cfg0.N = G m c := by
  refine (dats m 0 c).arrAt_eq_of_covers 5 _ (by decide +kernel) fun t hf y => ?_
  obtain ⟨r, j, rfl⟩ : ∃ (r : Fin 256) (j : Fin 4096), y = ix2 r j := ⟨y 0, y 1, ValueIdx.eq_ix2 y⟩
  blk_simp
  rw [after0_5]
  refine (block _ _ _ _ _ r j).trans ?_
  simp only [blk_x, blk_g, blk_mod, blk_w, blk_b]
  have e : ((cfg0.win 5).blk t).view.emb (ix2 r j) = ix2 (⟨256 * t.val + r, by have := lt64 t; omega⟩ : Fin 16384) j := by
    blk_ext [idx_eq t]
  show _ = G m c (((cfg0.win 5).blk t).view.emb (ix2 r j))
  rw [e, add_zero]
  rfl

end Cert.MInIdeal.Proj

namespace Cert.ReferenceMInIdeal.Proj

theorem frame : Cert.quiescent_ReferenceMInIdeal := fun m ρ _ =>
  (θ_run Cert.ReferenceMInIdeal.defs _ _).mono
    (fun r h => ⟨fun c => (h c).2, Idealize.ShloMosaic.sem_eq_zero_of_no_sems (by decide) r.2⟩)
    (Cert.ReferenceMInIdeal.Value.run (F := Ideal) m ρ)

theorem algebraic : Cert.algebraic_MInIdeal_ReferenceMInIdeal := by
  intro m ρ m' ρ' hp hargs
  refine ⟨MInIdeal.Proj.G m,
    (θ_run _ _ _).mono (fun r hr c => ⟨(hr c).1.trans (MInIdeal.Proj.final m c), (hr c).2⟩) (Cert.MInIdeal.Value.run_blocks m ρ),
    (θ_run _ _ _).mono (fun r hr c => ?_) (Cert.ReferenceMInIdeal.Value.run (F := Ideal) m' ρ')⟩
  obtain ⟨a0, a1, a2, a3⟩ := hargs c
  refine ⟨(hr c).1.trans ?_, (hr c).2⟩
  rw [a0, a1, a2, a3]
  funext i
  obtain ⟨n, j, rfl⟩ : ∃ (n : Fin 16384) (j : Fin 4096), i = ix2 n j := ⟨i 0, i 1, ValueIdx.eq_ix2 i⟩
  refine Eq.trans (b := MInIdeal.Proj.val m c n j) ?_ rfl
  unfold MInIdeal.Proj.val Dense.lin Dense.nrm
  simp only [id_eq]
  clean_types
  pointwise
end Cert.ReferenceMInIdeal.Proj
end
-- ==== Proof.HIn.lean ====
module

public import proofs.«01_k».proof.Proof.Gen.HInIdeal.Value
public import proofs.«01_k».proof.Proof.Gen.ReferenceHInIdeal.Run
public import proofs.«01_k».proof.Defs
public import proofs.«01_k».proof.Proof.Dense
public import Idealize.ShloMosaic.Lib.Tactic.CleanTypes

@[expose] public section
set_option maxRecDepth 16384
noncomputable section
open Idealize.ShloMosaic Idealize.ShloMosaic.TcCoe Idealize.SL.Sem Idealize.ShloMosaic.StableHlo

/-! The projection into the hyena mixer. -/
namespace Cert.HInIdeal.Proj
open Cert.HInIdeal Cert.HInIdeal.Gen Cert.HInIdeal.Value Dense

/-- A block of the result, from the blocks the body reads. -/
theorem block (x0 : Vec Ideal S256x1024 .f32) (x1 : Vec Ideal S1x1024 .f32) (x2 : Vec Ideal S8x1024 .f32)
    (x3 : Vec Ideal S1024x3072 .bf16) (x4 : Vec Ideal S1x3072 .f32) (r : Fin 256) (j : Fin 3072) :
    (out0_5 x0 x1 x2 x3 x4 (ix2 r j) : EReal)
      = lin (nrm (fun k => x0 (ix2 r k)) (fun k => x1 (ix2 0 k)) (fun k => x2 (ix2 1 k)) (fun k => x2 (ix2 0 k)))
          (fun k => x3 (ix2 k j)) + x4 (ix2 0 j) := by
  generalize hy : (ix2 r j : S256x3072.Idx) = y
  have hy0 : r.val = (y 0).val := by rw [← hy]; rfl
  have hy1 : j.val = (y 1).val := by rw [← hy]; rfl
  frame_out
  canon_tiles x hh
  all_goals
    open_payloads; pointwise
    obtain rfl : r = x 0 := Fin.ext (by omega)
    obtain ⟨j', hj, rfl⟩ : ∃ j' h, j = ⟨j', h⟩ := ⟨j.val, j.isLt, rfl⟩
    have e := hy1.trans hh1
    dsimp only at e
    subst e
    rfl

variable (m : (ℓ : Loc nD τ sig) → Buf (Elt Ideal) ℓ) (c : Dev nD)

theorem idx_eq : ∀ t : Fin cfg0.N, (win0_0.index t = ![t.val, 0] ∧ win0_1.index t = ![0, 0] ∧ win0_2.index t = ![0, 0])
    ∧ win0_3.index t = ![0, 0] ∧ win0_4.index t = ![0, 0] ∧ win0_5.index t = ![t.val, 0] :=
  (by decide +kernel : ∀ t : Fin grid0.N, _)

theorem lt64 (t : Fin cfg0.N) : t.val < 64 := lt_of_lt_of_eq t.isLt (show cfg0.N = 64 from N_0)

theorem blk_x (t : Fin cfg0.N) (s : Fin 256) (x : Fin 1024) :
    iblk m c 0 t (ix2 s x) = m ((c : Thread nD τ).loc main_arg0) (ix2 ⟨256 * t.val + s, by have := lt64 t; omega⟩ x) := by
  blk_ext [iblk, V, idx_eq t]

theorem blk_g (t : Fin cfg0.N) (x : Fin 1024) :
    (iblk m c 1 t (ix2 0 x) : EReal) = m ((c : Thread nD τ).loc main_arg1) (ix1 x) := by
  have e : V m c main_v1 = shapeCast S1x1024 (m ((c : Thread nD τ).loc main_arg1)) shapeCasts_S1024_S1x1024 := rfl
  have e2 : iblk m c 1 t (ix2 0 x) = V m c main_v1 (ix2 0 x) := by
    blk_ext [iblk, idx_eq t]
  rw [e2, e]
  pointwise

theorem blk_mod (t : Fin cfg0.N) (s : Fin 8) (x : Fin 1024) :
    iblk m c 2 t (ix2 s x) = m ((c : Thread nD τ).loc main_arg2) (ix2 s x) := by
  blk_ext [iblk, V, idx_eq t]

theorem blk_w (t : Fin cfg0.N) (x : Fin 1024) (j : Fin 3072) :
    (iblk m c 3 t (ix2 x j) : EReal) = m ((c : Thread nD τ).loc main_arg3) (ix2 x j) := by
  have e2 : iblk m c 3 t (ix2 x j) = V m c main_v0 (ix2 x j) := by
    blk_ext [iblk, idx_eq t]
  exact e2

theorem blk_b (t : Fin cfg0.N) (j : Fin 3072) : (iblk m c 4 t (ix2 0 j) : EReal) = m ((c : Thread nD τ).loc main_arg4) (ix1 j) := by
  have e : V m c main_v2 = shapeCast S1x3072 (m ((c : Thread nD τ).loc main_arg4)) shapeCasts_S3072_S1x3072 := rfl
  have e2 : iblk m c 4 t (ix2 0 j) = V m c main_v2 (ix2 0 j) := by
    blk_ext [iblk, idx_eq t]
  rw [e2, e]
  pointwise

/-- The result at row `n`, column `j`. -/
def val (n : Fin 16384) (j : Fin 3072) : EReal :=
  lin (nrm (fun k => m ((c : Thread nD τ).loc main_arg0) (ix2 n k)) (fun k => m ((c : Thread nD τ).loc main_arg1) (ix1 k))
      (fun k => m ((c : Thread nD τ).loc main_arg2) (ix2 1 k)) (fun k => m ((c : Thread nD τ).loc main_arg2) (ix2 0 k)))
    (fun k => m ((c : Thread nD τ).loc main_arg3) (ix2 k j))
    + m ((c : Thread nD τ).loc main_arg4) (ix1 j)

/-- The result as an array. -/
def G : Buf (Elt Ideal) ((c : Thread nD τ).loc main_v3) := fun i => val m c (i 0) (i 1)

theorem final : (dats m 0 c).arrAt 5 cfg0.N = G m c := by
  refine (dats m 0 c).arrAt_eq_of_covers 5 _ (by decide +kernel) fun t hf y => ?_
  obtain ⟨r, j, rfl⟩ : ∃ (r : Fin 256) (j : Fin 3072), y = ix2 r j := ⟨y 0, y 1, ValueIdx.eq_ix2 y⟩
  blk_simp
  rw [after0_5]
  refine (block _ _ _ _ _ r j).trans ?_
  simp only [blk_x, blk_g, blk_mod, blk_w, blk_b]
  have e : ((cfg0.win 5).blk t).view.emb (ix2 r j) = ix2 (⟨256 * t.val + r, by have := lt64 t; omega⟩ : Fin 16384) j := by
    blk_ext [idx_eq t]
  show _ = G m c (((cfg0.win 5).blk t).view.emb (ix2 r j))
  rw [e]
  rfl

end Cert.HInIdeal.Proj

namespace Cert.ReferenceHInIdeal.Proj

theorem frame : Cert.quiescent_ReferenceHInIdeal := fun m ρ _ =>
  (θ_run Cert.ReferenceHInIdeal.defs _ _).mono
    (fun r h => ⟨fun c => (h c).2, Idealize.ShloMosaic.sem_eq_zero_of_no_sems (by decide) r.2⟩)
    (Cert.ReferenceHInIdeal.Value.run (F := Ideal) m ρ)

theorem algebraic : Cert.algebraic_HInIdeal_ReferenceHInIdeal := by
  intro m ρ m' ρ' hp hargs
  refine ⟨HInIdeal.Proj.G m,
    (θ_run _ _ _).mono (fun r hr c => ⟨(hr c).1.trans (HInIdeal.Proj.final m c), (hr c).2⟩) (Cert.HInIdeal.Value.run_blocks m ρ),
    (θ_run _ _ _).mono (fun r hr c => ?_) (Cert.ReferenceHInIdeal.Value.run (F := Ideal) m' ρ')⟩
  obtain ⟨a0, a1, a2, a3, a4⟩ := hargs c
  refine ⟨(hr c).1.trans ?_, (hr c).2⟩
  rw [a0, a1, a2, a3, a4]
  funext i
  obtain ⟨n, j, rfl⟩ : ∃ (n : Fin 16384) (j : Fin 3072), i = ix2 n j := ⟨i 0, i 1, ValueIdx.eq_ix2 i⟩
  refine Eq.trans (b := HInIdeal.Proj.val m c n j) ?_ rfl
  unfold HInIdeal.Proj.val Dense.lin Dense.nrm
  simp only [id_eq]
  clean_types
  pointwise
end Cert.ReferenceHInIdeal.Proj
end
-- ==== Proof.MOut.lean ====
module

public import proofs.«01_k».proof.Proof.Gen.MOutIdeal.Value
public import proofs.«01_k».proof.Proof.Gen.ReferenceMOutIdeal.Run
public import proofs.«01_k».proof.Defs
public import proofs.«01_k».proof.Proof.Dense
public import Idealize.ShloMosaic.Lib.Tactic.CleanTypes

@[expose] public section
set_option maxRecDepth 16384
noncomputable section
open Idealize.ShloMosaic Idealize.ShloMosaic.TcCoe Idealize.SL.Sem Idealize.ShloMosaic.StableHlo

/-! The projection out of the mLSTM mixer. -/
namespace Cert.MOutIdeal.Proj
open Cert.MOutIdeal Cert.MOutIdeal.Gen Cert.MOutIdeal.Value Dense

/-- A block of the result, from the blocks the body reads. -/
theorem block (x0 : Vec Ideal S256x2048 .bf16) (x1 : Vec Ideal S2048x1024 .bf16) (x2 : Vec Ideal S1x1024 .f32)
    (x3 : Vec Ideal S256x1024 .f32) (x4 : Vec Ideal S8x1024 .f32) (r : Fin 256) (j : Fin 1024) :
    (out0_5 x0 x1 x2 x3 x4 (ix2 r j) : EReal)
      = res (x3 (ix2 r j)) (x4 (ix2 2 j)) ((lin (fun k => x0 (ix2 r k)) (fun k => x1 (ix2 k j)) + x2 (ix2 0 j))) := by
  frame_out
  open_payloads
  pointwise
  rfl

variable (m : (ℓ : Loc nD τ sig) → Buf (Elt Ideal) ℓ) (c : Dev nD)

theorem idx_eq : ∀ t : Fin cfg0.N, (win0_0.index t = ![t.val, 0] ∧ win0_1.index t = ![0, 0] ∧ win0_2.index t = ![0, 0])
    ∧ win0_3.index t = ![t.val, 0] ∧ win0_4.index t = ![0, 0] ∧ win0_5.index t = ![t.val, 0] :=
  (by decide +kernel : ∀ t : Fin grid0.N, _)

theorem lt64 (t : Fin cfg0.N) : t.val < 64 := lt_of_lt_of_eq t.isLt (show cfg0.N = 64 from N_0)

theorem blk_y (t : Fin cfg0.N) (s : Fin 256) (x : Fin 2048) :
    iblk m c 0 t (ix2 s x) = m ((c : Thread nD τ).loc main_arg0) (ix2 ⟨256 * t.val + s, by have := lt64 t; omega⟩ x) := by
  blk_ext [iblk, V, idx_eq t]

theorem blk_w (t : Fin cfg0.N) (x : Fin 2048) (j : Fin 1024) :
    (iblk m c 1 t (ix2 x j) : EReal) = m ((c : Thread nD τ).loc main_arg1) (ix2 x j) := by
  have e2 : iblk m c 1 t (ix2 x j) = V m c main_v0 (ix2 x j) := by
    blk_ext [iblk, idx_eq t]
  exact e2

theorem blk_b (t : Fin cfg0.N) (j : Fin 1024) : @Eq EReal (iblk m c 2 t (ix2 0 j)) 0 := by
  have e : V m c main_v2 = shapeCast S1x1024 (broadcastInDim S1024 ![] bcast_S_S1024 (constant (F := Ideal) S_ .f32 0x00000000#32)) shapeCasts_S1024_S1x1024 := rfl
  have e2 : iblk m c 2 t (ix2 0 j) = V m c main_v2 (ix2 0 j) := by
    blk_ext [iblk, idx_eq t]
  rw [e2, e]
  pointwise

theorem blk_h (t : Fin cfg0.N) (s : Fin 256) (x : Fin 1024) :
    iblk m c 3 t (ix2 s x) = m ((c : Thread nD τ).loc main_arg2) (ix2 ⟨256 * t.val + s, by have := lt64 t; omega⟩ x) := by
  blk_ext [iblk, V, idx_eq t]

theorem blk_mod (t : Fin cfg0.N) (s : Fin 8) (x : Fin 1024) :
    iblk m c 4 t (ix2 s x) = m ((c : Thread nD τ).loc main_arg3) (ix2 s x) := by
  blk_ext [iblk, V, idx_eq t]

/-- The result at row `n`, column `j`. -/
def val (n : Fin 16384) (j : Fin 1024) : EReal :=
  res (m ((c : Thread nD τ).loc main_arg2) (ix2 n j)) (m ((c : Thread nD τ).loc main_arg3) (ix2 2 j))
    (lin (fun k => m ((c : Thread nD τ).loc main_arg0) (ix2 n k)) (fun k => m ((c : Thread nD τ).loc main_arg1) (ix2 k j)))

/-- The result as an array. -/
def G : Buf (Elt Ideal) ((c : Thread nD τ).loc main_v3) := fun i => val m c (i 0) (i 1)

theorem final : (dats m 0 c).arrAt 5 cfg0.N = G m c := by
  refine (dats m 0 c).arrAt_eq_of_covers 5 _ (by decide +kernel) fun t hf y => ?_
  obtain ⟨r, j, rfl⟩ : ∃ (r : Fin 256) (j : Fin 1024), y = ix2 r j := ⟨y 0, y 1, ValueIdx.eq_ix2 y⟩
  blk_simp
  rw [after0_5]
  refine (block _ _ _ _ _ r j).trans ?_
  simp only [blk_y, blk_w, blk_b, blk_h, blk_mod]
  have e : ((cfg0.win 5).blk t).view.emb (ix2 r j) = ix2 (⟨256 * t.val + r, by have := lt64 t; omega⟩ : Fin 16384) j := by
    blk_ext [idx_eq t]
  show _ = G m c (((cfg0.win 5).blk t).view.emb (ix2 r j))
  rw [e, add_zero]
  rfl

end Cert.MOutIdeal.Proj

namespace Cert.ReferenceMOutIdeal.Proj

theorem frame : Cert.quiescent_ReferenceMOutIdeal := fun m ρ _ =>
  (θ_run Cert.ReferenceMOutIdeal.defs _ _).mono
    (fun r h => ⟨fun c => (h c).2, Idealize.ShloMosaic.sem_eq_zero_of_no_sems (by decide) r.2⟩)
    (Cert.ReferenceMOutIdeal.Value.run (F := Ideal) m ρ)

theorem algebraic : Cert.algebraic_MOutIdeal_ReferenceMOutIdeal := by
  intro m ρ m' ρ' hp hargs
  refine ⟨MOutIdeal.Proj.G m,
    (θ_run _ _ _).mono (fun r hr c => ⟨(hr c).1.trans (MOutIdeal.Proj.final m c), (hr c).2⟩) (Cert.MOutIdeal.Value.run_blocks m ρ),
    (θ_run _ _ _).mono (fun r hr c => ?_) (Cert.ReferenceMOutIdeal.Value.run (F := Ideal) m' ρ')⟩
  obtain ⟨a0, a1, a2, a3⟩ := hargs c
  refine ⟨(hr c).1.trans ?_, (hr c).2⟩
  rw [a0, a1, a2, a3]
  funext i
  obtain ⟨n, j, rfl⟩ : ∃ (n : Fin 16384) (j : Fin 1024), i = ix2 n j := ⟨i 0, i 1, ValueIdx.eq_ix2 i⟩
  refine Eq.trans (b := MOutIdeal.Proj.val m c n j) ?_ rfl
  unfold MOutIdeal.Proj.val Dense.res Dense.lin
  simp only [id_eq]
  clean_types
  pointwise
end Cert.ReferenceMOutIdeal.Proj
end
-- ==== Proof.HOut.lean ====
module

public import proofs.«01_k».proof.Proof.Gen.HOutIdeal.Value
public import proofs.«01_k».proof.Proof.Gen.ReferenceHOutIdeal.Run
public import proofs.«01_k».proof.Defs
public import proofs.«01_k».proof.Proof.Dense
public import Idealize.ShloMosaic.Lib.Tactic.CleanTypes

@[expose] public section
set_option maxRecDepth 16384
noncomputable section
open Idealize.ShloMosaic Idealize.ShloMosaic.TcCoe Idealize.SL.Sem Idealize.ShloMosaic.StableHlo

/-! The projection out of the hyena mixer. -/
namespace Cert.HOutIdeal.Proj
open Cert.HOutIdeal Cert.HOutIdeal.Gen Cert.HOutIdeal.Value Dense

/-- A block of the result, from the blocks the body reads. -/
theorem block (x0 : Vec Ideal S8x256x128 .f32) (x1 : Vec Ideal S1024x1024 .bf16) (x2 : Vec Ideal S1x1024 .f32)
    (x3 : Vec Ideal S256x1024 .f32) (x4 : Vec Ideal S8x1024 .f32) (r : Fin 256) (j : Fin 1024) :
    (out0_5 x0 x1 x2 x3 x4 (ix2 r j) : EReal)
      = res (x3 (ix2 r j)) (x4 (ix2 2 j)) ((lin (fun k => x0 (ix3 ⟨k / 128, by omega⟩ r ⟨k % 128, by omega⟩)) (fun k => x1 (ix2 k j)) + x2 (ix2 0 j))) := by
  frame_out
  open_payloads
  pointwise
  rfl

variable (m : (ℓ : Loc nD τ sig) → Buf (Elt Ideal) ℓ) (c : Dev nD)

theorem idx_eq : ∀ t : Fin cfg0.N, (win0_0.index t = ![0, t.val, 0] ∧ win0_1.index t = ![0, 0] ∧ win0_2.index t = ![0, 0])
    ∧ win0_3.index t = ![t.val, 0] ∧ win0_4.index t = ![0, 0] ∧ win0_5.index t = ![t.val, 0] :=
  (by decide +kernel : ∀ t : Fin grid0.N, _)

theorem lt64 (t : Fin cfg0.N) : t.val < 64 := lt_of_lt_of_eq t.isLt (show cfg0.N = 64 from N_0)

theorem blk_y (t : Fin cfg0.N) (g : Fin 8) (s : Fin 256) (x : Fin 128) :
    iblk m c 0 t (ix3 g s x) = m ((c : Thread nD τ).loc main_arg0) (ix3 g ⟨256 * t.val + s, by have := lt64 t; omega⟩ x) := by
  blk_ext [iblk, V, idx_eq t]

theorem blk_w (t : Fin cfg0.N) (x : Fin 1024) (j : Fin 1024) :
    (iblk m c 1 t (ix2 x j) : EReal) = m ((c : Thread nD τ).loc main_arg1) (ix2 x j) := by
  have e2 : iblk m c 1 t (ix2 x j) = V m c main_v0 (ix2 x j) := by
    blk_ext [iblk, idx_eq t]
  exact e2

theorem blk_b (t : Fin cfg0.N) (j : Fin 1024) : (iblk m c 2 t (ix2 0 j) : EReal) = m ((c : Thread nD τ).loc main_arg2) (ix1 j) := by
  have e : V m c main_v1 = shapeCast S1x1024 (m ((c : Thread nD τ).loc main_arg2)) shapeCasts_S1024_S1x1024 := rfl
  have e2 : iblk m c 2 t (ix2 0 j) = V m c main_v1 (ix2 0 j) := by
    blk_ext [iblk, idx_eq t]
  rw [e2, e]
  pointwise

theorem blk_h (t : Fin cfg0.N) (s : Fin 256) (x : Fin 1024) :
    iblk m c 3 t (ix2 s x) = m ((c : Thread nD τ).loc main_arg3) (ix2 ⟨256 * t.val + s, by have := lt64 t; omega⟩ x) := by
  blk_ext [iblk, V, idx_eq t]

theorem blk_mod (t : Fin cfg0.N) (s : Fin 8) (x : Fin 1024) :
    iblk m c 4 t (ix2 s x) = m ((c : Thread nD τ).loc main_arg4) (ix2 s x) := by
  blk_ext [iblk, V, idx_eq t]

/-- The result at row `n`, column `j`. -/
def val (n : Fin 16384) (j : Fin 1024) : EReal :=
  res (m ((c : Thread nD τ).loc main_arg3) (ix2 n j)) (m ((c : Thread nD τ).loc main_arg4) (ix2 2 j))
    (lin (fun k => m ((c : Thread nD τ).loc main_arg0) (ix3 ⟨k / 128, by omega⟩ n ⟨k % 128, by omega⟩)) (fun k => m ((c : Thread nD τ).loc main_arg1) (ix2 k j)) + m ((c : Thread nD τ).loc main_arg2) (ix1 j))

/-- The result as an array. -/
def G : Buf (Elt Ideal) ((c : Thread nD τ).loc main_v2) := fun i => val m c (i 0) (i 1)

theorem final : (dats m 0 c).arrAt 5 cfg0.N = G m c := by
  refine (dats m 0 c).arrAt_eq_of_covers 5 _ (by decide +kernel) fun t hf y => ?_
  obtain ⟨r, j, rfl⟩ : ∃ (r : Fin 256) (j : Fin 1024), y = ix2 r j := ⟨y 0, y 1, ValueIdx.eq_ix2 y⟩
  blk_simp
  rw [after0_5]
  refine (block _ _ _ _ _ r j).trans ?_
  simp only [blk_y, blk_w, blk_b, blk_h, blk_mod]
  have e : ((cfg0.win 5).blk t).view.emb (ix2 r j) = ix2 (⟨256 * t.val + r, by have := lt64 t; omega⟩ : Fin 16384) j := by
    blk_ext [idx_eq t]
  show _ = G m c (((cfg0.win 5).blk t).view.emb (ix2 r j))
  rw [e]
  rfl

end Cert.HOutIdeal.Proj

namespace Cert.ReferenceHOutIdeal.Proj

theorem frame : Cert.quiescent_ReferenceHOutIdeal := fun m ρ _ =>
  (θ_run Cert.ReferenceHOutIdeal.defs _ _).mono
    (fun r h => ⟨fun c => (h c).2, Idealize.ShloMosaic.sem_eq_zero_of_no_sems (by decide) r.2⟩)
    (Cert.ReferenceHOutIdeal.Value.run (F := Ideal) m ρ)

theorem algebraic : Cert.algebraic_HOutIdeal_ReferenceHOutIdeal := by
  intro m ρ m' ρ' hp hargs
  refine ⟨HOutIdeal.Proj.G m,
    (θ_run _ _ _).mono (fun r hr c => ⟨(hr c).1.trans (HOutIdeal.Proj.final m c), (hr c).2⟩) (Cert.HOutIdeal.Value.run_blocks m ρ),
    (θ_run _ _ _).mono (fun r hr c => ?_) (Cert.ReferenceHOutIdeal.Value.run (F := Ideal) m' ρ')⟩
  obtain ⟨a0, a1, a2, a3, a4⟩ := hargs c
  refine ⟨(hr c).1.trans ?_, (hr c).2⟩
  rw [a0, a1, a2, a3, a4]
  funext i
  obtain ⟨n, j, rfl⟩ : ∃ (n : Fin 16384) (j : Fin 1024), i = ix2 n j := ⟨i 0, i 1, ValueIdx.eq_ix2 i⟩
  refine Eq.trans (b := HOutIdeal.Proj.val m c n j) ?_ rfl
  unfold HOutIdeal.Proj.val Dense.res Dense.lin
  simp only [id_eq]
  clean_types
  pointwise
end Cert.ReferenceHOutIdeal.Proj
end
-- ==== Proof.Columns.lean ====
module
public import proofs.«01_k».proof.Proof.Dense
public import Idealize.ShloMosaic.Lib.Pipeline.Frame

@[expose] public section
noncomputable section
open Idealize.ShloMosaic

/-! Tokens read by columns: eight columns and 128 lanes a block, the lanes of a token from eight blocks. -/
namespace Dense

/-- Column `q` of a block, read with stride 8 from the block's rows. -/
theorem strided {sig : RefSig} {κ : Kind} {sp : Space} {Val : EltTy → Type} {e : EltTy}
    {m : Memref sig κ sp ⟨3, ![128, 8, 128]⟩ e} (h : m.IsWhole) (X : (⟨3, ![128, 8, 128]⟩ : Shape).Idx → Val e) (pf)
    (q : ℕ) (hq : q < 8) (inb) (r l : Fin 128) :
    View.readAt Val (m.view.reshape ⟨2, ![1024, 128]⟩ pf) ⟨![q, 0], ![128, 128], ![8, 1], inb⟩ (h.unread X) (ix2 r l)
      = X (ix3 r ⟨q, hq⟩ l) := by
  refine Eq.trans ?_ (congrFun (h.read_unread X) _)
  rw [View.readAt_apply]
  show m.view.read Val (h.unread X) (Shape.reshapeEquiv pf _) = _
  congr 1
  refine Shape.reshapeEquiv_eq_of_rowMajor pf ?_
  rw [Shape.rowMajor_val_three, Shape.rowMajor_val_two]
  show (r.val * 8 + q) * 128 + l.val = (q + 8 * r.val) * 128 + (0 + 1 * l.val)
  omega

/-- Column `q` of a block. -/
def colOf {Val : EltTy → Type} {e : EltTy} (X : (⟨3, ![128, 8, 128]⟩ : Shape).Idx → Val e) (q : Fin 8) :
    (⟨2, ![128, 128]⟩ : Shape).Idx → Val e := fun i => X (ix3 (i 0) q (i 1))

theorem col_lt {q : ℕ} (inb : ∀ a : Fin 2, ![128, 128] a = 0 ∨ ![q, 0] a + ![8, 1] a * (![128, 128] a - 1) < ![1024, 128] a) : q < 8 := by
  have := inb 0
  simp at this
  omega

theorem strided_eq {sig : RefSig} {κ : Kind} {sp : Space} {Val : EltTy → Type} {e : EltTy}
    {m : Memref sig κ sp ⟨3, ![128, 8, 128]⟩ e} (h : m.IsWhole) (X : (⟨3, ![128, 8, 128]⟩ : Shape).Idx → Val e) (pf)
    (q : ℕ) (inb) :
    View.readAt Val (m.view.reshape ⟨2, ![1024, 128]⟩ pf) ⟨![q, 0], ![128, 128], ![8, 1], inb⟩ (h.unread X)
      = colOf X ⟨q, col_lt inb⟩ := by
  funext i
  obtain ⟨r, l, rfl⟩ : ∃ (r l : Fin 128), i = ix2 r l := ⟨i 0, i 1, ValueIdx.eq_ix2 i⟩
  exact strided h X pf q (col_lt inb) inb r l

/-- Eight groups of 128 lanes side by side. -/
def cat (a0 a1 a2 a3 a4 a5 a6 a7 : Fin 128 → EReal) (k : Fin 1024) : EReal :=
  if h : k.val < 128 then a0 ⟨k.val, h⟩ else
  if h : k.val - 128 < 128 then a1 ⟨k.val - 128, h⟩ else
  if h : k.val - 128 - 128 < 128 then a2 ⟨k.val - 128 - 128, h⟩ else
  if h : k.val - 128 - 128 - 128 < 128 then a3 ⟨k.val - 128 - 128 - 128, h⟩ else
  if h : k.val - 128 - 128 - 128 - 128 < 128 then a4 ⟨k.val - 128 - 128 - 128 - 128, h⟩ else
  if h : k.val - 128 - 128 - 128 - 128 - 128 < 128 then a5 ⟨k.val - 128 - 128 - 128 - 128 - 128, h⟩ else
  if h : k.val - 128 - 128 - 128 - 128 - 128 - 128 < 128 then a6 ⟨k.val - 128 - 128 - 128 - 128 - 128 - 128, h⟩ else
  a7 ⟨k.val - 128 - 128 - 128 - 128 - 128 - 128 - 128, by omega⟩

theorem cat_eq (f : Fin 1024 → EReal) :
    cat (fun l => f ⟨l, by omega⟩) (fun l => f ⟨128 + l, by omega⟩) (fun l => f ⟨256 + l, by omega⟩) (fun l => f ⟨384 + l, by omega⟩)
      (fun l => f ⟨512 + l, by omega⟩) (fun l => f ⟨640 + l, by omega⟩) (fun l => f ⟨768 + l, by omega⟩)
      (fun l => f ⟨896 + l, by omega⟩) = f := by
  funext k
  unfold cat
  split_ifs <;> exact congrArg f (Fin.ext (by dsimp only <;> omega))

end Dense
end
-- ==== Proof.MInColBlock.lean ====
module

public import proofs.«01_k».proof.Proof.Gen.MInColIdeal.Value
public import proofs.«01_k».proof.Proof.Columns

@[expose] public section
set_option maxRecDepth 16384
noncomputable section
open Idealize.ShloMosaic Idealize.ShloMosaic.TcCoe Idealize.SL.Sem Idealize.ShloMosaic.StableHlo
namespace Cert.MInColIdeal.Proj
open Cert.MInColIdeal Cert.MInColIdeal.Gen Cert.MInColIdeal.Value Dense
variable (m : (ℓ : Loc nD τ sig) → Buf (Elt Ideal) ℓ) (c : Dev nD)

/-- Token `(r, q)` of the blocks read at point `t`. -/
abbrev tok (t : Fin cfg0.N) (q : Fin 8) (r : Fin 128) : Fin 1024 → EReal :=
  cat (fun l => iblk m c 0 t (ix3 r q l)) (fun l => iblk m c 1 t (ix3 r q l)) (fun l => iblk m c 2 t (ix3 r q l))
    (fun l => iblk m c 3 t (ix3 r q l)) (fun l => iblk m c 4 t (ix3 r q l)) (fun l => iblk m c 5 t (ix3 r q l))
    (fun l => iblk m c 6 t (ix3 r q l)) (fun l => iblk m c 7 t (ix3 r q l))

set_option maxHeartbeats 8000000 in
theorem block (t : Fin cfg0.N) (q : Fin 8) (r : Fin 128) (j : Fin 4096) :
    (outsAt0 m c t (ix3 q r j) : EReal) =
      lin (nrm (tok m c t q r) (fun k => iblk m c 8 t (ix2 0 k)) (fun k => iblk m c 9 t (ix2 1 k)) (fun k => iblk m c 9 t (ix2 0 k)))
          (fun k => iblk m c 10 t (ix2 k j)) + iblk m c 11 t (ix2 0 j) := by
  generalize hy : (ix3 q r j : S8x128x4096.Idx) = y
  have hy0 : q.val = (y 0).val := by rw [← hy]; rfl
  have hy1 : r.val = (y 1).val := by rw [← hy]; rfl
  have hy2 : j.val = (y 2).val := by rw [← hy]; rfl
  unfold outsAt0
  frame_out
  canon_tiles x hh
  all_goals
    obtain ⟨a, r', j', rfl⟩ : ∃ (a : Fin 1) (r' : Fin 128) (j' : Fin 1024), x = ix3 a r' j' := ⟨x 0, x 1, x 2, ValueIdx.eq_ix3 x⟩
    obtain rfl : a = 0 := Subsingleton.elim a 0
    change _ = r'.val at hh1
    obtain rfl : r = r' := Fin.ext (by omega)
    obtain ⟨j, hj⟩ := j
    obtain ⟨q, hq⟩ := q
    have e := hy2.trans hh2
    dsimp only at e
    subst e
    have e := hy0.trans hh0
    dsimp only at e
    subst e
    open_payloads
    iterate 8 rw [strided_eq]
    pointwise
    rfl
end Cert.MInColIdeal.Proj
end
-- ==== Proof.Grid.lean ====
module
public import proofs.«01_k».proof.Proof.Columns

@[expose] public section
noncomputable section
open Idealize.ShloMosaic

/-! The tokens as a grid of rows and columns. -/
namespace Dense

/-- The tokens as a grid of 256 rows and 64 columns. -/
theorem grid (X : Vec Ideal ⟨2, ![16384, 1024]⟩ .f32) (h) (r : Fin 256) (q : Fin 64) (k : Fin 1024) :
    shapeCast ⟨3, ![256, 64, 1024]⟩ X h (ix3 r q k) = X (ix2 ⟨r.val * 64 + q, by omega⟩ k) := by
  refine congrArg X (Shape.reshapeEquiv_eq_of_rowMajor _ ?_)
  rw [Shape.rowMajor_val_three, Shape.rowMajor_val_two]
  rfl

theorem cat_of {a0 a1 a2 a3 a4 a5 a6 a7 : Fin 128 → EReal} (f : Fin 1024 → EReal)
    (h0 : ∀ l : Fin 128, a0 l = f ⟨l, by omega⟩) (h1 : ∀ l : Fin 128, a1 l = f ⟨128 + l, by omega⟩)
    (h2 : ∀ l : Fin 128, a2 l = f ⟨256 + l, by omega⟩) (h3 : ∀ l : Fin 128, a3 l = f ⟨384 + l, by omega⟩)
    (h4 : ∀ l : Fin 128, a4 l = f ⟨512 + l, by omega⟩) (h5 : ∀ l : Fin 128, a5 l = f ⟨640 + l, by omega⟩)
    (h6 : ∀ l : Fin 128, a6 l = f ⟨768 + l, by omega⟩) (h7 : ∀ l : Fin 128, a7 l = f ⟨896 + l, by omega⟩) :
    cat a0 a1 a2 a3 a4 a5 a6 a7 = f := by
  obtain rfl := funext h0
  obtain rfl := funext h1
  obtain rfl := funext h2
  obtain rfl := funext h3
  obtain rfl := funext h4
  obtain rfl := funext h5
  obtain rfl := funext h6
  obtain rfl := funext h7
  exact cat_eq f

end Dense
end
-- ==== Proof.MInCol.lean ====
module

public import proofs.«01_k».proof.Proof.Gen.MInColIdeal.Value
public import proofs.«01_k».proof.Proof.Gen.ReferenceMInColIdeal.Run
public import proofs.«01_k».proof.Defs
public import proofs.«01_k».proof.Proof.MInColBlock
public import proofs.«01_k».proof.Proof.Grid
public import Idealize.ShloMosaic.Lib.Tactic.CleanTypes

@[expose] public section
set_option maxRecDepth 16384
noncomputable section
open Idealize.ShloMosaic Idealize.ShloMosaic.TcCoe Idealize.SL.Sem Idealize.ShloMosaic.StableHlo

/-! The projection into the mLSTM mixer, tokens read by columns. -/
namespace Cert.MInColIdeal.Proj
open Cert.MInColIdeal Cert.MInColIdeal.Gen Cert.MInColIdeal.Value Dense
variable (m : (ℓ : Loc nD τ sig) → Buf (Elt Ideal) ℓ) (c : Dev nD)

/-- The block indices at a point: the windows of the tokens, those of the operands, the result's. -/
theorem idx_x : ∀ t : Fin cfg0.N, (((win0_0.index t = ![t.val % 2, t.val / 2, 0] ∧ win0_1.index t = ![t.val % 2, t.val / 2, 1])
    ∧ win0_2.index t = ![t.val % 2, t.val / 2, 2] ∧ win0_3.index t = ![t.val % 2, t.val / 2, 3])
    ∧ win0_4.index t = ![t.val % 2, t.val / 2, 4] ∧ win0_5.index t = ![t.val % 2, t.val / 2, 5])
    ∧ win0_6.index t = ![t.val % 2, t.val / 2, 6] ∧ win0_7.index t = ![t.val % 2, t.val / 2, 7] :=
  (by decide +kernel : ∀ t : Fin grid0.N, _)

theorem idx_eq : ∀ t : Fin cfg0.N, (win0_8.index t = ![0, 0] ∧ win0_9.index t = ![0, 0] ∧ win0_10.index t = ![0, 0])
    ∧ win0_11.index t = ![0, 0] ∧ win0_12.index t = ![t.val / 2, t.val % 2, 0] :=
  (by decide +kernel : ∀ t : Fin grid0.N, _)

theorem lt16 (t : Fin cfg0.N) : t.val < 16 := lt_of_lt_of_eq t.isLt (show cfg0.N = 16 from N_0)

/-- The tokens as rows and columns. -/
theorem grid_x (r : Fin 256) (q : Fin 64) (k : Fin 1024) :
    V m c main_v4 (ix3 r q k) = m ((c : Thread nD τ).loc main_arg0) (ix2 ⟨r.val * 64 + q, by omega⟩ k) := by
  exact grid (m ((c : Thread nD τ).loc main_arg0)) shapeCasts_S16384x1024_S256x64x1024 r q k

theorem tok_eq (t : Fin cfg0.N) (q : Fin 8) (r : Fin 128) : tok m c t q r = fun k =>
    m ((c : Thread nD τ).loc main_arg0) (ix2 ⟨(128 * (t.val % 2) + r) * 64 + (8 * (t.val / 2) + q), by have := lt16 t; omega⟩ k) := by
  have h := lt16 t
  refine Eq.trans (cat_of (fun k => V m c main_v4 (ix3 ⟨128 * (t.val % 2) + r, by omega⟩ ⟨8 * (t.val / 2) + q, by omega⟩ k))
    ?_ ?_ ?_ ?_ ?_ ?_ ?_ ?_) (funext fun k => grid_x m c _ _ k)
  all_goals
    intro l
    blk_ext [iblk, idx_x t]

theorem blk_g (t : Fin cfg0.N) (x : Fin 1024) :
    (iblk m c 8 t (ix2 0 x) : EReal) = m ((c : Thread nD τ).loc main_arg1) (ix1 x) := by
  have e : V m c main_v2 = shapeCast S1x1024 (m ((c : Thread nD τ).loc main_arg1)) shapeCasts_S1024_S1x1024 := rfl
  have e2 : iblk m c 8 t (ix2 0 x) = V m c main_v2 (ix2 0 x) := by
    blk_ext [iblk, idx_eq t]
  rw [e2, e]
  pointwise

theorem blk_mod (t : Fin cfg0.N) (s : Fin 8) (x : Fin 1024) :
    iblk m c 9 t (ix2 s x) = m ((c : Thread nD τ).loc main_arg2) (ix2 s x) := by
  blk_ext [iblk, V, idx_eq t]

theorem blk_w (t : Fin cfg0.N) (x : Fin 1024) (j : Fin 4096) :
    (iblk m c 10 t (ix2 x j) : EReal) = m ((c : Thread nD τ).loc main_arg3) (ix2 x j) := by
  have e2 : iblk m c 10 t (ix2 x j) = V m c main_v0 (ix2 x j) := by
    blk_ext [iblk, idx_eq t]
  exact e2

theorem blk_b (t : Fin cfg0.N) (j : Fin 4096) : @Eq EReal (iblk m c 11 t (ix2 0 j)) 0 := by
  have e : V m c main_v3 = shapeCast S1x4096 (broadcastInDim S4096 ![] bcast_S_S4096 (constant (F := Ideal) S_ .f32 0x00000000#32)) shapeCasts_S4096_S1x4096 := rfl
  have e2 : iblk m c 11 t (ix2 0 j) = V m c main_v3 (ix2 0 j) := by
    blk_ext [iblk, idx_eq t]
  rw [e2, e]
  pointwise

/-- The result at token `n`, channel `j`. -/
def val (n : Fin 16384) (j : Fin 4096) : EReal :=
  lin (nrm (fun k => m ((c : Thread nD τ).loc main_arg0) (ix2 n k)) (fun k => m ((c : Thread nD τ).loc main_arg1) (ix1 k))
      (fun k => m ((c : Thread nD τ).loc main_arg2) (ix2 1 k)) (fun k => m ((c : Thread nD τ).loc main_arg2) (ix2 0 k)))
    (fun k => m ((c : Thread nD τ).loc main_arg3) (ix2 k j))

/-- The result as an array: column, row, channel. -/
def G : Buf (Elt Ideal) ((c : Thread nD τ).loc main_v5) := fun i =>
  val m c ⟨(i 1).val * 64 + (i 0).val, by
    have h0 : (i 0).val < 64 := (i 0).isLt
    have h1 : (i 1).val < 256 := (i 1).isLt
    omega⟩ (i 2)

theorem final : (dats m 0 c).arrAt 12 cfg0.N = G m c := by
  refine (dats m 0 c).arrAt_eq_of_covers 12 _ (by decide +kernel) fun t hf y => ?_
  obtain ⟨q, r, j, rfl⟩ : ∃ (q : Fin 8) (r : Fin 128) (j : Fin 4096), y = ix3 q r j := ⟨y 0, y 1, y 2, ValueIdx.eq_ix3 y⟩
  have h := lt16 t
  blk_simp
  rw [after0_12]
  refine (block m c t q r j).trans ?_
  simp only [tok_eq, blk_g, blk_mod, blk_w, blk_b]
  have e : ((cfg0.win 12).blk t).view.emb (ix3 q r j)
      = ix3 (⟨8 * (t.val / 2) + q, by omega⟩ : Fin 64) (⟨128 * (t.val % 2) + r, by omega⟩ : Fin 256) j := by
    blk_ext [idx_eq t]
  show _ = G m c (((cfg0.win 12).blk t).view.emb (ix3 q r j))
  rw [e, add_zero]
  rfl

end Cert.MInColIdeal.Proj

namespace Cert.ReferenceMInColIdeal.Proj

theorem frame : Cert.quiescent_ReferenceMInColIdeal := fun m ρ _ =>
  (θ_run Cert.ReferenceMInColIdeal.defs _ _).mono
    (fun r h => ⟨fun c => (h c).2, Idealize.ShloMosaic.sem_eq_zero_of_no_sems (by decide) r.2⟩)
    (Cert.ReferenceMInColIdeal.Value.run (F := Ideal) m ρ)

theorem algebraic : Cert.algebraic_MInColIdeal_ReferenceMInColIdeal := by
  intro m ρ m' ρ' hp hargs
  refine ⟨MInColIdeal.Proj.G m,
    (θ_run _ _ _).mono (fun r hr c => ⟨(hr c).1.trans (MInColIdeal.Proj.final m c), (hr c).2⟩) (Cert.MInColIdeal.Value.run_blocks m ρ),
    (θ_run _ _ _).mono (fun r hr c => ?_) (Cert.ReferenceMInColIdeal.Value.run (F := Ideal) m' ρ')⟩
  obtain ⟨a0, a1, a2, a3⟩ := hargs c
  refine ⟨(hr c).1.trans ?_, (hr c).2⟩
  rw [a0, a1, a2, a3]
  funext i
  obtain ⟨q, r, j, rfl⟩ : ∃ (q : Fin 64) (r : Fin 256) (j : Fin 4096), i = ix3 q r j := ⟨i 0, i 1, i 2, ValueIdx.eq_ix3 i⟩
  refine Eq.trans (b := MInColIdeal.Proj.val m c ⟨r.val * 64 + q, by omega⟩ j) ?_ rfl
  unfold MInColIdeal.Proj.val Dense.lin Dense.nrm
  simp only [id_eq]
  clean_types
  pointwise
end Cert.ReferenceMInColIdeal.Proj
end
-- ==== Proof.HInColBlock.lean ====
module

public import proofs.«01_k».proof.Proof.Gen.HInColIdeal.Value
public import proofs.«01_k».proof.Proof.Columns

@[expose] public section
set_option maxRecDepth 16384
noncomputable section
open Idealize.ShloMosaic Idealize.ShloMosaic.TcCoe Idealize.SL.Sem Idealize.ShloMosaic.StableHlo
namespace Cert.HInColIdeal.Proj
open Cert.HInColIdeal Cert.HInColIdeal.Gen Cert.HInColIdeal.Value Dense
variable (m : (ℓ : Loc nD τ sig) → Buf (Elt Ideal) ℓ) (c : Dev nD)

/-- Token `(r, q)` of the blocks read at point `t`. -/
abbrev tok (t : Fin cfg0.N) (q : Fin 8) (r : Fin 128) : Fin 1024 → EReal :=
  cat (fun l => iblk m c 0 t (ix3 r q l)) (fun l => iblk m c 1 t (ix3 r q l)) (fun l => iblk m c 2 t (ix3 r q l))
    (fun l => iblk m c 3 t (ix3 r q l)) (fun l => iblk m c 4 t (ix3 r q l)) (fun l => iblk m c 5 t (ix3 r q l))
    (fun l => iblk m c 6 t (ix3 r q l)) (fun l => iblk m c 7 t (ix3 r q l))

set_option maxHeartbeats 8000000 in
theorem block (t : Fin cfg0.N) (q : Fin 8) (r : Fin 128) (j : Fin 3072) :
    (outsAt0 m c t (ix3 q r j) : EReal) =
      lin (nrm (tok m c t q r) (fun k => iblk m c 8 t (ix2 0 k)) (fun k => iblk m c 9 t (ix2 1 k)) (fun k => iblk m c 9 t (ix2 0 k)))
          (fun k => iblk m c 10 t (ix2 k j)) + iblk m c 11 t (ix2 0 j) := by
  generalize hy : (ix3 q r j : S8x128x3072.Idx) = y
  have hy0 : q.val = (y 0).val := by rw [← hy]; rfl
  have hy1 : r.val = (y 1).val := by rw [← hy]; rfl
  have hy2 : j.val = (y 2).val := by rw [← hy]; rfl
  unfold outsAt0
  frame_out
  canon_tiles x hh
  all_goals
    obtain ⟨a, r', j', rfl⟩ : ∃ (a : Fin 1) (r' : Fin 128) (j' : Fin 1024), x = ix3 a r' j' := ⟨x 0, x 1, x 2, ValueIdx.eq_ix3 x⟩
    obtain rfl : a = 0 := Subsingleton.elim a 0
    change _ = r'.val at hh1
    obtain rfl : r = r' := Fin.ext (by omega)
    obtain ⟨j, hj⟩ := j
    obtain ⟨q, hq⟩ := q
    have e := hy2.trans hh2
    dsimp only at e
    subst e
    have e := hy0.trans hh0
    dsimp only at e
    subst e
    open_payloads
    iterate 8 rw [strided_eq]
    pointwise
    rfl
end Cert.HInColIdeal.Proj
end
-- ==== Proof.HInCol.lean ====
module

public import proofs.«01_k».proof.Proof.Gen.HInColIdeal.Value
public import proofs.«01_k».proof.Proof.Gen.ReferenceHInColIdeal.Run
public import proofs.«01_k».proof.Defs
public import proofs.«01_k».proof.Proof.HInColBlock
public import proofs.«01_k».proof.Proof.Grid
public import Idealize.ShloMosaic.Lib.Tactic.CleanTypes

@[expose] public section
set_option maxRecDepth 16384
noncomputable section
open Idealize.ShloMosaic Idealize.ShloMosaic.TcCoe Idealize.SL.Sem Idealize.ShloMosaic.StableHlo

/-! The projection into the hyena mixer, tokens read by columns. -/
namespace Cert.HInColIdeal.Proj
open Cert.HInColIdeal Cert.HInColIdeal.Gen Cert.HInColIdeal.Value Dense
variable (m : (ℓ : Loc nD τ sig) → Buf (Elt Ideal) ℓ) (c : Dev nD)

/-- The block indices at a point: the windows of the tokens, those of the operands, the result's. -/
theorem idx_x : ∀ t : Fin cfg0.N, (((win0_0.index t = ![t.val % 2, t.val / 2, 0] ∧ win0_1.index t = ![t.val % 2, t.val / 2, 1])
    ∧ win0_2.index t = ![t.val % 2, t.val / 2, 2] ∧ win0_3.index t = ![t.val % 2, t.val / 2, 3])
    ∧ win0_4.index t = ![t.val % 2, t.val / 2, 4] ∧ win0_5.index t = ![t.val % 2, t.val / 2, 5])
    ∧ win0_6.index t = ![t.val % 2, t.val / 2, 6] ∧ win0_7.index t = ![t.val % 2, t.val / 2, 7] :=
  (by decide +kernel : ∀ t : Fin grid0.N, _)

theorem idx_eq : ∀ t : Fin cfg0.N, (win0_8.index t = ![0, 0] ∧ win0_9.index t = ![0, 0] ∧ win0_10.index t = ![0, 0])
    ∧ win0_11.index t = ![0, 0] ∧ win0_12.index t = ![t.val / 2, t.val % 2, 0] :=
  (by decide +kernel : ∀ t : Fin grid0.N, _)

theorem lt16 (t : Fin cfg0.N) : t.val < 16 := lt_of_lt_of_eq t.isLt (show cfg0.N = 16 from N_0)

/-- The tokens as rows and columns. -/
theorem grid_x (r : Fin 256) (q : Fin 64) (k : Fin 1024) :
    V m c main_v3 (ix3 r q k) = m ((c : Thread nD τ).loc main_arg0) (ix2 ⟨r.val * 64 + q, by omega⟩ k) := by
  exact grid (m ((c : Thread nD τ).loc main_arg0)) shapeCasts_S16384x1024_S256x64x1024 r q k

theorem tok_eq (t : Fin cfg0.N) (q : Fin 8) (r : Fin 128) : tok m c t q r = fun k =>
    m ((c : Thread nD τ).loc main_arg0) (ix2 ⟨(128 * (t.val % 2) + r) * 64 + (8 * (t.val / 2) + q), by have := lt16 t; omega⟩ k) := by
  have h := lt16 t
  refine Eq.trans (cat_of (fun k => V m c main_v3 (ix3 ⟨128 * (t.val % 2) + r, by omega⟩ ⟨8 * (t.val / 2) + q, by omega⟩ k))
    ?_ ?_ ?_ ?_ ?_ ?_ ?_ ?_) (funext fun k => grid_x m c _ _ k)
  all_goals
    intro l
    blk_ext [iblk, idx_x t]

theorem blk_g (t : Fin cfg0.N) (x : Fin 1024) :
    (iblk m c 8 t (ix2 0 x) : EReal) = m ((c : Thread nD τ).loc main_arg1) (ix1 x) := by
  have e : V m c main_v1 = shapeCast S1x1024 (m ((c : Thread nD τ).loc main_arg1)) shapeCasts_S1024_S1x1024 := rfl
  have e2 : iblk m c 8 t (ix2 0 x) = V m c main_v1 (ix2 0 x) := by
    blk_ext [iblk, idx_eq t]
  rw [e2, e]
  pointwise

theorem blk_mod (t : Fin cfg0.N) (s : Fin 8) (x : Fin 1024) :
    iblk m c 9 t (ix2 s x) = m ((c : Thread nD τ).loc main_arg2) (ix2 s x) := by
  blk_ext [iblk, V, idx_eq t]

theorem blk_w (t : Fin cfg0.N) (x : Fin 1024) (j : Fin 3072) :
    (iblk m c 10 t (ix2 x j) : EReal) = m ((c : Thread nD τ).loc main_arg3) (ix2 x j) := by
  have e2 : iblk m c 10 t (ix2 x j) = V m c main_v0 (ix2 x j) := by
    blk_ext [iblk, idx_eq t]
  exact e2

theorem blk_b (t : Fin cfg0.N) (j : Fin 3072) : (iblk m c 11 t (ix2 0 j) : EReal) = m ((c : Thread nD τ).loc main_arg4) (ix1 j) := by
  have e : V m c main_v2 = shapeCast S1x3072 (m ((c : Thread nD τ).loc main_arg4)) shapeCasts_S3072_S1x3072 := rfl
  have e2 : iblk m c 11 t (ix2 0 j) = V m c main_v2 (ix2 0 j) := by
    blk_ext [iblk, idx_eq t]
  rw [e2, e]
  pointwise

/-- The result at token `n`, channel `j`. -/
def val (n : Fin 16384) (j : Fin 3072) : EReal :=
  lin (nrm (fun k => m ((c : Thread nD τ).loc main_arg0) (ix2 n k)) (fun k => m ((c : Thread nD τ).loc main_arg1) (ix1 k))
      (fun k => m ((c : Thread nD τ).loc main_arg2) (ix2 1 k)) (fun k => m ((c : Thread nD τ).loc main_arg2) (ix2 0 k)))
    (fun k => m ((c : Thread nD τ).loc main_arg3) (ix2 k j))
    + m ((c : Thread nD τ).loc main_arg4) (ix1 j)

/-- The result as an array: column, row, channel. -/
def G : Buf (Elt Ideal) ((c : Thread nD τ).loc main_v4) := fun i =>
  val m c ⟨(i 1).val * 64 + (i 0).val, by
    have h0 : (i 0).val < 64 := (i 0).isLt
    have h1 : (i 1).val < 256 := (i 1).isLt
    omega⟩ (i 2)

theorem final : (dats m 0 c).arrAt 12 cfg0.N = G m c := by
  refine (dats m 0 c).arrAt_eq_of_covers 12 _ (by decide +kernel) fun t hf y => ?_
  obtain ⟨q, r, j, rfl⟩ : ∃ (q : Fin 8) (r : Fin 128) (j : Fin 3072), y = ix3 q r j := ⟨y 0, y 1, y 2, ValueIdx.eq_ix3 y⟩
  have h := lt16 t
  blk_simp
  rw [after0_12]
  refine (block m c t q r j).trans ?_
  simp only [tok_eq, blk_g, blk_mod, blk_w, blk_b]
  have e : ((cfg0.win 12).blk t).view.emb (ix3 q r j)
      = ix3 (⟨8 * (t.val / 2) + q, by omega⟩ : Fin 64) (⟨128 * (t.val % 2) + r, by omega⟩ : Fin 256) j := by
    blk_ext [idx_eq t]
  show _ = G m c (((cfg0.win 12).blk t).view.emb (ix3 q r j))
  rw [e]
  rfl

end Cert.HInColIdeal.Proj

namespace Cert.ReferenceHInColIdeal.Proj

theorem frame : Cert.quiescent_ReferenceHInColIdeal := fun m ρ _ =>
  (θ_run Cert.ReferenceHInColIdeal.defs _ _).mono
    (fun r h => ⟨fun c => (h c).2, Idealize.ShloMosaic.sem_eq_zero_of_no_sems (by decide) r.2⟩)
    (Cert.ReferenceHInColIdeal.Value.run (F := Ideal) m ρ)

theorem algebraic : Cert.algebraic_HInColIdeal_ReferenceHInColIdeal := by
  intro m ρ m' ρ' hp hargs
  refine ⟨HInColIdeal.Proj.G m,
    (θ_run _ _ _).mono (fun r hr c => ⟨(hr c).1.trans (HInColIdeal.Proj.final m c), (hr c).2⟩) (Cert.HInColIdeal.Value.run_blocks m ρ),
    (θ_run _ _ _).mono (fun r hr c => ?_) (Cert.ReferenceHInColIdeal.Value.run (F := Ideal) m' ρ')⟩
  obtain ⟨a0, a1, a2, a3, a4⟩ := hargs c
  refine ⟨(hr c).1.trans ?_, (hr c).2⟩
  rw [a0, a1, a2, a3, a4]
  funext i
  obtain ⟨q, r, j, rfl⟩ : ∃ (q : Fin 64) (r : Fin 256) (j : Fin 3072), i = ix3 q r j := ⟨i 0, i 1, i 2, ValueIdx.eq_ix3 i⟩
  refine Eq.trans (b := HInColIdeal.Proj.val m c ⟨r.val * 64 + q, by omega⟩ j) ?_ rfl
  unfold HInColIdeal.Proj.val Dense.lin Dense.nrm
  simp only [id_eq]
  clean_types
  pointwise
end Cert.ReferenceHInColIdeal.Proj
end
-- ==== Proof.MOutColBlock.lean ====
module

public import proofs.«01_k».proof.Proof.Gen.MOutColIdeal.Value
public import proofs.«01_k».proof.Proof.Columns

@[expose] public section
set_option maxRecDepth 16384
noncomputable section
open Idealize.ShloMosaic Idealize.ShloMosaic.TcCoe Idealize.SL.Sem Idealize.ShloMosaic.StableHlo
namespace Cert.MOutColIdeal.Proj
open Cert.MOutColIdeal Cert.MOutColIdeal.Gen Cert.MOutColIdeal.Value Dense
variable (m : (ℓ : Loc nD τ sig) → Buf (Elt Ideal) ℓ) (c : Dev nD)

/-- Token `(r, q)` of the residual's blocks at point `t`. -/
abbrev tok (t : Fin cfg0.N) (q : Fin 8) (r : Fin 128) : Fin 1024 → EReal :=
  cat (fun l => iblk m c 3 t (ix3 r q l)) (fun l => iblk m c 4 t (ix3 r q l)) (fun l => iblk m c 5 t (ix3 r q l))
    (fun l => iblk m c 6 t (ix3 r q l)) (fun l => iblk m c 7 t (ix3 r q l)) (fun l => iblk m c 8 t (ix3 r q l))
    (fun l => iblk m c 9 t (ix3 r q l)) (fun l => iblk m c 10 t (ix3 r q l))

set_option maxHeartbeats 8000000 in
theorem block (t : Fin cfg0.N) (q : Fin 8) (r : Fin 128) (j : Fin 1024) :
    (outsAt0 m c t (ix3 r q j) : EReal) =
      res (tok m c t q r j) (iblk m c 11 t (ix2 2 j))
        (lin (fun k => iblk m c 0 t (ix3 q r k)) (fun k => iblk m c 1 t (ix2 k j)) + iblk m c 2 t (ix2 0 j)) := by
  generalize hy : (ix3 r q j : S128x8x1024.Idx) = y
  have hy0 : r.val = (y 0).val := by rw [← hy]; rfl
  have hy1 : q.val = (y 1).val := by rw [← hy]; rfl
  have hy2 : j.val = (y 2).val := by rw [← hy]; rfl
  unfold outsAt0
  frame_out
  canon_tiles x hh
  all_goals
    obtain ⟨r', a, j', rfl⟩ : ∃ (r' : Fin 128) (a : Fin 1) (j' : Fin 1024), x = ix3 r' a j' := ⟨x 0, x 1, x 2, ValueIdx.eq_ix3 x⟩
    obtain rfl : a = 0 := Subsingleton.elim a 0
    change _ = r'.val at hh0
    change _ = j'.val at hh2
    obtain rfl : r = r' := Fin.ext (by omega)
    obtain rfl : j = j' := Fin.ext (by omega)
    obtain ⟨q, hq⟩ := q
    have e := hy1.trans hh1
    dsimp only at e
    subst e
    open_payloads
    iterate 8 rw [strided_eq]
    pointwise
    rfl
end Cert.MOutColIdeal.Proj
end
-- ==== Proof.GridOut.lean ====
module
public import proofs.«01_k».proof.Proof.Grid

@[expose] public section
noncomputable section
open Idealize.ShloMosaic

/-! The mixer's answers, stored column after column. -/
namespace Dense

/-- Rows stored column after column. -/
theorem cols (X : Vec Ideal ⟨2, ![16384, 2048]⟩ .bf16) (h) (q : Fin 64) (r : Fin 256) (k : Fin 2048) :
    shapeCast ⟨3, ![64, 256, 2048]⟩ X h (ix3 q r k) = X (ix2 ⟨q.val * 256 + r, by omega⟩ k) := by
  refine congrArg X (Shape.reshapeEquiv_eq_of_rowMajor _ ?_)
  rw [Shape.rowMajor_val_three, Shape.rowMajor_val_two]
  rfl

/-- The same for groups of 128 channels. -/
theorem colsGroups (X : Vec Ideal ⟨3, ![8, 16384, 128]⟩ .f32) (h) (g : Fin 8) (q : Fin 64) (r : Fin 256) (l : Fin 128) :
    shapeCast ⟨4, ![8, 64, 256, 128]⟩ X h (ix4 g q r l) = X (ix3 g ⟨q.val * 256 + r, by omega⟩ l) := by
  refine congrArg X (Shape.reshapeEquiv_eq_of_rowMajor _ ?_)
  rw [Shape.rowMajor_val_four, Shape.rowMajor_val_three]
  show (g.val * 16384 + (q.val * 256 + r.val)) * 128 + l.val = ((g.val * 64 + q.val) * 256 + r.val) * 128 + l.val
  omega

end Dense
-- ==== Proof.MOutCol.lean ====
module

public import proofs.«01_k».proof.Proof.Gen.ReferenceMOutColIdeal.Run
public import proofs.«01_k».proof.Defs
public import proofs.«01_k».proof.Proof.MOutColBlock
public import proofs.«01_k».proof.Proof.GridOut
public import Idealize.ShloMosaic.Lib.Tactic.CleanTypes

@[expose] public section
set_option maxRecDepth 16384
noncomputable section
open Idealize.ShloMosaic Idealize.ShloMosaic.TcCoe Idealize.SL.Sem Idealize.ShloMosaic.StableHlo

/-! The projection out of the mLSTM mixer, tokens read by columns. -/
namespace Cert.MOutColIdeal.Proj
open Cert.MOutColIdeal Cert.MOutColIdeal.Gen Cert.MOutColIdeal.Value Dense
variable (m : (ℓ : Loc nD τ sig) → Buf (Elt Ideal) ℓ) (c : Dev nD)

/-- The block indices at a point: the windows of the residual, those of the operands, the result's. -/
theorem idx_h : ∀ t : Fin cfg0.N, (((win0_3.index t = ![t.val % 2, t.val / 2, 0] ∧ win0_4.index t = ![t.val % 2, t.val / 2, 1])
    ∧ win0_5.index t = ![t.val % 2, t.val / 2, 2] ∧ win0_6.index t = ![t.val % 2, t.val / 2, 3])
    ∧ win0_7.index t = ![t.val % 2, t.val / 2, 4] ∧ win0_8.index t = ![t.val % 2, t.val / 2, 5])
    ∧ win0_9.index t = ![t.val % 2, t.val / 2, 6] ∧ win0_10.index t = ![t.val % 2, t.val / 2, 7] :=
  (by decide +kernel : ∀ t : Fin grid0.N, _)

theorem idx_eq : ∀ t : Fin cfg0.N, (win0_0.index t = ![t.val / 2, t.val % 2, 0] ∧ win0_1.index t = ![0, 0] ∧ win0_2.index t = ![0, 0])
    ∧ win0_11.index t = ![0, 0] ∧ win0_12.index t = ![t.val % 2, t.val / 2, 0] :=
  (by decide +kernel : ∀ t : Fin grid0.N, _)

theorem lt16 (t : Fin cfg0.N) : t.val < 16 := lt_of_lt_of_eq t.isLt (show cfg0.N = 16 from N_0)

theorem tok_eq (t : Fin cfg0.N) (q : Fin 8) (r : Fin 128) : tok m c t q r = fun k =>
    m ((c : Thread nD τ).loc main_arg2) (ix2 ⟨(128 * (t.val % 2) + r) * 64 + (8 * (t.val / 2) + q), by have := lt16 t; omega⟩ k) := by
  have h := lt16 t
  refine Eq.trans (cat_of (fun k => V m c main_v4 (ix3 ⟨128 * (t.val % 2) + r, by omega⟩ ⟨8 * (t.val / 2) + q, by omega⟩ k))
    ?_ ?_ ?_ ?_ ?_ ?_ ?_ ?_)
    (funext fun k => grid (m ((c : Thread nD τ).loc main_arg2)) shapeCasts_S16384x1024_S256x64x1024 _ _ k)
  all_goals
    intro l
    blk_ext [iblk, idx_h t]

theorem blk_y (t : Fin cfg0.N) (q : Fin 8) (r : Fin 128) (k : Fin 2048) :
    iblk m c 0 t (ix3 q r k) = m ((c : Thread nD τ).loc main_arg0)
      (ix2 ⟨(8 * (t.val / 2) + q) * 256 + (128 * (t.val % 2) + r), by have := lt16 t; omega⟩ k) := by
  have h := lt16 t
  have e2 : iblk m c 0 t (ix3 q r k) = V m c main_v2 (ix3 ⟨8 * (t.val / 2) + q, by omega⟩ ⟨128 * (t.val % 2) + r, by omega⟩ k) := by
    blk_ext [iblk, idx_eq t]
  rw [e2]
  exact cols (m ((c : Thread nD τ).loc main_arg0)) shapeCasts_S16384x2048_S64x256x2048 _ _ k

theorem blk_w (t : Fin cfg0.N) (x : Fin 2048) (j : Fin 1024) :
    (iblk m c 1 t (ix2 x j) : EReal) = m ((c : Thread nD τ).loc main_arg1) (ix2 x j) := by
  have e2 : iblk m c 1 t (ix2 x j) = V m c main_v0 (ix2 x j) := by
    blk_ext [iblk, idx_eq t]
  exact e2

theorem blk_b (t : Fin cfg0.N) (j : Fin 1024) : @Eq EReal (iblk m c 2 t (ix2 0 j)) 0 := by
  have e : V m c main_v3 = shapeCast S1x1024 (broadcastInDim S1024 ![] bcast_S_S1024 (constant (F := Ideal) S_ .f32 0x00000000#32)) shapeCasts_S1024_S1x1024 := rfl
  have e2 : iblk m c 2 t (ix2 0 j) = V m c main_v3 (ix2 0 j) := by
    blk_ext [iblk, idx_eq t]
  rw [e2, e]
  pointwise

theorem blk_mod (t : Fin cfg0.N) (s : Fin 8) (x : Fin 1024) :
    iblk m c 11 t (ix2 s x) = m ((c : Thread nD τ).loc main_arg3) (ix2 s x) := by
  blk_ext [iblk, V, idx_eq t]

/-- The result at token `n` of the grid, which the mixer stores as row `p`, channel `j`. -/
def val (n p : Fin 16384) (j : Fin 1024) : EReal :=
  res (m ((c : Thread nD τ).loc main_arg2) (ix2 n j)) (m ((c : Thread nD τ).loc main_arg3) (ix2 2 j))
    (lin (fun k => m ((c : Thread nD τ).loc main_arg0) (ix2 p k)) (fun k => m ((c : Thread nD τ).loc main_arg1) (ix2 k j)))

/-- The result as an array: row, column, channel. -/
def G : Buf (Elt Ideal) ((c : Thread nD τ).loc main_v5) := fun i =>
  have h0 : (i 0).val < 256 := (i 0).isLt
  have h1 : (i 1).val < 64 := (i 1).isLt
  val m c ⟨(i 0).val * 64 + (i 1).val, by omega⟩ ⟨(i 1).val * 256 + (i 0).val, by omega⟩ (i 2)

theorem final : (dats m 0 c).arrAt 12 cfg0.N = G m c := by
  refine (dats m 0 c).arrAt_eq_of_covers 12 _ (by decide +kernel) fun t hf y => ?_
  obtain ⟨r, q, j, rfl⟩ : ∃ (r : Fin 128) (q : Fin 8) (j : Fin 1024), y = ix3 r q j := ⟨y 0, y 1, y 2, ValueIdx.eq_ix3 y⟩
  have h := lt16 t
  blk_simp
  rw [after0_12]
  refine (block m c t q r j).trans ?_
  simp only [tok_eq, blk_y, blk_w, blk_b, blk_mod]
  have e : ((cfg0.win 12).blk t).view.emb (ix3 r q j)
      = ix3 (⟨128 * (t.val % 2) + r, by omega⟩ : Fin 256) (⟨8 * (t.val / 2) + q, by omega⟩ : Fin 64) j := by
    blk_ext [idx_eq t]
  show _ = G m c (((cfg0.win 12).blk t).view.emb (ix3 r q j))
  rw [e, add_zero]
  rfl

end Cert.MOutColIdeal.Proj

namespace Cert.ReferenceMOutColIdeal.Proj

theorem frame : Cert.quiescent_ReferenceMOutColIdeal := fun m ρ _ =>
  (θ_run Cert.ReferenceMOutColIdeal.defs _ _).mono
    (fun r h => ⟨fun c => (h c).2, Idealize.ShloMosaic.sem_eq_zero_of_no_sems (by decide) r.2⟩)
    (Cert.ReferenceMOutColIdeal.Value.run (F := Ideal) m ρ)

theorem algebraic : Cert.algebraic_MOutColIdeal_ReferenceMOutColIdeal := by
  intro m ρ m' ρ' hp hargs
  refine ⟨MOutColIdeal.Proj.G m,
    (θ_run _ _ _).mono (fun r hr c => ⟨(hr c).1.trans (MOutColIdeal.Proj.final m c), (hr c).2⟩) (Cert.MOutColIdeal.Value.run_blocks m ρ),
    (θ_run _ _ _).mono (fun r hr c => ?_) (Cert.ReferenceMOutColIdeal.Value.run (F := Ideal) m' ρ')⟩
  obtain ⟨a0, a1, a2, a3⟩ := hargs c
  refine ⟨(hr c).1.trans ?_, (hr c).2⟩
  rw [a0, a1, a2, a3]
  funext i
  obtain ⟨r, q, j, rfl⟩ : ∃ (r : Fin 256) (q : Fin 64) (j : Fin 1024), i = ix3 r q j := ⟨i 0, i 1, i 2, ValueIdx.eq_ix3 i⟩
  refine Eq.trans (b := MOutColIdeal.Proj.val m c ⟨r.val * 64 + q, by omega⟩ ⟨q.val * 256 + r, by omega⟩ j) ?_ rfl
  unfold MOutColIdeal.Proj.val Dense.res Dense.lin
  simp only [id_eq]
  clean_types
  pointwise
end Cert.ReferenceMOutColIdeal.Proj
end
-- ==== Proof.HOutColBlock.lean ====
module

public import proofs.«01_k».proof.Proof.Gen.HOutColIdeal.Value
public import proofs.«01_k».proof.Proof.Grid

@[expose] public section
set_option maxRecDepth 16384
noncomputable section
open Idealize.ShloMosaic Idealize.ShloMosaic.TcCoe Idealize.SL.Sem Idealize.ShloMosaic.StableHlo
namespace Cert.HOutColIdeal.Proj
open Cert.HOutColIdeal Cert.HOutColIdeal.Gen Cert.HOutColIdeal.Value Dense
variable (m : (ℓ : Loc nD τ sig) → Buf (Elt Ideal) ℓ) (c : Dev nD)

theorem group_lt {q : ℕ} (i0 : ∀ a, (![0, q, 0, 0] : Fin 4 → Nat) a + S1x1x128x128.size a ≤ S8x8x128x128.size a) : q < 8 := by
  have h := i0 1
  change q + 1 ≤ 8 at h
  omega

/-- Row `q` of the eight groups, side by side. -/
def groupsOf (v : Vec Ideal S8x8x128x128 .f32) (q : Fin 8) : FVec Ideal S128x1024 .f32 :=
  fun x => v (ix4 ⟨(x 1).val / 128, by have : (x 1).val < 1024 := (x 1).isLt; omega⟩ q (x 0) ⟨(x 1).val % 128, by omega⟩)

theorem side_eq (a0 a1 a2 a3 a4 a5 a6 a7 : FVec Ideal S128x128 .f32) (r : Fin 128) (k : Fin 1024) :
    @Eq EReal (concatenate S128x1024 1 [⟨S128x128, a0⟩, ⟨S128x128, a1⟩, ⟨S128x128, a2⟩, ⟨S128x128, a3⟩, ⟨S128x128, a4⟩, ⟨S128x128, a5⟩,
      ⟨S128x128, a6⟩, ⟨S128x128, a7⟩]
      concatenates_S128x128_S128x128_S128x128_S128x128_S128x128_S128x128_S128x128_S128x128_S128x1024_d1 (ix2 r k))
      (cat (fun l => a0 (ix2 r l)) (fun l => a1 (ix2 r l)) (fun l => a2 (ix2 r l)) (fun l => a3 (ix2 r l))
        (fun l => a4 (ix2 r l)) (fun l => a5 (ix2 r l)) (fun l => a6 (ix2 r l)) (fun l => a7 (ix2 r l)) k) := by
  unfold cat
  pointwise

theorem cast_eq4 (y : FVec Ideal S1x1x128x128 .f32) (r l : Fin 128) :
    @Eq EReal (shapeCast S128x128 y shapeCasts_S1x1x128x128_S128x128 (ix2 r l)) (y (ix4 0 0 r l)) := by
  pointwise

theorem ld_eq (v : Vec Ideal S8x8x128x128 .f32) (s : ℕ) (q : ℕ) (hs : s < 8) (hq : q < 8) (inb) (r l : Fin 128) :
    @Eq EReal (View.ld v (Rect.unit ![s, q, 0, 0] ![1, 1, 128, 128] inb) (ix4 0 0 r l))
      (v (ix4 ⟨s, hs⟩ ⟨q, hq⟩ r l)) := by
  refine congrArg v (funext fun a => Fin.ext ?_)
  fin_cases a
  · change s + 1 * 0 = s
    omega
  · change q + 1 * 0 = q
    omega
  · change 0 + 1 * r.val = r.val
    omega
  · change 0 + 1 * l.val = l.val
    omega
theorem groups_eq (v : Vec Ideal S8x8x128x128 .f32) (q : ℕ) (i0 i1 i2 i3 i4 i5 i6 i7) :
    concatenate S128x1024 1
      [⟨S128x128, shapeCast S128x128 (View.ld v (Rect.unit ![0, q, 0, 0] ![1, 1, 128, 128] i0)) shapeCasts_S1x1x128x128_S128x128⟩,
        ⟨S128x128, shapeCast S128x128 (View.ld v (Rect.unit ![1, q, 0, 0] ![1, 1, 128, 128] i1)) shapeCasts_S1x1x128x128_S128x128⟩,
        ⟨S128x128, shapeCast S128x128 (View.ld v (Rect.unit ![2, q, 0, 0] ![1, 1, 128, 128] i2)) shapeCasts_S1x1x128x128_S128x128⟩,
        ⟨S128x128, shapeCast S128x128 (View.ld v (Rect.unit ![3, q, 0, 0] ![1, 1, 128, 128] i3)) shapeCasts_S1x1x128x128_S128x128⟩,
        ⟨S128x128, shapeCast S128x128 (View.ld v (Rect.unit ![4, q, 0, 0] ![1, 1, 128, 128] i4)) shapeCasts_S1x1x128x128_S128x128⟩,
        ⟨S128x128, shapeCast S128x128 (View.ld v (Rect.unit ![5, q, 0, 0] ![1, 1, 128, 128] i5)) shapeCasts_S1x1x128x128_S128x128⟩,
        ⟨S128x128, shapeCast S128x128 (View.ld v (Rect.unit ![6, q, 0, 0] ![1, 1, 128, 128] i6)) shapeCasts_S1x1x128x128_S128x128⟩,
        ⟨S128x128, shapeCast S128x128 (View.ld v (Rect.unit ![7, q, 0, 0] ![1, 1, 128, 128] i7)) shapeCasts_S1x1x128x128_S128x128⟩]
      concatenates_S128x128_S128x128_S128x128_S128x128_S128x128_S128x128_S128x128_S128x128_S128x1024_d1
      = groupsOf v ⟨q, group_lt i0⟩ := by
  funext x
  obtain ⟨r, k, rfl⟩ : ∃ (r : Fin 128) (k : Fin 1024), x = ix2 r k := ⟨x 0, x 1, ValueIdx.eq_ix2 x⟩
  refine (side_eq _ _ _ _ _ _ _ _ r k).trans ?_
  obtain ⟨f, hf⟩ : ∃ f : Fin 1024 → EReal, f = fun k : Fin 1024 => (v (ix4 ⟨k / 128, by omega⟩ ⟨q, group_lt i0⟩ r ⟨k % 128, by omega⟩) : EReal) := ⟨_, rfl⟩
  have e : ∀ (s : ℕ) (hs : s < 8) (inb) (l : Fin 128),
      @Eq EReal (shapeCast S128x128 (View.ld v (Rect.unit ![s, q, 0, 0] ![1, 1, 128, 128] inb)) shapeCasts_S1x1x128x128_S128x128 (ix2 r l))
        (f ⟨128 * s + l, by omega⟩) := fun s hs inb l => by
    refine (cast_eq4 _ r l).trans ((ld_eq v s q hs (group_lt i0) inb r l).trans ?_)
    rw [hf]
    refine congrArg₂ (fun a b => (v (ix4 a ⟨q, group_lt i0⟩ r b) : EReal)) (Fin.ext ?_) (Fin.ext ?_) <;> dsimp only <;> omega
  have e0 : ∀ l : Fin 128, f ⟨128 * 0 + l, by omega⟩ = f ⟨l, by omega⟩ := fun l => congrArg f (Fin.ext (by dsimp only; omega))
  exact (congrFun (cat_of f (fun l => (e 0 (by omega) i0 l).trans (e0 l)) (e 1 (by omega) i1) (e 2 (by omega) i2) (e 3 (by omega) i3)
    (e 4 (by omega) i4) (e 5 (by omega) i5) (e 6 (by omega) i6) (e 7 (by omega) i7)) k).trans (congrFun hf k)

/-- Token `(r, q)` of the residual's blocks at point `t`. -/
abbrev tok (t : Fin cfg0.N) (q : Fin 8) (r : Fin 128) : Fin 1024 → EReal :=
  cat (fun l => iblk m c 3 t (ix3 r q l)) (fun l => iblk m c 4 t (ix3 r q l)) (fun l => iblk m c 5 t (ix3 r q l))
    (fun l => iblk m c 6 t (ix3 r q l)) (fun l => iblk m c 7 t (ix3 r q l)) (fun l => iblk m c 8 t (ix3 r q l))
    (fun l => iblk m c 9 t (ix3 r q l)) (fun l => iblk m c 10 t (ix3 r q l))

set_option maxHeartbeats 8000000 in
theorem block (t : Fin cfg0.N) (q : Fin 8) (r : Fin 128) (j : Fin 1024) :
    (outsAt0 m c t (ix3 r q j) : EReal) =
      res (tok m c t q r j) (iblk m c 11 t (ix2 2 j))
        (lin (fun k => iblk m c 0 t (ix4 ⟨k / 128, by omega⟩ q r ⟨k % 128, by omega⟩)) (fun k => iblk m c 1 t (ix2 k j)) + iblk m c 2 t (ix2 0 j)) := by
  generalize hy : (ix3 r q j : S128x8x1024.Idx) = y
  have hy0 : r.val = (y 0).val := by rw [← hy]; rfl
  have hy1 : q.val = (y 1).val := by rw [← hy]; rfl
  have hy2 : j.val = (y 2).val := by rw [← hy]; rfl
  unfold outsAt0
  frame_out
  canon_tiles x hh
  all_goals
    obtain ⟨r', a, j', rfl⟩ : ∃ (r' : Fin 128) (a : Fin 1) (j' : Fin 1024), x = ix3 r' a j' := ⟨x 0, x 1, x 2, ValueIdx.eq_ix3 x⟩
    obtain rfl : a = 0 := Subsingleton.elim a 0
    change _ = r'.val at hh0
    change _ = j'.val at hh2
    obtain rfl : r = r' := Fin.ext (by omega)
    obtain rfl : j = j' := Fin.ext (by omega)
    obtain ⟨q, hq⟩ := q
    have e := hy1.trans hh1
    dsimp only at e
    subst e
    open_payloads
    iterate 8 rw [strided_eq]
    rw [groups_eq]
    pointwise
    rfl
end Cert.HOutColIdeal.Proj
end
-- ==== Proof.HOutCol.lean ====
module

public import proofs.«01_k».proof.Proof.Gen.ReferenceHOutColIdeal.Run
public import proofs.«01_k».proof.Defs
public import proofs.«01_k».proof.Proof.HOutColBlock
public import proofs.«01_k».proof.Proof.GridOut
public import Idealize.ShloMosaic.Lib.Tactic.CleanTypes

@[expose] public section
set_option maxRecDepth 16384
noncomputable section
open Idealize.ShloMosaic Idealize.ShloMosaic.TcCoe Idealize.SL.Sem Idealize.ShloMosaic.StableHlo

/-! The projection out of the hyena mixer, tokens read by columns. -/
namespace Cert.HOutColIdeal.Proj
open Cert.HOutColIdeal Cert.HOutColIdeal.Gen Cert.HOutColIdeal.Value Dense
variable (m : (ℓ : Loc nD τ sig) → Buf (Elt Ideal) ℓ) (c : Dev nD)

/-- The block indices at a point: the windows of the residual, those of the operands, the result's. -/
theorem idx_h : ∀ t : Fin cfg0.N, (((win0_3.index t = ![t.val % 2, t.val / 2, 0] ∧ win0_4.index t = ![t.val % 2, t.val / 2, 1])
    ∧ win0_5.index t = ![t.val % 2, t.val / 2, 2] ∧ win0_6.index t = ![t.val % 2, t.val / 2, 3])
    ∧ win0_7.index t = ![t.val % 2, t.val / 2, 4] ∧ win0_8.index t = ![t.val % 2, t.val / 2, 5])
    ∧ win0_9.index t = ![t.val % 2, t.val / 2, 6] ∧ win0_10.index t = ![t.val % 2, t.val / 2, 7] :=
  (by decide +kernel : ∀ t : Fin grid0.N, _)

theorem idx_eq : ∀ t : Fin cfg0.N, (win0_0.index t = ![0, t.val / 2, t.val % 2, 0] ∧ win0_1.index t = ![0, 0] ∧ win0_2.index t = ![0, 0])
    ∧ win0_11.index t = ![0, 0] ∧ win0_12.index t = ![t.val % 2, t.val / 2, 0] :=
  (by decide +kernel : ∀ t : Fin grid0.N, _)

theorem lt16 (t : Fin cfg0.N) : t.val < 16 := lt_of_lt_of_eq t.isLt (show cfg0.N = 16 from N_0)

theorem tok_eq (t : Fin cfg0.N) (q : Fin 8) (r : Fin 128) : tok m c t q r = fun k =>
    m ((c : Thread nD τ).loc main_arg3) (ix2 ⟨(128 * (t.val % 2) + r) * 64 + (8 * (t.val / 2) + q), by have := lt16 t; omega⟩ k) := by
  have h := lt16 t
  refine Eq.trans (cat_of (fun k => V m c main_v3 (ix3 ⟨128 * (t.val % 2) + r, by omega⟩ ⟨8 * (t.val / 2) + q, by omega⟩ k))
    ?_ ?_ ?_ ?_ ?_ ?_ ?_ ?_)
    (funext fun k => grid (m ((c : Thread nD τ).loc main_arg3)) shapeCasts_S16384x1024_S256x64x1024 _ _ k)
  all_goals
    intro l
    blk_ext [iblk, idx_h t]

theorem blk_y (t : Fin cfg0.N) (g : Fin 8) (q : Fin 8) (r : Fin 128) (l : Fin 128) :
    iblk m c 0 t (ix4 g q r l) = m ((c : Thread nD τ).loc main_arg0)
      (ix3 g ⟨(8 * (t.val / 2) + q) * 256 + (128 * (t.val % 2) + r), by have := lt16 t; omega⟩ l) := by
  have h := lt16 t
  have e2 : iblk m c 0 t (ix4 g q r l)
      = V m c main_v1 (ix4 g ⟨8 * (t.val / 2) + q, by omega⟩ ⟨128 * (t.val % 2) + r, by omega⟩ l) := by
    blk_ext [iblk, idx_eq t]
  rw [e2]
  exact colsGroups (m ((c : Thread nD τ).loc main_arg0)) shapeCasts_S8x16384x128_S8x64x256x128 g _ _ l

theorem blk_w (t : Fin cfg0.N) (x : Fin 1024) (j : Fin 1024) :
    (iblk m c 1 t (ix2 x j) : EReal) = m ((c : Thread nD τ).loc main_arg1) (ix2 x j) := by
  have e2 : iblk m c 1 t (ix2 x j) = V m c main_v0 (ix2 x j) := by
    blk_ext [iblk, idx_eq t]
  exact e2

theorem blk_b (t : Fin cfg0.N) (j : Fin 1024) : (iblk m c 2 t (ix2 0 j) : EReal) = m ((c : Thread nD τ).loc main_arg2) (ix1 j) := by
  have e : V m c main_v2 = shapeCast S1x1024 (m ((c : Thread nD τ).loc main_arg2)) shapeCasts_S1024_S1x1024 := rfl
  have e2 : iblk m c 2 t (ix2 0 j) = V m c main_v2 (ix2 0 j) := by
    blk_ext [iblk, idx_eq t]
  rw [e2, e]
  pointwise

theorem blk_mod (t : Fin cfg0.N) (s : Fin 8) (x : Fin 1024) :
    iblk m c 11 t (ix2 s x) = m ((c : Thread nD τ).loc main_arg4) (ix2 s x) := by
  blk_ext [iblk, V, idx_eq t]

/-- The result at token `n` of the grid, which the mixer stores as row `p`, channel `j`. -/
def val (n p : Fin 16384) (j : Fin 1024) : EReal :=
  res (m ((c : Thread nD τ).loc main_arg3) (ix2 n j)) (m ((c : Thread nD τ).loc main_arg4) (ix2 2 j))
    (lin (fun k => m ((c : Thread nD τ).loc main_arg0) (ix3 ⟨k / 128, by omega⟩ p ⟨k % 128, by omega⟩))
        (fun k => m ((c : Thread nD τ).loc main_arg1) (ix2 k j)) + m ((c : Thread nD τ).loc main_arg2) (ix1 j))

/-- The result as an array: row, column, channel. -/
def G : Buf (Elt Ideal) ((c : Thread nD τ).loc main_v4) := fun i =>
  have h0 : (i 0).val < 256 := (i 0).isLt
  have h1 : (i 1).val < 64 := (i 1).isLt
  val m c ⟨(i 0).val * 64 + (i 1).val, by omega⟩ ⟨(i 1).val * 256 + (i 0).val, by omega⟩ (i 2)

theorem final : (dats m 0 c).arrAt 12 cfg0.N = G m c := by
  refine (dats m 0 c).arrAt_eq_of_covers 12 _ (by decide +kernel) fun t hf y => ?_
  obtain ⟨r, q, j, rfl⟩ : ∃ (r : Fin 128) (q : Fin 8) (j : Fin 1024), y = ix3 r q j := ⟨y 0, y 1, y 2, ValueIdx.eq_ix3 y⟩
  have h := lt16 t
  blk_simp
  rw [after0_12]
  refine (block m c t q r j).trans ?_
  simp only [tok_eq, blk_y, blk_w, blk_b, blk_mod]
  have e : ((cfg0.win 12).blk t).view.emb (ix3 r q j)
      = ix3 (⟨128 * (t.val % 2) + r, by omega⟩ : Fin 256) (⟨8 * (t.val / 2) + q, by omega⟩ : Fin 64) j := by
    blk_ext [idx_eq t]
  show _ = G m c (((cfg0.win 12).blk t).view.emb (ix3 r q j))
  rw [e]
  rfl

end Cert.HOutColIdeal.Proj

namespace Cert.ReferenceHOutColIdeal.Proj

theorem frame : Cert.quiescent_ReferenceHOutColIdeal := fun m ρ _ =>
  (θ_run Cert.ReferenceHOutColIdeal.defs _ _).mono
    (fun r h => ⟨fun c => (h c).2, Idealize.ShloMosaic.sem_eq_zero_of_no_sems (by decide) r.2⟩)
    (Cert.ReferenceHOutColIdeal.Value.run (F := Ideal) m ρ)

theorem algebraic : Cert.algebraic_HOutColIdeal_ReferenceHOutColIdeal := by
  intro m ρ m' ρ' hp hargs
  refine ⟨HOutColIdeal.Proj.G m,
    (θ_run _ _ _).mono (fun r hr c => ⟨(hr c).1.trans (HOutColIdeal.Proj.final m c), (hr c).2⟩) (Cert.HOutColIdeal.Value.run_blocks m ρ),
    (θ_run _ _ _).mono (fun r hr c => ?_) (Cert.ReferenceHOutColIdeal.Value.run (F := Ideal) m' ρ')⟩
  obtain ⟨a0, a1, a2, a3, a4⟩ := hargs c
  refine ⟨(hr c).1.trans ?_, (hr c).2⟩
  rw [a0, a1, a2, a3, a4]
  funext i
  obtain ⟨r, q, j, rfl⟩ : ∃ (r : Fin 256) (q : Fin 64) (j : Fin 1024), i = ix3 r q j := ⟨i 0, i 1, i 2, ValueIdx.eq_ix3 i⟩
  refine Eq.trans (b := HOutColIdeal.Proj.val m c ⟨r.val * 64 + q, by omega⟩ ⟨q.val * 256 + r, by omega⟩ j) ?_ rfl
  unfold HOutColIdeal.Proj.val Dense.res Dense.lin
  simp only [id_eq]
  clean_types
  pointwise
end Cert.ReferenceHOutColIdeal.Proj
end
-- ==== Proof.MPreBlock.lean ====
module

public import proofs.«01_k».proof.Proof.Gen.MPreIdeal.Value
public import proofs.«01_k».proof.Proof.Dense

@[expose] public section
set_option maxRecDepth 16384
noncomputable section
open Idealize.ShloMosaic Idealize.ShloMosaic.TcCoe Idealize.SL.Sem Idealize.ShloMosaic.StableHlo

/-! Convolution, queries, keys, values and gates of the mLSTM: a block of each result. -/
namespace Dense

/-- Three taps and a bias. -/
def conv (p x n w0 w1 w2 b : EReal) : EReal := b + p * w0 + x * w1 + n * w2

/-- The gated activation. -/
def silu (y : EReal) : EReal := y * Ideal.div 1 (1 + Ideal.exp (0 - y))

/-- The logarithm of the logistic function. -/
def logsig (g : EReal) : EReal := min g 0 - Ideal.log (1 + Ideal.exp (0 - (g ⊔ -g)))

/-- A gate: the forget gates, channels 4 to 7 and 12 to 15, are logarithms. -/
def gate (j : ℕ) (g : EReal) : EReal := if (4 ≤ j ∧ j < 8) ∨ (12 ≤ j ∧ j < 16) then logsig g else g

end Dense

namespace Cert.MPreIdeal.Proj
open Cert.MPreIdeal Cert.MPreIdeal.Gen Cert.MPreIdeal.Value Dense

variable (i : grid0.Coords) (x0 : Vec Ideal S256x2048 .bf16) (x1 : Vec Ideal S16x2048 .bf16) (x2 : Vec Ideal S16x2048 .bf16)
    (x3 : Vec Ideal S3x2048 .f32) (x4 : Vec Ideal S1x2048 .f32) (x5 : Vec Ideal S4x512x256 .bf16) (x6 : Vec Ideal S4x512x256 .bf16)
    (x7 : Vec Ideal S4x512x512 .bf16) (x8 : Vec Ideal S4096x128 .bf16) (x9 : Vec Ideal S1x128 .f32)

/-- The activated convolution at row `r` of the block, channel `k`. -/
def act (r : Fin 256) (k : Fin 2048) : EReal :=
  silu (conv
    (Scalar.select (IntOp.cmpi CmpIPredicate.eq (BitVec.ofNat 32 r.val) 0#32)
      (Scalar.select (Scalar.cmpi CmpIPredicate.eq (BitVec.ofNat 32 (i 0).val) 0#32) 0 (x1 (ix2 15 k)))
      (x0 (ix2 ⟨(r.val + 256 - 1) % 256, by omega⟩ k)))
    (x0 (ix2 r k))
    (Scalar.select (IntOp.cmpi CmpIPredicate.eq (BitVec.ofNat 32 r.val) 255#32)
      (Scalar.select (Scalar.cmpi CmpIPredicate.eq (BitVec.ofNat 32 (i 0).val) 63#32) 0 (x2 (ix2 0 k)))
      (x0 (ix2 ⟨(r.val + 256 - 255) % 256, by omega⟩ k)))
    (x3 (ix2 0 k)) (x3 (ix2 1 k)) (x3 (ix2 2 k)) (x4 (ix2 0 k)))

theorem block10 (r : Fin 256) (j : Fin 2048) :
    (out0_10 i x0 x1 x2 x3 x4 x5 x6 x7 x8 x9 (ix2 r j) : EReal) = act i x0 x1 x2 x3 x4 r j := by
  frame_out
  open_payloads
  pointwise
  rfl

/-- The channels of the forget gates. -/
theorem forget_iff : ∀ j : Fin 128, IntOp.ori
        (IntOp.andi (IntOp.cmpi CmpIPredicate.sge (BitVec.ofNat 32 j.val) 4#32)
          (IntOp.cmpi CmpIPredicate.slt (BitVec.ofNat 32 j.val) 8#32))
        (IntOp.andi (IntOp.cmpi CmpIPredicate.sge (BitVec.ofNat 32 j.val) 12#32)
          (IntOp.cmpi CmpIPredicate.slt (BitVec.ofNat 32 j.val) 16#32))
      = if (4 ≤ j.val ∧ j.val < 8) ∨ (12 ≤ j.val ∧ j.val < 16) then 1#1 else 0#1 := by decide +kernel

theorem forget_eq (j : Fin 128) (a b : EReal) : Scalar.select (IntOp.ori
        (IntOp.andi (IntOp.cmpi CmpIPredicate.sge (BitVec.ofNat 32 j.val) 4#32)
          (IntOp.cmpi CmpIPredicate.slt (BitVec.ofNat 32 j.val) 8#32))
        (IntOp.andi (IntOp.cmpi CmpIPredicate.sge (BitVec.ofNat 32 j.val) 12#32)
          (IntOp.cmpi CmpIPredicate.slt (BitVec.ofNat 32 j.val) 16#32))) a b
      = if (4 ≤ j.val ∧ j.val < 8) ∨ (12 ≤ j.val ∧ j.val < 16) then a else b := by
  rw [forget_iff]
  split_ifs <;> rfl

/-- The gate at row `r`, channel `j`, before the forget gates' logarithm. -/
def pregate (r : Fin 256) (j : Fin 128) : EReal :=
  lin (act i x0 x1 x2 x3 x4 r) (fun k => x8 (ix2 ⟨k, by omega⟩ j)) + lin (fun k => x0 (ix2 r k)) (fun k => x8 (ix2 ⟨2048 + k, by omega⟩ j))
    + x9 (ix2 0 j)

theorem block14 (r : Fin 256) (j : Fin 128) :
    (out0_14 i x0 x1 x2 x3 x4 x5 x6 x7 x8 x9 (ix2 r j) : EReal)
      = gate j (pregate i x0 x1 x2 x3 x4 x8 x9 r j) := by
  frame_out
  open_payloads
  pointwise
  change Scalar.select _ (logsig (pregate i x0 x1 x2 x3 x4 x8 x9 r j)) (pregate i x0 x1 x2 x3 x4 x8 x9 r j) = _
  exact forget_eq j _ _

theorem block11 (r : Fin 256) (h : Fin 4) (d : Fin 256) :
    (out0_11 i x0 x1 x2 x3 x4 x5 x6 x7 x8 x9 (ix2 r ⟨256 * h + d, by omega⟩) : EReal)
      = lin (fun k : Fin 512 => act i x0 x1 x2 x3 x4 r ⟨512 * h + k, by omega⟩) (fun k => x5 (ix3 h k d)) := by
  generalize hy : (ix2 r ⟨256 * h + d, by omega⟩ : S256x1024.Idx) = y
  have hy0 : r.val = (y 0).val := by rw [← hy]; rfl
  have hy1 : 256 * h.val + d.val = (y 1).val := by rw [← hy]; rfl
  have hh := h.isLt
  frame_out
  canon_tiles x hh
  all_goals
    have b1 : (x 1).val < 256 := (x 1).isLt
    obtain rfl : r = x 0 := Fin.ext (by omega)
    obtain rfl : d = x 1 := Fin.ext (by omega)
    open_payloads; pointwise
  · obtain rfl : h = 3 := Fin.ext (by change h.val = 3; omega)
    rfl
  · obtain rfl : h = 2 := Fin.ext (by change h.val = 2; omega)
    rfl
  · obtain rfl : h = 1 := Fin.ext (by change h.val = 1; omega)
    rfl
  · obtain rfl : h = 0 := Fin.ext (by change h.val = 0; omega)
    rfl

theorem block12 (r : Fin 256) (h : Fin 4) (d : Fin 256) :
    (out0_12 i x0 x1 x2 x3 x4 x5 x6 x7 x8 x9 (ix2 r ⟨256 * h + d, by omega⟩) : EReal)
      = lin (fun k : Fin 512 => act i x0 x1 x2 x3 x4 r ⟨512 * h + k, by omega⟩) (fun k => x6 (ix3 h k d))
          * Ideal.ofBits FTy.f32 0x3D800000#32 := by
  generalize hy : (ix2 r ⟨256 * h + d, by omega⟩ : S256x1024.Idx) = y
  have hy0 : r.val = (y 0).val := by rw [← hy]; rfl
  have hy1 : 256 * h.val + d.val = (y 1).val := by rw [← hy]; rfl
  have hh := h.isLt
  frame_out
  canon_tiles x hh
  all_goals
    have b1 : (x 1).val < 256 := (x 1).isLt
    obtain rfl : r = x 0 := Fin.ext (by omega)
    obtain rfl : d = x 1 := Fin.ext (by omega)
    open_payloads; pointwise
  · obtain rfl : h = 3 := Fin.ext (by change h.val = 3; omega)
    rfl
  · obtain rfl : h = 2 := Fin.ext (by change h.val = 2; omega)
    rfl
  · obtain rfl : h = 1 := Fin.ext (by change h.val = 1; omega)
    rfl
  · obtain rfl : h = 0 := Fin.ext (by change h.val = 0; omega)
    rfl

theorem block13 (r : Fin 256) (h : Fin 4) (d : Fin 512) :
    (out0_13 i x0 x1 x2 x3 x4 x5 x6 x7 x8 x9 (ix2 r ⟨512 * h + d, by omega⟩) : EReal)
      = lin (fun k : Fin 512 => x0 (ix2 r ⟨512 * h + k, by omega⟩)) (fun k => x7 (ix3 h k d)) := by
  generalize hy : (ix2 r ⟨512 * h + d, by omega⟩ : S256x2048.Idx) = y
  have hy0 : r.val = (y 0).val := by rw [← hy]; rfl
  have hy1 : 512 * h.val + d.val = (y 1).val := by rw [← hy]; rfl
  have hh := h.isLt
  frame_out
  canon_tiles x hh
  all_goals
    have b1 : (x 1).val < 512 := (x 1).isLt
    obtain rfl : r = x 0 := Fin.ext (by omega)
    obtain rfl : d = x 1 := Fin.ext (by omega)
    open_payloads; pointwise
  · obtain rfl : h = 3 := Fin.ext (by change h.val = 3; omega)
    rfl
  · obtain rfl : h = 2 := Fin.ext (by change h.val = 2; omega)
    rfl
  · obtain rfl : h = 1 := Fin.ext (by change h.val = 1; omega)
    rfl
  · obtain rfl : h = 0 := Fin.ext (by change h.val = 0; omega)
    rfl

theorem block15 (r : Fin 256) (j : Fin 16) :
    (out0_15 i x0 x1 x2 x3 x4 x5 x6 x7 x8 x9 (ix2 j r) : EReal)
      = gate j (pregate i x0 x1 x2 x3 x4 x8 x9 r ⟨j, by omega⟩) := by
  frame_out
  open_payloads
  pointwise
  change Scalar.select _ (logsig (pregate i x0 x1 x2 x3 x4 x8 x9 r ⟨j, by omega⟩)) (pregate i x0 x1 x2 x3 x4 x8 x9 r ⟨j, by omega⟩) = _
  exact forget_eq ⟨j, by omega⟩ _ _

end Cert.MPreIdeal.Proj
-- ==== Proof.MPreMath.lean ====
module

public import proofs.«01_k».proof.Proof.MPreBlock

@[expose] public section
noncomputable section
open Idealize.ShloMosaic

/-! The mathematics of the mLSTM's convolution, queries, keys, values and gates. -/
namespace Dense

variable (X : Fin 16384 → Fin 4096 → EReal) (W : Fin 3 → Fin 2048 → EReal) (B : Fin 2048 → EReal)

/-- The row before, zero before the first. -/
def rowBefore (n : Fin 16384) (k : Fin 2048) : EReal :=
  if n.val = 0 then 0 else X ⟨n - 1, by omega⟩ ⟨k, by omega⟩

/-- The row after, zero after the last. -/
def rowAfter (n : Fin 16384) (k : Fin 2048) : EReal :=
  if h : n.val = 16383 then 0 else X ⟨n + 1, by omega⟩ ⟨k, by omega⟩

/-- The activated convolution. -/
def conved (n : Fin 16384) (k : Fin 2048) : EReal :=
  silu (conv (rowBefore X n k) (X n ⟨k, by omega⟩) (rowAfter X n k) (W 0 k) (W 1 k) (W 2 k) (B k))

/-- A head of the projected channels. -/
def headLin {e : ℕ} (u : Fin 2048 → EReal) (Q : Fin 4 → Fin 512 → Fin e → EReal) (h : Fin 4) (d : Fin e) : EReal :=
  lin (fun k : Fin 512 => u ⟨512 * h + k, by omega⟩) (fun k => Q h k d)

/-- A gate before its logarithm. -/
def gateLin (u x : Fin 2048 → EReal) (G : Fin 4096 → Fin 16 → EReal) (b : Fin 16 → EReal) (j : Fin 16) : EReal :=
  lin u (fun k => G ⟨k, by omega⟩ j) + lin x (fun k => G ⟨2048 + k, by omega⟩ j) + b j

theorem neg_sup_zero (g : EReal) : -(max (-g) 0) = min g 0 := by
  rcases le_total g 0 with h | h
  · rw [max_eq_left (EReal.neg_nonneg.2 h), min_eq_left h, neg_neg]
  · rw [max_eq_right (EReal.neg_le_zero.2 h), min_eq_right h, neg_zero]

theorem log_ne_bot {x : EReal} (h : 0 < x) : Ideal.log x ≠ ⊥ := by
  induction x with
  | bot => simp at h
  | top => exact top_ne_bot
  | coe r =>
    have h' : 0 < r := by exact_mod_cast h
    change (if r ≤ 0 then (⊥ : EReal) else (Real.log r : EReal)) ≠ ⊥
    rw [if_neg h'.not_ge]
    exact EReal.coe_ne_bot _

theorem exp_zero_le (x : EReal) : 0 ≤ Ideal.exp x := by
  induction x with
  | bot => exact le_rfl
  | top => exact le_top
  | coe r => exact EReal.coe_nonneg.2 (Real.exp_pos r).le

/-- The softplus form of the logarithm of the logistic function. -/
theorem softplus_neg (g : EReal) : -(max (-g) 0 + Ideal.log (1 + Ideal.exp (-(-g ⊔ - -g)))) = logsig g := by
  have hp : (0 : EReal) < 1 + Ideal.exp (-(-g ⊔ - -g)) := by
    have h0 : (0 : EReal) ≤ Ideal.exp (-(-g ⊔ - -g)) := exp_zero_le _
    calc (0 : EReal) < 1 := zero_lt_one
      _ = 1 + 0 := (add_zero 1).symm
      _ ≤ _ := add_le_add le_rfl h0
  have hm : max (-g) 0 ≠ ⊥ := fun h => by
    have : (0 : EReal) ≤ ⊥ := h ▸ le_max_right (-g) 0
    simp at this
  rw [EReal.neg_add (Or.inl hm) (Or.inr (log_ne_bot hp)), neg_sup_zero]
  unfold logsig
  rw [neg_neg, sup_comm, zero_sub]

end Dense
end
-- ==== Proof.MPreHost.lean ====
module

public import proofs.«01_k».proof.Proof.Gen.MPreIdeal.Value
public import proofs.«01_k».proof.Proof.MPreBlock
public import Idealize.ShloMosaic.Lib.Routing.OpsPair
public import Idealize.ShloMosaic.Lib.Routing.OpsSet

@[expose] public section
set_option maxRecDepth 16384
noncomputable section
open Idealize.ShloMosaic Idealize.ShloMosaic.TcCoe Idealize.SL.Sem Idealize.ShloMosaic.StableHlo

/-! The gates' weights and biases, widened from 16 to 128 channels. -/
namespace Cert.MPreIdeal.Proj
open Cert.MPreIdeal Cert.MPreIdeal.Gen Cert.MPreIdeal.Value Dense
open Idealize.ShloMosaic.Routing

/-- Where an update of the weights is written. -/
theorem lands_w (idx : IVec S1 32) (h : ∀ i, idx i = 0#32) (k : S4096x16.Idx) (r : Fin 4096) (c : Fin 128) :
    (scatter_S4096x128_S1_S4096x16_01_n_1_0).resultIdx? k idx = some (ix2 r c) ↔ (k 0).val = r.val ∧ (k 1).val = c.val := by
  obtain rfl : idx = fun _ => 0#32 := funext h
  have e := resultIdx?_ix2 scatter_S4096x128_S1_S4096x16_01_n_1_0 k (fun _ => 0#32) r c
  refine e.trans ?_
  have s0 : (scatter_S4096x128_S1_S4096x16_01_n_1_0).start k (fun _ => 0#32) 0 = 0 := rfl
  have s1 : (scatter_S4096x128_S1_S4096x16_01_n_1_0).start k (fun _ => 0#32) 1 = 0 := rfl
  have w0 : (scatter_S4096x128_S1_S4096x16_01_n_1_0).window k 0 = (k 0).val := rfl
  have w1 : (scatter_S4096x128_S1_S4096x16_01_n_1_0).window k 1 = (k 1).val := rfl
  rw [s0, s1, w0, w1]
  omega

theorem widen_w (x : S4096x128.Idx → EReal) (idx : IVec S1 32) (h : ∀ i, idx i = 0#32) (u : S4096x16.Idx → EReal) (r : Fin 4096) (c : Fin 128) :
    Host.scatter scatter_S4096x128_S1_S4096x16_01_n_1_0 (fun _ b => b) x idx u (ix2 r c)
      = if hc : c.val < 16 then u (ix2 r ⟨c, hc⟩) else x (ix2 r c) := by
  split_ifs with hc
  · refine scatter_set_hit _ x idx u _ _ (fun k hk => ?_) (ix2 r ⟨c, hc⟩) ((lands_w idx h _ r c).2 ⟨rfl, rfl⟩)
    obtain ⟨h0, h1⟩ := (lands_w idx h k r c).1 hk
    refine congrArg u ?_
    rw [ValueIdx.eq_ix2 k]
    exact congrArg₂ ix2 (Fin.ext h0) (Fin.ext h1)
  · refine scatter_set_miss _ x idx u _ fun k hk => hc ?_
    obtain ⟨h0, h1⟩ := (lands_w idx h k r c).1 hk
    have : (k 1).val < 16 := (k 1).isLt
    omega

/-- Where an update of the biases is written. -/
theorem lands_b (idx : IVec S2 32) (h : ∀ i, idx i = 0#32) (k : S16.Idx) (c : Fin 128) :
    (scatter_S1x128_S2_S16_0_0_01_0).resultIdx? k idx = some (ix2 0 c) ↔ (k 0).val = c.val := by
  obtain rfl : idx = fun _ => 0#32 := funext h
  have e := resultIdx?_ix2 scatter_S1x128_S2_S16_0_0_01_0 k (fun _ => 0#32) 0 c
  refine e.trans ?_
  have s0 : (scatter_S1x128_S2_S16_0_0_01_0).start k (fun _ => 0#32) 0 = 0 := rfl
  have s1 : (scatter_S1x128_S2_S16_0_0_01_0).start k (fun _ => 0#32) 1 = 0 := rfl
  have w0 : (scatter_S1x128_S2_S16_0_0_01_0).window k 0 = 0 := rfl
  have w1 : (scatter_S1x128_S2_S16_0_0_01_0).window k 1 = (k 0).val := rfl
  rw [s0, s1, w0, w1]
  simp

theorem widen_b (x : S1x128.Idx → EReal) (idx : IVec S2 32) (h : ∀ i, idx i = 0#32) (u : S16.Idx → EReal) (c : Fin 128) :
    Host.scatter scatter_S1x128_S2_S16_0_0_01_0 (fun _ b => b) x idx u (ix2 0 c)
      = if hc : c.val < 16 then u (ix1 ⟨c, hc⟩) else x (ix2 0 c) := by
  split_ifs with hc
  · refine scatter_set_hit _ x idx u _ _ (fun k hk => ?_) (ix1 ⟨c, hc⟩) ((lands_b idx h _ c).2 rfl)
    have h0 := (lands_b idx h k c).1 hk
    refine congrArg u ?_
    rw [ValueIdx.eq_ix1 k]
    exact congrArg ix1 (Fin.ext h0)
  · refine scatter_set_miss _ x idx u _ fun k hk => hc ?_
    have h0 := (lands_b idx h k c).1 hk
    have : (k 0).val < 16 := (k 0).isLt
    omega

end Cert.MPreIdeal.Proj
-- ==== Proof.MPreRef.lean ====
module

public import proofs.«01_k».proof.Proof.Gen.ReferenceMPreIdeal.Run
public import proofs.«01_k».proof.Proof.MPreMath
public import Idealize.ShloMosaic.Lib.Tactic.CleanTypes

@[expose] public section
set_option maxRecDepth 16384
noncomputable section
open Idealize.ShloMosaic Idealize.ShloMosaic.TcCoe Idealize.SL.Sem Idealize.ShloMosaic.StableHlo

/-! The reference of the mLSTM's convolution, queries, keys, values and gates, read at an entry. -/
namespace Cert.ReferenceMPreIdeal.Proj
open Cert.ReferenceMPreIdeal Cert.ReferenceMPreIdeal.Value Facts₀ Facts

variable (A0 : FVec Ideal S16384x4096 .bf16) (A1 : FVec Ideal S3x2048 .f32) (A2 : FVec Ideal S2048 .f32)
  (A3 A4 : FVec Ideal S4x512x256 .f32) (A5 : FVec Ideal S4x512x512 .f32) (A6 : FVec Ideal S4096x16 .f32) (A7 : FVec Ideal S16 .f32)

/-- The tokens' first half. -/
def rows : FVec Ideal S16384x2048 .f32 :=
  extf .f32 (extractStridedSlice S16384x2048 ![0, 0] A0 slices_S16384x4096_S16384x2048_0_0) bitsLt_bf16_f32

/-- The convolution. -/
def conv : FVec Ideal S16384x2048 .f32 :=
  addf (addf (addf (broadcastInDim S16384x2048 ![0, 1] bcast_S1x2048_S16384x2048_0_1 (broadcastInDim S1x2048 ![1] bcast_S2048_S1x2048_1 A2)) (mulf (extractStridedSlice S16384x2048 ![0, 0] (pad S16386x2048 ![1, 0] ![1, 0] ![0, 0] (rows A0) (sitofp .f32 (constantI S_ 32 0#32)) pads_S16384x2048_S16386x2048_110_000 h_S_) slices_S16386x2048_S16384x2048_0_0) (broadcastInDim S16384x2048 ![0, 1] bcast_S1x2048_S16384x2048_0_1 (broadcastInDim S1x2048 ![1] bcast_S2048_S1x2048_1 (shapeCast _ (extractStridedSlice S1x2048 ![0, 0] A1 slices_S3x2048_S1x2048_0_0) shapeCasts_S1x2048_S2048))))) (mulf (extractStridedSlice S16384x2048 ![1, 0] (pad S16386x2048 ![1, 0] ![1, 0] ![0, 0] (rows A0) (sitofp .f32 (constantI S_ 32 0#32)) pads_S16384x2048_S16386x2048_110_000 h_S_) slices_S16386x2048_S16384x2048_1_0) (broadcastInDim S16384x2048 ![0, 1] bcast_S1x2048_S16384x2048_0_1 (broadcastInDim S1x2048 ![1] bcast_S2048_S1x2048_1 (shapeCast _ (extractStridedSlice S1x2048 ![1, 0] A1 slices_S3x2048_S1x2048_1_0) shapeCasts_S1x2048_S2048))))) (mulf (extractStridedSlice S16384x2048 ![2, 0] (pad S16386x2048 ![1, 0] ![1, 0] ![0, 0] (rows A0) (sitofp .f32 (constantI S_ 32 0#32)) pads_S16384x2048_S16386x2048_110_000 h_S_) slices_S16386x2048_S16384x2048_2_0) (broadcastInDim S16384x2048 ![0, 1] bcast_S1x2048_S16384x2048_0_1 (broadcastInDim S1x2048 ![1] bcast_S2048_S1x2048_1 (shapeCast _ (extractStridedSlice S1x2048 ![2, 0] A1 slices_S3x2048_S1x2048_2_0) shapeCasts_S1x2048_S2048))))

/-- The convolution, activated. -/
def activated : FVec Ideal S16384x2048 .f32 :=
  mulf (conv A0 A1 A2) (Host.divf (broadcastInDim S16384x2048 ![] bcast_S_S16384x2048 (constant S_ .f32 0x3F800000#32)) (addf (broadcastInDim S16384x2048 ![] bcast_S_S16384x2048 (constant S_ .f32 0x3F800000#32)) (Host.exp (Host.negf (conv A0 A1 A2)))))

/-- The gates before the logarithms. -/
def linear (C X : FVec Ideal S16384x2048 .f32) : FVec Ideal S16384x16 .f32 :=
  addf (Host.dotGeneral dot_S16384x4096_S4096x16_S16384x16_1_0_0_1_n_n none (concatenate S16384x4096 1 [⟨S16384x2048, C⟩, ⟨S16384x2048, X⟩] concatenates_S16384x2048_S16384x2048_S16384x4096_d1) A6) (broadcastInDim S16384x16 ![0, 1] bcast_S1x16_S16384x16_0_1 (broadcastInDim S1x16 ![1] bcast_S16_S1x16_1 A7))

/-- The logarithm of the logistic function. -/
def logsigmoid (z : FVec Ideal S16384x4 .f32) : FVec Ideal S16384x4 .f32 :=
  Host.negf (select (cmpf .une (subf (Host.negf z) (broadcastInDim S16384x4 ![] bcast_S_S16384x4 (constant S_ .f32 0x00000000#32))) (subf (Host.negf z) (broadcastInDim S16384x4 ![] bcast_S_S16384x4 (constant S_ .f32 0x00000000#32)))) (addf (Host.negf z) (broadcastInDim S16384x4 ![] bcast_S_S16384x4 (constant S_ .f32 0x00000000#32))) (addf (maximumf (Host.negf z) (broadcastInDim S16384x4 ![] bcast_S_S16384x4 (constant S_ .f32 0x00000000#32))) (Host.log1p (Host.exp (Host.negf (Host.absf (subf (Host.negf z) (broadcastInDim S16384x4 ![] bcast_S_S16384x4 (constant S_ .f32 0x00000000#32)))))))))

/-- The gates. -/
def gates (Gt : FVec Ideal S16384x16 .f32) : FVec Ideal S16384x16 .f32 :=
  concatenate S16384x16 1 [⟨S16384x4, ((extractStridedSlice S16384x4 ![0, 0] Gt slices_S16384x16_S16384x4_0_0) : (⟨S16384x4, .f32⟩ : BufTy).Contents (Elt Ideal))⟩, ⟨S16384x4, ((logsigmoid (extractStridedSlice S16384x4 ![0, 4] Gt slices_S16384x16_S16384x4_0_4)) : (⟨S16384x4, .f32⟩ : BufTy).Contents (Elt Ideal))⟩, ⟨S16384x4, ((extractStridedSlice S16384x4 ![0, 8] Gt slices_S16384x16_S16384x4_0_8) : (⟨S16384x4, .f32⟩ : BufTy).Contents (Elt Ideal))⟩, ⟨S16384x4, ((logsigmoid (extractStridedSlice S16384x4 ![0, 12] Gt slices_S16384x16_S16384x4_0_12)) : (⟨S16384x4, .f32⟩ : BufTy).Contents (Elt Ideal))⟩] concatenates_S16384x4_S16384x4_S16384x4_S16384x4_S16384x16_d1

/-- Queries or keys before the scale, row by head by channel. -/
def heads (C : FVec Ideal S16384x2048 .f32) (Q : FVec Ideal S4x512x256 .f32) : FVec Ideal S16384x4x256 .f32 :=
  transpose S16384x4x256 [2, 0, 1] (Host.dotGeneral dot_S4x512x256_S16384x4x512_S4x256x16384_1_2_2_0_0_1 none Q (shapeCast _ C shapeCasts_S16384x2048_S16384x4x512)) transposes_S4x256x16384_S16384x4x256_2_0_1

def queries (C : FVec Ideal S16384x2048 .f32) (Q : FVec Ideal S4x512x256 .f32) : FVec Ideal S16384x1024 .bf16 :=
  truncf .bf16 (shapeCast _ (heads C Q) shapeCasts_S16384x4x256_S16384x1024) bitsLt_bf16_f32

def keys (C : FVec Ideal S16384x2048 .f32) (Q : FVec Ideal S4x512x256 .f32) : FVec Ideal S16384x1024 .bf16 :=
  truncf .bf16 (shapeCast _ (mulf (heads C Q) (broadcastInDim S16384x4x256 ![] bcast_S_S16384x4x256 (constant S_ .f32 0x3D800000#32))) shapeCasts_S16384x4x256_S16384x1024) bitsLt_bf16_f32

def values (C : FVec Ideal S16384x2048 .f32) (Q : FVec Ideal S4x512x512 .f32) : FVec Ideal S16384x2048 .bf16 :=
  truncf .bf16 (shapeCast _ (transpose S16384x4x512 [2, 0, 1] (Host.dotGeneral dot_S4x512x512_S16384x4x512_S4x512x16384_1_2_2_0_0_1 none Q (shapeCast _ C shapeCasts_S16384x2048_S16384x4x512)) transposes_S4x512x16384_S16384x4x512_2_0_1) shapeCasts_S16384x4x512_S16384x2048) bitsLt_bf16_f32

def padded (G : FVec Ideal S16384x16 .f32) : FVec Ideal S16384x128 .f32 :=
  pad S16384x128 ![0, 0] ![0, 112] ![0, 0] (G) (sitofp .f32 (constantI S_ 32 0#32)) pads_S16384x16_S16384x128_000_01120 h_S_

def flipped (G : FVec Ideal S16384x16 .f32) : FVec Ideal S16x16384 .f32 :=
  transpose S16x16384 [1, 0] (G) transposes_S16384x16_S16x16384_1_0

section
variable (m : (ℓ : Loc nD τ sig) → Buf (Elt Ideal) ℓ) (c : Dev nD)

theorem res0 : res_main_v52 m c = truncf .bf16 (activated (m ((c.tc : Thread nD τ).loc main_arg0)) (m ((c.tc : Thread nD τ).loc main_arg1)) (m ((c.tc : Thread nD τ).loc main_arg2))) bitsLt_bf16_f32 := rfl
theorem res1 : res_main_v53 m c = queries (activated (m ((c.tc : Thread nD τ).loc main_arg0)) (m ((c.tc : Thread nD τ).loc main_arg1)) (m ((c.tc : Thread nD τ).loc main_arg2))) (m ((c.tc : Thread nD τ).loc main_arg3)) := rfl
theorem res2 : res_main_v54 m c = keys (activated (m ((c.tc : Thread nD τ).loc main_arg0)) (m ((c.tc : Thread nD τ).loc main_arg1)) (m ((c.tc : Thread nD τ).loc main_arg2))) (m ((c.tc : Thread nD τ).loc main_arg4)) := rfl
theorem res4 : res_main_v56 m c = padded (gates (linear (m ((c.tc : Thread nD τ).loc main_arg6)) (m ((c.tc : Thread nD τ).loc main_arg7)) (activated (m ((c.tc : Thread nD τ).loc main_arg0)) (m ((c.tc : Thread nD τ).loc main_arg1)) (m ((c.tc : Thread nD τ).loc main_arg2))) (rows (m ((c.tc : Thread nD τ).loc main_arg0))))) := rfl
theorem res5 : res_main_v57 m c = flipped (gates (linear (m ((c.tc : Thread nD τ).loc main_arg6)) (m ((c.tc : Thread nD τ).loc main_arg7)) (activated (m ((c.tc : Thread nD τ).loc main_arg0)) (m ((c.tc : Thread nD τ).loc main_arg1)) (m ((c.tc : Thread nD τ).loc main_arg2))) (rows (m ((c.tc : Thread nD τ).loc main_arg0))))) := rfl
end

theorem rows_at (n : Fin 16384) (k : Fin 2048) : @Eq EReal (rows A0 (ix2 n k)) (A0 (ix2 n ⟨k, by omega⟩)) := by
  unfold rows
  pointwise

theorem zero_word : @Eq EReal (FloatOps.sitofp (F := Ideal) FTy.f32 0#32) 0 := by
  change (((0#32).toInt : ℝ) : EReal) = 0
  simp

theorem activated_at (n : Fin 16384) (k : Fin 2048) :
    @Eq EReal (activated A0 A1 A2 (ix2 n k))
      (Dense.conved (fun n k => A0 (ix2 n k)) (fun i k => A1 (ix2 i k)) (fun k => A2 (ix1 k)) n k) := by
  have hb : @Eq EReal (if h : 1 ≤ n.val ∧ n.val - 1 < 16384 then A0 (ix2 ⟨n.val - 1, h.2⟩ ⟨k, by omega⟩) else FloatOps.sitofp (F := Ideal) FTy.f32 0#32)
      (Dense.rowBefore (fun n k => A0 (ix2 n k)) n k) := by
    unfold Dense.rowBefore
    by_cases h : n.val = 0
    · rw [dif_neg (by omega), if_pos h, zero_word]
    · rw [dif_pos (by omega), if_neg h]
  have ha : @Eq EReal (if h : 1 ≤ 2 + n.val ∧ 2 + n.val - 1 < 16384 then A0 (ix2 ⟨2 + n.val - 1, h.2⟩ ⟨k, by omega⟩) else FloatOps.sitofp (F := Ideal) FTy.f32 0#32)
      (Dense.rowAfter (fun n k => A0 (ix2 n k)) n k) := by
    unfold Dense.rowAfter
    by_cases h : n.val = 16383
    · rw [dif_neg (by omega), dif_pos h, zero_word]
    · rw [dif_pos (by omega), dif_neg h]
      exact congrArg (fun i => A0 (ix2 i _)) (Fin.ext (by dsimp only; omega))
  unfold activated conv rows Dense.conved
  pointwise
  rw [hb, ha]
  unfold Dense.silu Dense.conv
  rw [zero_sub]

theorem linear_at (C X : FVec Ideal S16384x2048 .f32) (n : Fin 16384) (j : Fin 16) :
    @Eq EReal (linear A6 A7 C X (ix2 n j))
      (Dense.gateLin (fun k => C (ix2 n k)) (fun k => X (ix2 n k)) (fun k j => A6 (ix2 k j)) (fun j => A7 (ix1 j)) j) := by
  unfold linear Dense.gateLin Dense.lin
  pointwise

theorem logsigmoid_at (z : FVec Ideal S16384x4 .f32) (n : Fin 16384) (j : Fin 4) :
    @Eq EReal (logsigmoid z (ix2 n j)) (Dense.logsig (z (ix2 n j))) := by
  rw [← Dense.softplus_neg]
  unfold logsigmoid
  pointwise
  rw [if_neg (fun h => h rfl)]
  rfl

theorem gates_at (Gt : FVec Ideal S16384x16 .f32) (n : Fin 16384) (j : Fin 16) :
    @Eq EReal (gates Gt (ix2 n j)) (Dense.gate j (Gt (ix2 n j))) := by
  have e4 (k : Fin 4) : @Eq EReal (logsigmoid (extractStridedSlice S16384x4 ![0, 4] Gt slices_S16384x16_S16384x4_0_4) (ix2 n k))
      (Dense.logsig (Gt (ix2 n ⟨4 + k, by omega⟩))) :=
    (logsigmoid_at _ n k).trans (congrArg Dense.logsig (by pointwise))
  have e12 (k : Fin 4) : @Eq EReal (logsigmoid (extractStridedSlice S16384x4 ![0, 12] Gt slices_S16384x16_S16384x4_0_12) (ix2 n k))
      (Dense.logsig (Gt (ix2 n ⟨12 + k, by omega⟩))) :=
    (logsigmoid_at _ n k).trans (congrArg Dense.logsig (by pointwise))
  unfold gates
  pointwise
  unfold Dense.gate
  by_cases h1 : j.val < 4
  · exact (dif_pos h1).trans (if_neg (by omega)).symm
  refine (dif_neg h1).trans ?_
  by_cases h2 : j.val - 4 < 4
  · refine (dif_pos h2).trans ((e4 _).trans ?_)
    exact (congrArg (fun z => Dense.logsig (Gt (ix2 n z))) (Fin.ext (by dsimp only; omega))).trans (if_pos (by omega)).symm
  refine (dif_neg h2).trans ?_
  by_cases h3 : j.val - 4 - 4 < 4
  · refine (dif_pos h3).trans ?_
    exact (congrArg (fun z => Gt (ix2 n z)) (Fin.ext (by dsimp only; omega))).trans (if_neg (by omega)).symm
  refine (dif_neg h3).trans ((e12 _).trans ?_)
  exact (congrArg (fun z => Dense.logsig (Gt (ix2 n z))) (Fin.ext (by dsimp only; omega))).trans (if_pos (by omega)).symm

theorem queries_at (C : FVec Ideal S16384x2048 .f32) (Q : FVec Ideal S4x512x256 .f32) (n : Fin 16384) (h : Fin 4) (d : Fin 256) :
    @Eq EReal (queries C Q (ix2 n ⟨256 * h + d, by omega⟩)) (Dense.headLin (fun k => C (ix2 n k)) (fun h k d => Q (ix3 h k d)) h d) := by
  unfold queries heads Dense.headLin Dense.lin
  pointwise
  refine Finset.sum_congr rfl fun x _ => (mul_comm _ _).trans ?_
  exact congrArg (fun z => (C (ix2 n z) : EReal) * Q (ix3 h x d)) (Fin.ext (by dsimp only; omega))

theorem keys_at (C : FVec Ideal S16384x2048 .f32) (Q : FVec Ideal S4x512x256 .f32) (n : Fin 16384) (h : Fin 4) (d : Fin 256) :
    @Eq EReal (keys C Q (ix2 n ⟨256 * h + d, by omega⟩))
      (Dense.headLin (fun k => C (ix2 n k)) (fun h k d => Q (ix3 h k d)) h d * Ideal.ofBits FTy.f32 0x3D800000#32) := by
  unfold keys heads Dense.headLin Dense.lin
  pointwise
  refine congrArg (· * Ideal.ofBits FTy.f32 0x3D800000#32) (Finset.sum_congr rfl fun x _ => (mul_comm _ _).trans ?_)
  exact congrArg (fun z => (C (ix2 n z) : EReal) * Q (ix3 h x d)) (Fin.ext (by dsimp only; omega))

theorem values_at (C : FVec Ideal S16384x2048 .f32) (Q : FVec Ideal S4x512x512 .f32) (n : Fin 16384) (h : Fin 4) (d : Fin 512) :
    @Eq EReal (values C Q (ix2 n ⟨512 * h + d, by omega⟩)) (Dense.headLin (fun k => C (ix2 n k)) (fun h k d => Q (ix3 h k d)) h d) := by
  unfold values Dense.headLin Dense.lin
  pointwise
  refine Finset.sum_congr rfl fun x _ => (mul_comm _ _).trans ?_
  exact congrArg (fun z => (C (ix2 n z) : EReal) * Q (ix3 h x d)) (Fin.ext (by dsimp only; omega))

theorem padded_at (G : FVec Ideal S16384x16 .f32) (n : Fin 16384) (j : Fin 128) :
    @Eq EReal (padded G (ix2 n j)) (if h : j.val < 16 then G (ix2 n ⟨j, h⟩) else 0) := by
  unfold padded
  pointwise
  rw [zero_word]

theorem flipped_at (G : FVec Ideal S16384x16 .f32) (n : Fin 16384) (j : Fin 16) :
    @Eq EReal (flipped G (ix2 j n)) (G (ix2 n j)) := by
  unfold flipped
  pointwise

end Cert.ReferenceMPreIdeal.Proj
end
-- ==== Proof.MPre.lean ====
module

public import proofs.«01_k».proof.Proof.MPreMath
public import proofs.«01_k».proof.Proof.MPreHost
public import proofs.«01_k».proof.Proof.MPreRef
public import proofs.«01_k».proof.Defs

@[expose] public section
set_option maxRecDepth 16384
noncomputable section
open Idealize.ShloMosaic Idealize.ShloMosaic.TcCoe Idealize.SL.Sem Idealize.ShloMosaic.StableHlo

/-! The mLSTM's convolution, queries, keys, values and gates. -/
namespace Cert.MPreIdeal.Proj
open Cert.MPreIdeal Cert.MPreIdeal.Gen Cert.MPreIdeal.Value Dense

variable (m : (ℓ : Loc nD τ sig) → Buf (Elt Ideal) ℓ) (c : Dev nD)

theorem idx_eq : ∀ t : Fin cfg0.N, (win0_0.index t = ![t.val, 0] ∧ win0_1.index t = ![16 * t.val - 1, 0]
      ∧ win0_2.index t = ![min (16 * (t.val + 1)) 1023, 0])
    ∧ (win0_3.index t = ![0, 0] ∧ win0_4.index t = ![0, 0] ∧ win0_5.index t = ![0, 0, 0] ∧ win0_6.index t = ![0, 0, 0])
    ∧ (win0_7.index t = ![0, 0, 0] ∧ win0_8.index t = ![0, 0] ∧ win0_9.index t = ![0, 0])
    ∧ (win0_10.index t = ![t.val, 0] ∧ win0_11.index t = ![t.val, 0] ∧ win0_12.index t = ![t.val, 0])
    ∧ win0_13.index t = ![t.val, 0] ∧ win0_14.index t = ![t.val, 0] ∧ win0_15.index t = ![0, t.val] :=
  (by decide +kernel : ∀ t : Fin grid0.N, _)

theorem lt64 (t : Fin cfg0.N) : t.val < 64 := lt_of_lt_of_eq t.isLt (show cfg0.N = 64 from N_0)

/-- Row `r` of point `t`'s blocks. -/
abbrev row (t : Fin cfg0.N) (r : Fin 256) : Fin 16384 := ⟨256 * t.val + r, by have := lt64 t; omega⟩

/-- The arguments as plain functions. -/
abbrev aX (n : Fin 16384) (k : Fin 4096) : EReal := m ((c : Thread nD τ).loc main_arg0) (ix2 n k)
abbrev aW (i : Fin 3) (k : Fin 2048) : EReal := m ((c : Thread nD τ).loc main_arg1) (ix2 i k)
abbrev aB (k : Fin 2048) : EReal := m ((c : Thread nD τ).loc main_arg2) (ix1 k)
abbrev aQ (h : Fin 4) (k : Fin 512) (d : Fin 256) : EReal := m ((c : Thread nD τ).loc main_arg3) (ix3 h k d)
abbrev aK (h : Fin 4) (k : Fin 512) (d : Fin 256) : EReal := m ((c : Thread nD τ).loc main_arg4) (ix3 h k d)
abbrev aV (h : Fin 4) (k : Fin 512) (d : Fin 512) : EReal := m ((c : Thread nD τ).loc main_arg5) (ix3 h k d)
abbrev aG (k : Fin 4096) (j : Fin 16) : EReal := m ((c : Thread nD τ).loc main_arg6) (ix2 k j)
abbrev aH (j : Fin 16) : EReal := m ((c : Thread nD τ).loc main_arg7) (ix1 j)

theorem blk_x (t : Fin cfg0.N) (r : Fin 256) (k : Fin 2048) : @Eq EReal (iblk m c 0 t (ix2 r k)) (aX m c (row t r) ⟨k, by omega⟩) := by
  blk_ext [iblk, V, idx_eq t]

theorem blk_prev (t : Fin cfg0.N) (ht : t.val ≠ 0) (k : Fin 2048) :
    @Eq EReal (iblk m c 1 t (ix2 15 k)) (aX m c ⟨256 * t.val - 1, by have := lt64 t; omega⟩ ⟨k, by omega⟩) := by
  have h := lt64 t
  blk_ext [iblk, V, idx_eq t]

theorem blk_next (t : Fin cfg0.N) (ht : t.val ≠ 63) (k : Fin 2048) :
    @Eq EReal (iblk m c 2 t (ix2 0 k)) (aX m c ⟨256 * t.val + 256, by have := lt64 t; omega⟩ ⟨k, by omega⟩) := by
  have h := lt64 t
  blk_ext [iblk, V, idx_eq t]

theorem blk_cw (t : Fin cfg0.N) (i : Fin 3) (k : Fin 2048) : @Eq EReal (iblk m c 3 t (ix2 i k)) (aW m c i k) := by
  blk_ext [iblk, V, idx_eq t]

theorem blk_cb (t : Fin cfg0.N) (k : Fin 2048) : @Eq EReal (iblk m c 4 t (ix2 0 k)) (aB m c k) := by
  have e : V m c main_v9 = shapeCast S1x2048 (m ((c : Thread nD τ).loc main_arg2)) shapeCasts_S2048_S1x2048 := rfl
  have e2 : iblk m c 4 t (ix2 0 k) = V m c main_v9 (ix2 0 k) := by
    blk_ext [iblk, idx_eq t]
  rw [e2, e]
  pointwise

theorem blk_q (t : Fin cfg0.N) (h : Fin 4) (k : Fin 512) (d : Fin 256) : @Eq EReal (iblk m c 5 t (ix3 h k d)) (aQ m c h k d) := by
  have e2 : iblk m c 5 t (ix3 h k d) = V m c main_v10 (ix3 h k d) := by
    blk_ext [iblk, idx_eq t]
  exact e2

theorem blk_k (t : Fin cfg0.N) (h : Fin 4) (k : Fin 512) (d : Fin 256) : @Eq EReal (iblk m c 6 t (ix3 h k d)) (aK m c h k d) := by
  have e2 : iblk m c 6 t (ix3 h k d) = V m c main_v11 (ix3 h k d) := by
    blk_ext [iblk, idx_eq t]
  exact e2

theorem blk_v (t : Fin cfg0.N) (h : Fin 4) (k : Fin 512) (d : Fin 512) : @Eq EReal (iblk m c 7 t (ix3 h k d)) (aV m c h k d) := by
  have e2 : iblk m c 7 t (ix3 h k d) = V m c main_v12 (ix3 h k d) := by
    blk_ext [iblk, idx_eq t]
  exact e2

theorem blk_gw (t : Fin cfg0.N) (k : Fin 4096) (j : Fin 128) :
    @Eq EReal (iblk m c 8 t (ix2 k j)) (if h : j.val < 16 then aG m c k ⟨j, h⟩ else 0) := by
  have e1 : ((cfg0.win 8).blk t).view.emb (ix2 k j) = ix2 k j := by
    blk_ext [idx_eq t]
  have e2 : iblk m c 8 t (ix2 k j) = V m c main_v3 (ix2 k j) := congrArg (V m c main_v3) e1
  have e : V m c main_v3 = Host.scatter scatter_S4096x128_S1_S4096x16_01_n_1_0 (fun _ b => b)
      (broadcastInDim S4096x128 ![] bcast_S_S4096x128 (constant (F := Ideal) S_ .bf16 0x0000#16))
      (broadcastInDim S1 ![] bcast_S_S1 (constantI S_ 32 0#32)) (truncf (F := Ideal) .bf16 (m ((c : Thread nD τ).loc main_arg6)) bitsLt_bf16_f32) := by
    simp only [V, hostOps0, TRef.binary, TRef.nullary, TRef.ternary, TRef.unary, TRef.toBuf, TRef.ofBuf, cast_eq]
    after_results_simp
  have e3 := widen_w (broadcastInDim S4096x128 ![] bcast_S_S4096x128 (constant (F := Ideal) S_ .bf16 0x0000#16))
      (broadcastInDim S1 ![] bcast_S_S1 (constantI S_ 32 0#32)) (fun _ => rfl)
      (truncf (F := Ideal) .bf16 (m ((c : Thread nD τ).loc main_arg6)) bitsLt_bf16_f32) k j
  refine e2.trans ((congrFun e (ix2 k j)).trans (e3.trans ?_))
  split_ifs with h
  · rfl
  · show Ideal.ofBits .bf16 0x0000#16 = 0
    simp [Ideal.ofBits, Ideal.ieee]

theorem zero_words : ∀ i : S2.Idx, (concatenate S2 0 [⟨S1, broadcastInDim S1 ![] bcast_S_S1 (constantI S_ 32 0#32)⟩,
      ⟨S1, broadcastInDim S1 ![] bcast_S_S1 (constantI S_ 32 0#32)⟩] concatenates_S1_S1_S2_d0 : IVec S2 32) i = 0#32 := by
  intro i
  obtain ⟨a, rfl⟩ : ∃ a : Fin 2, i = ix1 a := ⟨i 0, ValueIdx.eq_ix1 i⟩
  fin_cases a <;> rfl

theorem blk_gb (t : Fin cfg0.N) (j : Fin 128) :
    @Eq EReal (iblk m c 9 t (ix2 0 j)) (if h : j.val < 16 then aH m c ⟨j, h⟩ else 0) := by
  have e2 : iblk m c 9 t (ix2 0 j) = V m c main_v8 (ix2 0 j) := by
    blk_ext [iblk, idx_eq t]
  have e : V m c main_v8 = Host.scatter scatter_S1x128_S2_S16_0_0_01_0 (fun _ b => b)
      (broadcastInDim S1x128 ![] bcast_S_S1x128 (constant (F := Ideal) S_ .f32 0x00000000#32))
      (concatenate S2 0 [⟨S1, broadcastInDim S1 ![] bcast_S_S1 (constantI S_ 32 0#32)⟩, ⟨S1, broadcastInDim S1 ![] bcast_S_S1 (constantI S_ 32 0#32)⟩]
        concatenates_S1_S1_S2_d0) (m ((c : Thread nD τ).loc main_arg7)) := rfl
  have e3 := widen_b (broadcastInDim S1x128 ![] bcast_S_S1x128 (constant (F := Ideal) S_ .f32 0x00000000#32))
      (concatenate S2 0 [⟨S1, broadcastInDim S1 ![] bcast_S_S1 (constantI S_ 32 0#32)⟩, ⟨S1, broadcastInDim S1 ![] bcast_S_S1 (constantI S_ 32 0#32)⟩]
        concatenates_S1_S1_S2_d0) zero_words (m ((c : Thread nD τ).loc main_arg7)) j
  refine e2.trans ((congrFun e (ix2 0 j)).trans (e3.trans ?_))
  split_ifs with h
  · rfl
  · show Ideal.ofBits .f32 0x00000000#32 = 0
    simp [Ideal.ofBits, Ideal.ieee]

theorem first_row : ∀ r : Fin 256, IntOp.cmpi CmpIPredicate.eq (BitVec.ofNat 32 r.val) 0#32 = if r.val = 0 then 1#1 else 0#1 := by decide +kernel
theorem last_row : ∀ r : Fin 256, IntOp.cmpi CmpIPredicate.eq (BitVec.ofNat 32 r.val) 255#32 = if r.val = 255 then 1#1 else 0#1 := by decide +kernel
theorem first_point : ∀ t : Fin cfg0.N, Scalar.cmpi CmpIPredicate.eq (BitVec.ofNat 32 (grid0.coords t 0).val) 0#32 = if t.val = 0 then 1#1 else 0#1 :=
  (by decide +kernel : ∀ t : Fin grid0.N, _)
theorem last_point : ∀ t : Fin cfg0.N, Scalar.cmpi CmpIPredicate.eq (BitVec.ofNat 32 (grid0.coords t 0).val) 63#32 = if t.val = 63 then 1#1 else 0#1 :=
  (by decide +kernel : ∀ t : Fin grid0.N, _)

theorem select_if (p : Prop) [Decidable p] (a b : EReal) : Scalar.select (if p then 1#1 else 0#1) a b = if p then a else b := by
  split_ifs <;> rfl

/-- The activated convolution of a block's row is the convolution of the tokens. -/
theorem act_eq (t : Fin cfg0.N) (r : Fin 256) (k : Fin 2048) :
    act (grid0.coords t) (iblk m c 0 t) (iblk m c 1 t) (iblk m c 2 t) (iblk m c 3 t) (iblk m c 4 t) r k
      = conved (aX m c) (aW m c) (aB m c) (row t r) k := by
  have ht := lt64 t
  have hr := r.isLt
  have hb : (if r.val = 0 then (if t.val = 0 then (0 : EReal) else (iblk m c 1 t (ix2 15 k) : EReal)) else (iblk m c 0 t (ix2 ⟨(r.val + 256 - 1) % 256, by omega⟩ k) : EReal))
      = rowBefore (aX m c) (row t r) k := by
    unfold rowBefore
    by_cases h : r.val = 0
    · rw [if_pos h]
      by_cases h' : t.val = 0
      · rw [if_pos h', if_pos (by dsimp only; omega)]
      · rw [if_neg h', if_neg (by dsimp only; omega), blk_prev m c t h' k]
        exact congrArg (fun n => aX m c n ⟨k, by omega⟩) (Fin.ext (by dsimp only; omega))
    · rw [if_neg h, if_neg (by dsimp only; omega), blk_x]
      exact congrArg (fun n => aX m c n ⟨k, by omega⟩) (Fin.ext (by dsimp only; omega))
  have ha : (if r.val = 255 then (if t.val = 63 then (0 : EReal) else (iblk m c 2 t (ix2 0 k) : EReal)) else (iblk m c 0 t (ix2 ⟨(r.val + 256 - 255) % 256, by omega⟩ k) : EReal))
      = rowAfter (aX m c) (row t r) k := by
    unfold rowAfter
    by_cases h : r.val = 255
    · rw [if_pos h]
      by_cases h' : t.val = 63
      · rw [if_pos h', dif_pos (by dsimp only; omega)]
      · rw [if_neg h', dif_neg (by dsimp only; omega), blk_next m c t h' k]
        exact congrArg (fun n => aX m c n ⟨k, by omega⟩) (Fin.ext (by dsimp only; omega))
    · rw [if_neg h, dif_neg (by dsimp only; omega), blk_x]
      exact congrArg (fun n => aX m c n ⟨k, by omega⟩) (Fin.ext (by dsimp only; omega))
  unfold act conved
  rw [first_row, last_row, first_point, last_point]
  simp only [select_if]
  rw [hb, ha, blk_x, blk_cw, blk_cw, blk_cw, blk_cb]

/-- A gate of a block before its logarithm. -/
theorem pregate_eq (t : Fin cfg0.N) (r : Fin 256) (j : Fin 128) :
    pregate (grid0.coords t) (iblk m c 0 t) (iblk m c 1 t) (iblk m c 2 t) (iblk m c 3 t) (iblk m c 4 t) (iblk m c 8 t) (iblk m c 9 t) r j
      = if h : j.val < 16 then gateLin (conved (aX m c) (aW m c) (aB m c) (row t r)) (fun k => aX m c (row t r) ⟨k, by omega⟩) (aG m c) (aH m c) ⟨j, h⟩
        else 0 := by
  unfold pregate lin
  simp only [act_eq, blk_x, blk_gw, blk_gb]
  by_cases h : j.val < 16
  · simp only [dif_pos h]
    rfl
  · simp only [dif_neg h, mul_zero, Finset.sum_const_zero, add_zero]

/-- The results as arrays. -/
def G0 : Buf (Elt Ideal) ((c : Thread nD τ).loc main_v13_0) := fun i => conved (aX m c) (aW m c) (aB m c) (i 0) (i 1)
def headAt {e : ℕ} (u : Fin 16384 → Fin 2048 → EReal) (Q : Fin 4 → Fin 512 → Fin e → EReal) (n : Fin 16384) (x : Fin (4 * e)) : EReal :=
  headLin (u n) Q ⟨x / e, Nat.div_lt_of_lt_mul (by have := x.isLt; omega)⟩
    ⟨x % e, Nat.mod_lt _ (by have := x.isLt; omega)⟩
def G1 : Buf (Elt Ideal) ((c : Thread nD τ).loc main_v13_1) := fun i => headAt (conved (aX m c) (aW m c) (aB m c)) (aQ m c) (i 0) (i 1)
def G2 : Buf (Elt Ideal) ((c : Thread nD τ).loc main_v13_2) :=
  fun i => headAt (conved (aX m c) (aW m c) (aB m c)) (aK m c) (i 0) (i 1) * Ideal.ofBits FTy.f32 0x3D800000#32
def G3 : Buf (Elt Ideal) ((c : Thread nD τ).loc main_v13_3) := fun i => headAt (fun n k => aX m c n ⟨k, by omega⟩) (aV m c) (i 0) (i 1)
def gateAt (n : Fin 16384) (j : Fin 16) : EReal :=
  gate j (gateLin (conved (aX m c) (aW m c) (aB m c) n) (fun k => aX m c n ⟨k, by omega⟩) (aG m c) (aH m c) j)
def G4 : Buf (Elt Ideal) ((c : Thread nD τ).loc main_v13_4) := fun i => if h : (i 1).val < 16 then gateAt m c (i 0) ⟨(i 1).val, h⟩ else (0 : EReal)
def G5 : Buf (Elt Ideal) ((c : Thread nD τ).loc main_v13_5) := fun i => gateAt m c (i 1) (i 0)

theorem headAt_eq {e : ℕ} (u : Fin 16384 → Fin 2048 → EReal) (Q : Fin 4 → Fin 512 → Fin e → EReal) (n : Fin 16384) (h : Fin 4) (d : Fin e)
    (x : Fin (4 * e)) (hx : x.val = e * h + d) : headAt u Q n x = headLin (u n) Q h d := by
  have hd := d.isLt
  refine congrArg₂ (headLin (u n) Q) (Fin.ext ?_) (Fin.ext ?_)
  · dsimp only
    rw [hx, Nat.mul_add_div (by omega), Nat.div_eq_of_lt hd, add_zero]
  · dsimp only
    rw [hx, Nat.mul_add_mod, Nat.mod_eq_of_lt hd]

theorem split_head {e : ℕ} (x : Fin (4 * e)) : ∃ (h : Fin 4) (d : Fin e), x.val = e * h + d :=
  ⟨⟨x / e, Nat.div_lt_of_lt_mul (by have := x.isLt; omega)⟩,
    ⟨x % e, Nat.mod_lt _ (by have := x.isLt; omega)⟩, (Nat.div_add_mod x.val e).symm⟩

theorem final0 : (dats m 0 c).arrAt 10 cfg0.N = G0 m c := by
  refine (dats m 0 c).arrAt_eq_of_covers 10 _ (by decide +kernel) fun t hf y => ?_
  obtain ⟨r, j, rfl⟩ : ∃ (r : Fin 256) (j : Fin 2048), y = ix2 r j := ⟨y 0, y 1, ValueIdx.eq_ix2 y⟩
  blk_simp
  rw [after0_10]
  refine (block10 _ _ _ _ _ _ _ _ _ _ _ r j).trans ((act_eq m c t r j).trans ?_)
  have e : ((cfg0.win 10).blk t).view.emb (ix2 r j) = ix2 (row t r) j := by
    blk_ext [idx_eq t]
  show _ = G0 m c (((cfg0.win 10).blk t).view.emb (ix2 r j))
  rw [e]
  rfl

theorem final1 : (dats m 0 c).arrAt 11 cfg0.N = G1 m c := by
  refine (dats m 0 c).arrAt_eq_of_covers 11 _ (by decide +kernel) fun t hf y => ?_
  obtain ⟨r, x, rfl⟩ : ∃ (r : Fin 256) (x : Fin (4 * 256)), y = ix2 r x := ⟨y 0, y 1, ValueIdx.eq_ix2 y⟩
  obtain ⟨h, d, hx⟩ := split_head x
  have hb : ∀ (h : Fin 4) (d : Fin 256), 256 * h.val + d.val < 4 * 256 := fun h d => by omega
  have e : ((cfg0.win 11).blk t).view.emb (ix2 r x) = ix2 (row t r) x := by
    blk_ext [idx_eq t]
  blk_simp
  rw [after0_11]
  show _ = G1 m c (((cfg0.win 11).blk t).view.emb (ix2 r x))
  rw [e]
  refine Eq.trans ?_ (headAt_eq _ _ (row t r) h d x hx).symm
  obtain rfl : x = ⟨256 * h + d, hb h d⟩ := Fin.ext hx
  refine (block11 _ _ _ _ _ _ _ _ _ _ _ r h d).trans ?_
  simp only [act_eq, blk_q]
  rfl

theorem final2 : (dats m 0 c).arrAt 12 cfg0.N = G2 m c := by
  refine (dats m 0 c).arrAt_eq_of_covers 12 _ (by decide +kernel) fun t hf y => ?_
  obtain ⟨r, x, rfl⟩ : ∃ (r : Fin 256) (x : Fin (4 * 256)), y = ix2 r x := ⟨y 0, y 1, ValueIdx.eq_ix2 y⟩
  obtain ⟨h, d, hx⟩ := split_head x
  have hb : ∀ (h : Fin 4) (d : Fin 256), 256 * h.val + d.val < 4 * 256 := fun h d => by omega
  have e : ((cfg0.win 12).blk t).view.emb (ix2 r x) = ix2 (row t r) x := by
    blk_ext [idx_eq t]
  blk_simp
  rw [after0_12]
  show _ = G2 m c (((cfg0.win 12).blk t).view.emb (ix2 r x))
  rw [e]
  refine Eq.trans ?_ (congrArg (· * Ideal.ofBits FTy.f32 0x3D800000#32) (headAt_eq _ _ (row t r) h d x hx).symm)
  obtain rfl : x = ⟨256 * h + d, hb h d⟩ := Fin.ext hx
  refine (block12 _ _ _ _ _ _ _ _ _ _ _ r h d).trans ?_
  simp only [act_eq, blk_k]
  rfl

theorem final3 : (dats m 0 c).arrAt 13 cfg0.N = G3 m c := by
  refine (dats m 0 c).arrAt_eq_of_covers 13 _ (by decide +kernel) fun t hf y => ?_
  obtain ⟨r, x, rfl⟩ : ∃ (r : Fin 256) (x : Fin (4 * 512)), y = ix2 r x := ⟨y 0, y 1, ValueIdx.eq_ix2 y⟩
  obtain ⟨h, d, hx⟩ := split_head x
  have hb : ∀ (h : Fin 4) (d : Fin 512), 512 * h.val + d.val < 4 * 512 := fun h d => by omega
  have e : ((cfg0.win 13).blk t).view.emb (ix2 r x) = ix2 (row t r) x := by
    blk_ext [idx_eq t]
  blk_simp
  rw [after0_13]
  show _ = G3 m c (((cfg0.win 13).blk t).view.emb (ix2 r x))
  rw [e]
  refine Eq.trans ?_ (headAt_eq _ _ (row t r) h d x hx).symm
  obtain rfl : x = ⟨512 * h + d, hb h d⟩ := Fin.ext hx
  refine (block13 _ _ _ _ _ _ _ _ _ _ _ r h d).trans ?_
  simp only [blk_x, blk_v]
  rfl

theorem final4 : (dats m 0 c).arrAt 14 cfg0.N = G4 m c := by
  refine (dats m 0 c).arrAt_eq_of_covers 14 _ (by decide +kernel) fun t hf y => ?_
  obtain ⟨r, j, rfl⟩ : ∃ (r : Fin 256) (j : Fin 128), y = ix2 r j := ⟨y 0, y 1, ValueIdx.eq_ix2 y⟩
  have e : ((cfg0.win 14).blk t).view.emb (ix2 r j) = ix2 (row t r) j := by
    blk_ext [idx_eq t]
  blk_simp
  rw [after0_14]
  show _ = G4 m c (((cfg0.win 14).blk t).view.emb (ix2 r j))
  rw [e]
  refine (block14 _ _ _ _ _ _ _ _ _ _ _ r j).trans ?_
  rw [pregate_eq]
  show _ = if h : j.val < 16 then gateAt m c (row t r) ⟨j.val, h⟩ else (0 : EReal)
  by_cases h : j.val < 16
  · rw [dif_pos h, dif_pos h]
    rfl
  · rw [dif_neg h, dif_neg h]
    unfold gate
    rw [if_neg (by omega)]

theorem final5 : (dats m 0 c).arrAt 15 cfg0.N = G5 m c := by
  refine (dats m 0 c).arrAt_eq_of_covers 15 _ (by decide +kernel) fun t hf y => ?_
  obtain ⟨j, r, rfl⟩ : ∃ (j : Fin 16) (r : Fin 256), y = ix2 j r := ⟨y 0, y 1, ValueIdx.eq_ix2 y⟩
  have e : ((cfg0.win 15).blk t).view.emb (ix2 j r) = ix2 j (row t r) := by
    blk_ext [idx_eq t]
  blk_simp
  rw [after0_15]
  show _ = G5 m c (((cfg0.win 15).blk t).view.emb (ix2 j r))
  rw [e]
  refine (block15 _ _ _ _ _ _ _ _ _ _ _ r j).trans ?_
  rw [pregate_eq, dif_pos j.isLt]
  rfl

end Cert.MPreIdeal.Proj

namespace Cert.ReferenceMPreIdeal.Proj

theorem frame : Cert.quiescent_ReferenceMPreIdeal := fun m ρ _ =>
  (θ_run Cert.ReferenceMPreIdeal.defs _ _).mono
    (fun r h => ⟨fun c => (h c).2.2.2.2.2.2, Idealize.ShloMosaic.sem_eq_zero_of_no_sems (by decide) r.2⟩)
    (Cert.ReferenceMPreIdeal.Value.run (F := Ideal) m ρ)

open MPreIdeal.Proj (G0 G1 G2 G3 G4 G5)
section
variable (m : (ℓ : Loc Cert.MPreIdeal.nD Cert.MPreIdeal.τ Cert.MPreIdeal.sig) → Buf (Elt Ideal) ℓ) (c : Dev Cert.MPreIdeal.nD)

/-- The activated convolution, and the other results, as the kernel leaves them. -/
theorem out0 : (truncf .bf16 (activated (m ((c : Thread Cert.MPreIdeal.nD Cert.MPreIdeal.τ).loc Cert.MPreIdeal.main_arg0)) (m ((c : Thread Cert.MPreIdeal.nD Cert.MPreIdeal.τ).loc Cert.MPreIdeal.main_arg1)) (m ((c : Thread Cert.MPreIdeal.nD Cert.MPreIdeal.τ).loc Cert.MPreIdeal.main_arg2))) Cert.ReferenceMPreIdeal.Facts₀.bitsLt_bf16_f32 : FVec Ideal S16384x2048 .bf16) = G0 m c := by
  funext i
  obtain ⟨n, j, rfl⟩ : ∃ (n : Fin 16384) (j : Fin 2048), i = ix2 n j := ⟨i 0, i 1, ValueIdx.eq_ix2 i⟩
  exact activated_at _ _ _ n j

theorem row_act (n : Fin 16384) : (fun k => ((activated (m ((c : Thread Cert.MPreIdeal.nD Cert.MPreIdeal.τ).loc Cert.MPreIdeal.main_arg0)) (m ((c : Thread Cert.MPreIdeal.nD Cert.MPreIdeal.τ).loc Cert.MPreIdeal.main_arg1)) (m ((c : Thread Cert.MPreIdeal.nD Cert.MPreIdeal.τ).loc Cert.MPreIdeal.main_arg2))) (ix2 n k) : EReal)) = Dense.conved (MPreIdeal.Proj.aX m c) (MPreIdeal.Proj.aW m c) (MPreIdeal.Proj.aB m c) n :=
  funext fun k => activated_at _ _ _ n k

theorem row_tok (n : Fin 16384) : (fun k => (rows (m ((c : Thread Cert.MPreIdeal.nD Cert.MPreIdeal.τ).loc Cert.MPreIdeal.main_arg0)) (ix2 n k) : EReal)) = fun k : Fin 2048 => MPreIdeal.Proj.aX m c n ⟨k, by omega⟩ :=
  funext fun k => rows_at _ n k

theorem out1 : queries (activated (m ((c : Thread Cert.MPreIdeal.nD Cert.MPreIdeal.τ).loc Cert.MPreIdeal.main_arg0)) (m ((c : Thread Cert.MPreIdeal.nD Cert.MPreIdeal.τ).loc Cert.MPreIdeal.main_arg1)) (m ((c : Thread Cert.MPreIdeal.nD Cert.MPreIdeal.τ).loc Cert.MPreIdeal.main_arg2))) (m ((c : Thread Cert.MPreIdeal.nD Cert.MPreIdeal.τ).loc Cert.MPreIdeal.main_arg3)) = G1 m c := by
  funext i
  obtain ⟨n, x, rfl⟩ : ∃ (n : Fin 16384) (x : Fin (4 * 256)), i = ix2 n x := ⟨i 0, i 1, ValueIdx.eq_ix2 i⟩
  obtain ⟨h, d, hx⟩ := MPreIdeal.Proj.split_head x
  have hb : ∀ (h : Fin 4) (d : Fin 256), 256 * h.val + d.val < 4 * 256 := fun h d => by omega
  refine Eq.trans ?_ (MPreIdeal.Proj.headAt_eq _ _ n h d x hx).symm
  obtain rfl : x = ⟨256 * h + d, hb h d⟩ := Fin.ext hx
  refine (queries_at _ _ n h d).trans ?_
  rw [row_act]

theorem out2 : keys (activated (m ((c : Thread Cert.MPreIdeal.nD Cert.MPreIdeal.τ).loc Cert.MPreIdeal.main_arg0)) (m ((c : Thread Cert.MPreIdeal.nD Cert.MPreIdeal.τ).loc Cert.MPreIdeal.main_arg1)) (m ((c : Thread Cert.MPreIdeal.nD Cert.MPreIdeal.τ).loc Cert.MPreIdeal.main_arg2))) (m ((c : Thread Cert.MPreIdeal.nD Cert.MPreIdeal.τ).loc Cert.MPreIdeal.main_arg4)) = G2 m c := by
  funext i
  obtain ⟨n, x, rfl⟩ : ∃ (n : Fin 16384) (x : Fin (4 * 256)), i = ix2 n x := ⟨i 0, i 1, ValueIdx.eq_ix2 i⟩
  obtain ⟨h, d, hx⟩ := MPreIdeal.Proj.split_head x
  have hb : ∀ (h : Fin 4) (d : Fin 256), 256 * h.val + d.val < 4 * 256 := fun h d => by omega
  refine Eq.trans ?_ (congrArg (· * Ideal.ofBits FTy.f32 0x3D800000#32) (MPreIdeal.Proj.headAt_eq _ _ n h d x hx).symm)
  obtain rfl : x = ⟨256 * h + d, hb h d⟩ := Fin.ext hx
  refine (keys_at _ _ n h d).trans ?_
  rw [row_act]

theorem out3 : values (rows (m ((c : Thread Cert.MPreIdeal.nD Cert.MPreIdeal.τ).loc Cert.MPreIdeal.main_arg0))) (m ((c : Thread Cert.MPreIdeal.nD Cert.MPreIdeal.τ).loc Cert.MPreIdeal.main_arg5)) = G3 m c := by
  funext i
  obtain ⟨n, x, rfl⟩ : ∃ (n : Fin 16384) (x : Fin (4 * 512)), i = ix2 n x := ⟨i 0, i 1, ValueIdx.eq_ix2 i⟩
  obtain ⟨h, d, hx⟩ := MPreIdeal.Proj.split_head x
  have hb : ∀ (h : Fin 4) (d : Fin 512), 512 * h.val + d.val < 4 * 512 := fun h d => by omega
  refine Eq.trans ?_ (MPreIdeal.Proj.headAt_eq _ _ n h d x hx).symm
  obtain rfl : x = ⟨512 * h + d, hb h d⟩ := Fin.ext hx
  refine (values_at _ _ n h d).trans ?_
  rw [row_tok]

theorem gate_entry (n : Fin 16384) (j : Fin 16) :
    @Eq EReal (gates (linear (m ((c : Thread Cert.MPreIdeal.nD Cert.MPreIdeal.τ).loc Cert.MPreIdeal.main_arg6)) (m ((c : Thread Cert.MPreIdeal.nD Cert.MPreIdeal.τ).loc Cert.MPreIdeal.main_arg7)) (activated (m ((c : Thread Cert.MPreIdeal.nD Cert.MPreIdeal.τ).loc Cert.MPreIdeal.main_arg0)) (m ((c : Thread Cert.MPreIdeal.nD Cert.MPreIdeal.τ).loc Cert.MPreIdeal.main_arg1)) (m ((c : Thread Cert.MPreIdeal.nD Cert.MPreIdeal.τ).loc Cert.MPreIdeal.main_arg2))) (rows (m ((c : Thread Cert.MPreIdeal.nD Cert.MPreIdeal.τ).loc Cert.MPreIdeal.main_arg0)))) (ix2 n j)) (MPreIdeal.Proj.gateAt m c n j) := by
  refine (gates_at _ n j).trans (congrArg (Dense.gate j) ((linear_at _ _ _ _ n j).trans ?_))
  rw [row_act, row_tok]

theorem out4 : padded (gates (linear (m ((c : Thread Cert.MPreIdeal.nD Cert.MPreIdeal.τ).loc Cert.MPreIdeal.main_arg6)) (m ((c : Thread Cert.MPreIdeal.nD Cert.MPreIdeal.τ).loc Cert.MPreIdeal.main_arg7)) (activated (m ((c : Thread Cert.MPreIdeal.nD Cert.MPreIdeal.τ).loc Cert.MPreIdeal.main_arg0)) (m ((c : Thread Cert.MPreIdeal.nD Cert.MPreIdeal.τ).loc Cert.MPreIdeal.main_arg1)) (m ((c : Thread Cert.MPreIdeal.nD Cert.MPreIdeal.τ).loc Cert.MPreIdeal.main_arg2))) (rows (m ((c : Thread Cert.MPreIdeal.nD Cert.MPreIdeal.τ).loc Cert.MPreIdeal.main_arg0))))) = G4 m c := by
  funext i
  obtain ⟨n, j, rfl⟩ : ∃ (n : Fin 16384) (j : Fin 128), i = ix2 n j := ⟨i 0, i 1, ValueIdx.eq_ix2 i⟩
  refine (padded_at _ n j).trans ?_
  show _ = if h : j.val < 16 then MPreIdeal.Proj.gateAt m c n ⟨j.val, h⟩ else (0 : EReal)
  by_cases h : j.val < 16
  · rw [dif_pos h, dif_pos h]
    exact gate_entry m c n ⟨j, h⟩
  · rw [dif_neg h, dif_neg h]

theorem out5 : flipped (gates (linear (m ((c : Thread Cert.MPreIdeal.nD Cert.MPreIdeal.τ).loc Cert.MPreIdeal.main_arg6)) (m ((c : Thread Cert.MPreIdeal.nD Cert.MPreIdeal.τ).loc Cert.MPreIdeal.main_arg7)) (activated (m ((c : Thread Cert.MPreIdeal.nD Cert.MPreIdeal.τ).loc Cert.MPreIdeal.main_arg0)) (m ((c : Thread Cert.MPreIdeal.nD Cert.MPreIdeal.τ).loc Cert.MPreIdeal.main_arg1)) (m ((c : Thread Cert.MPreIdeal.nD Cert.MPreIdeal.τ).loc Cert.MPreIdeal.main_arg2))) (rows (m ((c : Thread Cert.MPreIdeal.nD Cert.MPreIdeal.τ).loc Cert.MPreIdeal.main_arg0))))) = G5 m c := by
  funext i
  obtain ⟨j, n, rfl⟩ : ∃ (j : Fin 16) (n : Fin 16384), i = ix2 j n := ⟨i 0, i 1, ValueIdx.eq_ix2 i⟩
  exact (flipped_at _ n j).trans (gate_entry m c n j)
end

theorem algebraic : Cert.algebraic_MPreIdeal_ReferenceMPreIdeal := by
  intro m ρ m' ρ' hp hargs
  refine ⟨G0 m, G1 m, G2 m, G3 m, G4 m, G5 m,
    (θ_run _ _ _).mono (fun r hr c => ?_) (Cert.MPreIdeal.Value.run_blocks m ρ),
    (θ_run _ _ _).mono (fun r hr c => ?_) (Cert.ReferenceMPreIdeal.Value.run (F := Ideal) m' ρ')⟩
  · obtain ⟨h0, h1, h2, h3, h4, h5, hk⟩ := hr c
    exact ⟨h0.trans (MPreIdeal.Proj.final0 m c), h1.trans (MPreIdeal.Proj.final1 m c), h2.trans (MPreIdeal.Proj.final2 m c),
      h3.trans (MPreIdeal.Proj.final3 m c), h4.trans (MPreIdeal.Proj.final4 m c), h5.trans (MPreIdeal.Proj.final5 m c), hk⟩
  obtain ⟨a0, a1, a2, a3, a4, a5, a6, a7⟩ := hargs c
  obtain ⟨h0, h1, h2, h3, h4, h5, hk⟩ := hr c
  rw [res0, a0, a1, a2] at h0
  rw [res1, a0, a1, a2, a3] at h1
  rw [res2, a0, a1, a2, a4] at h2
  rw [a0, a5] at h3
  rw [res4, a0, a1, a2, a6, a7] at h4
  rw [res5, a0, a1, a2, a6, a7] at h5
  exact ⟨h0.trans (out0 m c), h1.trans (out1 m c), h2.trans (out2 m c), h3.trans (out3 m c), h4.trans (out4 m c), h5.trans (out5 m c), hk⟩

end Cert.ReferenceMPreIdeal.Proj
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.KernRun
public import proofs.«01_k».proof.Proof.RefRun
public import proofs.«01_k».proof.Proof.Pre
public import proofs.«01_k».proof.Proof.Gen.MIn.Frame
public import proofs.«01_k».proof.Proof.Gen.MInIdeal.Frame
public import proofs.«01_k».proof.Proof.Gen.ReferenceMInIdeal
public import proofs.«01_k».proof.Proof.Gen.MInIdeal.Value
public import proofs.«01_k».proof.Proof.Gen.ReferenceMInIdeal.Run
public import proofs.«01_k».proof.Proof.MIn
public import proofs.«01_k».proof.Proof.Gen.HIn.Frame
public import proofs.«01_k».proof.Proof.Gen.HInIdeal.Frame
public import proofs.«01_k».proof.Proof.Gen.ReferenceHInIdeal
public import proofs.«01_k».proof.Proof.Gen.HInIdeal.Value
public import proofs.«01_k».proof.Proof.Gen.ReferenceHInIdeal.Run
public import proofs.«01_k».proof.Proof.HIn
public import proofs.«01_k».proof.Proof.Gen.MOut.Frame
public import proofs.«01_k».proof.Proof.Gen.MOutIdeal.Frame
public import proofs.«01_k».proof.Proof.Gen.ReferenceMOutIdeal
public import proofs.«01_k».proof.Proof.Gen.MOutIdeal.Value
public import proofs.«01_k».proof.Proof.Gen.ReferenceMOutIdeal.Run
public import proofs.«01_k».proof.Proof.MOut
public import proofs.«01_k».proof.Proof.Gen.HOut.Frame
public import proofs.«01_k».proof.Proof.Gen.HOutIdeal.Frame
public import proofs.«01_k».proof.Proof.Gen.ReferenceHOutIdeal
public import proofs.«01_k».proof.Proof.Gen.HOutIdeal.Value
public import proofs.«01_k».proof.Proof.Gen.ReferenceHOutIdeal.Run
public import proofs.«01_k».proof.Proof.HOut
public import proofs.«01_k».proof.Proof.Gen.MInCol.Frame
public import proofs.«01_k».proof.Proof.Gen.MInColIdeal.Frame
public import proofs.«01_k».proof.Proof.Gen.ReferenceMInColIdeal
public import proofs.«01_k».proof.Proof.Gen.MInColIdeal.Value
public import proofs.«01_k».proof.Proof.Gen.ReferenceMInColIdeal.Run
public import proofs.«01_k».proof.Proof.MInCol
public import proofs.«01_k».proof.Proof.Gen.HInCol.Frame
public import proofs.«01_k».proof.Proof.Gen.HInColIdeal.Frame
public import proofs.«01_k».proof.Proof.Gen.ReferenceHInColIdeal
public import proofs.«01_k».proof.Proof.Gen.HInColIdeal.Value
public import proofs.«01_k».proof.Proof.Gen.ReferenceHInColIdeal.Run
public import proofs.«01_k».proof.Proof.HInCol
public import proofs.«01_k».proof.Proof.Gen.MOutCol.Frame
public import proofs.«01_k».proof.Proof.Gen.MOutColIdeal.Frame
public import proofs.«01_k».proof.Proof.Gen.ReferenceMOutColIdeal
public import proofs.«01_k».proof.Proof.Gen.MOutColIdeal.Value
public import proofs.«01_k».proof.Proof.Gen.ReferenceMOutColIdeal.Run
public import proofs.«01_k».proof.Proof.MOutCol
public import proofs.«01_k».proof.Proof.Gen.HOutCol.Frame
public import proofs.«01_k».proof.Proof.Gen.HOutColIdeal.Frame
public import proofs.«01_k».proof.Proof.Gen.ReferenceHOutColIdeal
public import proofs.«01_k».proof.Proof.Gen.HOutColIdeal.Value
public import proofs.«01_k».proof.Proof.Gen.ReferenceHOutColIdeal.Run
public import proofs.«01_k».proof.Proof.HOutCol
public import proofs.«01_k».proof.Proof.Gen.MPre.Frame
public import proofs.«01_k».proof.Proof.Gen.MPreIdeal.Frame
public import proofs.«01_k».proof.Proof.Gen.ReferenceMPreIdeal
public import proofs.«01_k».proof.Proof.Gen.MPreIdeal.Value
public import proofs.«01_k».proof.Proof.Gen.ReferenceMPreIdeal.Run
public import proofs.«01_k».proof.Proof.MPre
public import Idealize.ShloMosaic.Adequacy
public import Idealize.ShloMosaic.Init

@[expose] public section

noncomputable section

namespace Cert.Proof

open Idealize.ShloMosaic Idealize.ShloMosaic.TcCoe Idealize.SL.Sem

/-- The reference keeps its arguments and leaves every semaphore at zero. -/
theorem frame_reference : Cert.quiescent_ReferenceIdeal := fun m ρ _ =>
  (θ_run Cert.ReferenceIdeal.defs _ _).mono
    (fun r h => ⟨fun c => (h c).2.2.2.2, Idealize.ShloMosaic.sem_eq_zero_of_no_sems (by decide) r.2⟩)
    (Cert.ReferenceIdeal.Value.run (F := Ideal) m ρ)

section Values
variable {m : (ℓ : Loc Cert.KernelIdeal.nD Cert.KernelIdeal.τ Cert.KernelIdeal.sig) → Buf (Elt Ideal) ℓ}
  {V : Valuation Cert.ReferenceIdeal.τ Cert.ReferenceIdeal.sig (Elt Ideal)} {c : Dev Cert.KernelIdeal.nD}
  (F : Mlstm.Finite (KernelIdeal.Scan.aQ m c) (KernelIdeal.Scan.aK m c) (KernelIdeal.Scan.aV m c) (KernelIdeal.Scan.aG m c)
    (KernelIdeal.Scan.aC m c) (KernelIdeal.Scan.aN m c) (KernelIdeal.Scan.aM m c))
  (I : ReferenceIdeal.Scan.Inv (KernelIdeal.Scan.aQ m c) (KernelIdeal.Scan.aK m c) (KernelIdeal.Scan.aV m c) (KernelIdeal.Scan.aG m c)
    (KernelIdeal.Scan.aC m c) (KernelIdeal.Scan.aN m c) (KernelIdeal.Scan.aM m c) V 256)
include F I

theorem same_h : ReferenceIdeal.Value.out_main_v34 V = KernelIdeal.Value.G8 m c := by
  funext x
  obtain ⟨n, y, rfl⟩ : ∃ (n : Fin 16384) (y : Fin 2048), x = ix2 n y := ⟨x 0, x 1, ValueIdx.eq_ix2 x⟩
  obtain ⟨h, e, rfl⟩ : ∃ (h : Fin 4) (e : Fin 512), y = ⟨512 * h + e, by omega⟩ :=
    ⟨⟨y / 512, by omega⟩, ⟨y % 512, by omega⟩, Fin.ext (by show (y : ℕ) = 512 * (y / 512) + y % 512; omega)⟩
  exact (ReferenceIdeal.Scan.exit_h I n h e).trans (KernelIdeal.Scan.out_h F n h e).symm

theorem same_C : ReferenceIdeal.Value.out_main_v35 V = KernelIdeal.Value.G9 m c := by
  funext x
  obtain ⟨h, d, e, rfl⟩ : ∃ (h : Fin 4) (d : Fin 256) (e : Fin 512), x = ix3 h d e := ⟨x 0, x 1, x 2, ValueIdx.eq_ix3 x⟩
  exact (ReferenceIdeal.Scan.exit_C I h d e).trans (KernelIdeal.Scan.out_C F h d e).symm

theorem same_n : ReferenceIdeal.Value.out_main_v36 V = KernelIdeal.Value.G10 m c := by
  funext x
  obtain ⟨h, z, d, rfl⟩ : ∃ (h : Fin 4) (z : Fin 1) (d : Fin 256), x = ix3 h z d := ⟨x 0, x 1, x 2, ValueIdx.eq_ix3 x⟩
  exact (ReferenceIdeal.Scan.exit_n I h z d).trans (KernelIdeal.Scan.out_n F h z d).symm

theorem same_m : ReferenceIdeal.Value.out_main_v38 V = KernelIdeal.Value.G11 m c := by
  funext x
  obtain ⟨h, z, l, rfl⟩ : ∃ (h : Fin 4) (z : Fin 1) (l : Fin 128), x = ix3 h z l := ⟨x 0, x 1, x 2, ValueIdx.eq_ix3 x⟩
  exact (ReferenceIdeal.Scan.exit_m I h z l).trans (KernelIdeal.Scan.out_m F h z l).symm

end Values

/-- Over the extended reals the kernel and the reference end with equal results. -/
theorem algebraic : Cert.algebraic_KernelIdeal_ReferenceIdeal_pre_finite := by
  intro m ρ m' ρ' hp hargs
  refine ⟨KernelIdeal.Value.G8 m, KernelIdeal.Value.G9 m, KernelIdeal.Value.G10 m, KernelIdeal.Value.G11 m,
    Cert.KernelIdeal.Value.run m ρ,
    (θ_run _ _ _).mono (fun r hr c => ?_) (Cert.ReferenceIdeal.Value.run (F := Ideal) m' ρ')⟩
  have F := Cert.Pre_finite.Read.finite _ _ _ _ _ _ _ (hp c)
  obtain ⟨a0, a1, a2, a3, a4, a5, a6⟩ := hargs c
  have I : ReferenceIdeal.Scan.Inv (KernelIdeal.Scan.aQ m c) (KernelIdeal.Scan.aK m c) (KernelIdeal.Scan.aV m c)
      (KernelIdeal.Scan.aG m c) (KernelIdeal.Scan.aC m c) (KernelIdeal.Scan.aN m c) (KernelIdeal.Scan.aM m c)
      (ReferenceIdeal.Value.STEP^[256] (StableHlo.entryContents ReferenceIdeal.Value.preI m' c)) 256 := by
    have F' : Mlstm.Finite (ReferenceIdeal.Scan.aQ m' c) (ReferenceIdeal.Scan.aK m' c) (ReferenceIdeal.Scan.aV m' c)
        (ReferenceIdeal.Scan.aG m' c) (ReferenceIdeal.Scan.aC m' c) (ReferenceIdeal.Scan.aN m' c) (ReferenceIdeal.Scan.aM m' c) := by
      unfold ReferenceIdeal.Scan.aQ ReferenceIdeal.Scan.aK ReferenceIdeal.Scan.aV ReferenceIdeal.Scan.aG ReferenceIdeal.Scan.aC
        ReferenceIdeal.Scan.aN ReferenceIdeal.Scan.aM
      rw [a0, a1, a2, a3, a4, a5, a6]
      exact F
    have I := ReferenceIdeal.Scan.last m' c F'
    unfold ReferenceIdeal.Scan.aQ ReferenceIdeal.Scan.aK ReferenceIdeal.Scan.aV ReferenceIdeal.Scan.aG ReferenceIdeal.Scan.aC
      ReferenceIdeal.Scan.aN ReferenceIdeal.Scan.aM at I
    rw [a0, a1, a2, a3, a4, a5, a6] at I
    exact I
  obtain ⟨h0, h1, h2, h3, hr⟩ := hr c
  exact ⟨h0.trans (same_h F I), h1.trans (same_C F I), h2.trans (same_n F I), h3.trans (same_m F I), hr⟩

theorem claim : Cert.Claim :=
  ⟨Cert.Kernel.Gen.facts, Cert.KernelIdeal.Gen.facts, Cert.ReferenceIdeal.Gen.facts,
    Cert.MIn.Gen.facts, Cert.MInIdeal.Gen.facts, Cert.ReferenceMInIdeal.Gen.facts,
    Cert.HIn.Gen.facts, Cert.HInIdeal.Gen.facts, Cert.ReferenceHInIdeal.Gen.facts,
    Cert.MOut.Gen.facts, Cert.MOutIdeal.Gen.facts, Cert.ReferenceMOutIdeal.Gen.facts,
    Cert.HOut.Gen.facts, Cert.HOutIdeal.Gen.facts, Cert.ReferenceHOutIdeal.Gen.facts,
    Cert.MInCol.Gen.facts, Cert.MInColIdeal.Gen.facts, Cert.ReferenceMInColIdeal.Gen.facts,
    Cert.HInCol.Gen.facts, Cert.HInColIdeal.Gen.facts, Cert.ReferenceHInColIdeal.Gen.facts,
    Cert.MOutCol.Gen.facts, Cert.MOutColIdeal.Gen.facts, Cert.ReferenceMOutColIdeal.Gen.facts,
    Cert.HOutCol.Gen.facts, Cert.HOutColIdeal.Gen.facts, Cert.ReferenceHOutColIdeal.Gen.facts,
    Cert.MPre.Gen.facts, Cert.MPreIdeal.Gen.facts, Cert.ReferenceMPreIdeal.Gen.facts,
    Cert.Pre_finite.Gen.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    fun m ρ _ => Cert.MIn.Gen.frame m ρ, fun m ρ _ => Cert.MInIdeal.Gen.frame m ρ, Cert.ReferenceMInIdeal.Proj.frame,
    fun m ρ _ => Cert.HIn.Gen.frame m ρ, fun m ρ _ => Cert.HInIdeal.Gen.frame m ρ, Cert.ReferenceHInIdeal.Proj.frame,
    fun m ρ _ => Cert.MOut.Gen.frame m ρ, fun m ρ _ => Cert.MOutIdeal.Gen.frame m ρ, Cert.ReferenceMOutIdeal.Proj.frame,
    fun m ρ _ => Cert.HOut.Gen.frame m ρ, fun m ρ _ => Cert.HOutIdeal.Gen.frame m ρ, Cert.ReferenceHOutIdeal.Proj.frame,
    fun m ρ _ => Cert.MInCol.Gen.frame m ρ, fun m ρ _ => Cert.MInColIdeal.Gen.frame m ρ, Cert.ReferenceMInColIdeal.Proj.frame,
    fun m ρ _ => Cert.HInCol.Gen.frame m ρ, fun m ρ _ => Cert.HInColIdeal.Gen.frame m ρ, Cert.ReferenceHInColIdeal.Proj.frame,
    fun m ρ _ => Cert.MOutCol.Gen.frame m ρ, fun m ρ _ => Cert.MOutColIdeal.Gen.frame m ρ, Cert.ReferenceMOutColIdeal.Proj.frame,
    fun m ρ _ => Cert.HOutCol.Gen.frame m ρ, fun m ρ _ => Cert.HOutColIdeal.Gen.frame m ρ, Cert.ReferenceHOutColIdeal.Proj.frame,
    fun m ρ _ => Cert.MPre.Gen.frame m ρ, fun m ρ _ => Cert.MPreIdeal.Gen.frame m ρ, Cert.ReferenceMPreIdeal.Proj.frame,
    trivial, algebraic,
    trivial, Cert.ReferenceMInIdeal.Proj.algebraic,
    trivial, Cert.ReferenceHInIdeal.Proj.algebraic,
    trivial, Cert.ReferenceMOutIdeal.Proj.algebraic,
    trivial, Cert.ReferenceHOutIdeal.Proj.algebraic,
    trivial, Cert.ReferenceMInColIdeal.Proj.algebraic,
    trivial, Cert.ReferenceHInColIdeal.Proj.algebraic,
    trivial, Cert.ReferenceMOutColIdeal.Proj.algebraic,
    trivial, Cert.ReferenceHOutColIdeal.Proj.algebraic,
    trivial, Cert.ReferenceMPreIdeal.Proj.algebraic⟩

end Cert.Proof

end
